-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![8, 1024, 16, 128]⟩ ⟨4, ![8, 2048, 16, 128]⟩ (Layout.meshBlock [2, 2, 2] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![8, 1024, 16, 128]⟩ ⟨4, ![8, 2048, 16, 128]⟩ (Layout.meshBlock [2, 2, 2] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S8x8x16x128 : Shape := ⟨4, ![8, 8, 16, 128]⟩
abbrev S8x1024x16x128 : Shape := ⟨4, ![8, 1024, 16, 128]⟩
abbrev S_ : Shape := ⟨0, ![]⟩

class Facts : Prop where
  bcast_S_S8x8x16x128 : S_.BroadcastsInDim S8x8x16x128 (![] : Fin 0 → Fin S8x8x16x128.rank)
  bcast_S_S8x1024x16x128 : S_.BroadcastsInDim S8x1024x16x128 (![] : Fin 0 → Fin S8x1024x16x128.rank)

variable [Facts]

def fn {F : FTy → Type} [FloatOps F] (main_arg0 : FVec F S8x8x16x128 .f32) (main_arg1 : FVec F S8x1024x16x128 .f32) (main_arg2 : FVec F S8x1024x16x128 .f32) : IVec S8x8x16x128 1 × IVec S8x1024x16x128 1 :=
  let main_v0 : FVec F S8x8x16x128 .f32 := Host.absf main_arg0
  let main_cst : FVec F S_ .f32 := constant S_ .f32 0x7F800000#32
  let main_v1 : FVec F S8x8x16x128 .f32 := broadcastInDim S8x8x16x128 ![] bcast_S_S8x8x16x128 main_cst
  let main_v2 : IVec S8x8x16x128 1 := cmpf .olt main_v0 main_v1
  let main_v3 : FVec F S8x1024x16x128 .f32 := Host.absf main_arg1
  let main_cst_0 : FVec F S_ .f32 := constant S_ .f32 0x7F800000#32
  let main_v4 : FVec F S8x1024x16x128 .f32 := broadcastInDim S8x1024x16x128 ![] bcast_S_S8x1024x16x128 main_cst_0
  let main_v5 : IVec S8x1024x16x128 1 := cmpf .olt main_v3 main_v4
  (main_v2, main_v5)
-- ==== Pre_finite_ReferenceIdeal.lean ====
abbrev S8x8x16x128 : Shape := ⟨4, ![8, 8, 16, 128]⟩
abbrev S8x2048x16x128 : Shape := ⟨4, ![8, 2048, 16, 128]⟩
abbrev S_ : Shape := ⟨0, ![]⟩

class Facts : Prop where
  bcast_S_S8x8x16x128 : S_.BroadcastsInDim S8x8x16x128 (![] : Fin 0 → Fin S8x8x16x128.rank)
  bcast_S_S8x2048x16x128 : S_.BroadcastsInDim S8x2048x16x128 (![] : Fin 0 → Fin S8x2048x16x128.rank)

variable [Facts]

def fn {F : FTy → Type} [FloatOps F] (main_arg0 : FVec F S8x8x16x128 .f32) (main_arg1 : FVec F S8x2048x16x128 .f32) (main_arg2 : FVec F S8x2048x16x128 .f32) : IVec S8x8x16x128 1 × IVec S8x2048x16x128 1 :=
  let main_v0 : FVec F S8x8x16x128 .f32 := Host.absf main_arg0
  let main_cst : FVec F S_ .f32 := constant S_ .f32 0x7F800000#32
  let main_v1 : FVec F S8x8x16x128 .f32 := broadcastInDim S8x8x16x128 ![] bcast_S_S8x8x16x128 main_cst
  let main_v2 : IVec S8x8x16x128 1 := cmpf .olt main_v0 main_v1
  let main_v3 : FVec F S8x2048x16x128 .f32 := Host.absf main_arg1
  let main_cst_0 : FVec F S_ .f32 := constant S_ .f32 0x7F800000#32
  let main_v4 : FVec F S8x2048x16x128 .f32 := broadcastInDim S8x2048x16x128 ![] bcast_S_S8x2048x16x128 main_cst_0
  let main_v5 : IVec S8x2048x16x128 1 := cmpf .olt main_v3 main_v4
  (main_v2, main_v5)
-- ==== Kernel.lean ====
abbrev S8x8x16x128 : Shape := ⟨4, ![8, 8, 16, 128]⟩
abbrev S8x1024x16x128 : Shape := ⟨4, ![8, 1024, 16, 128]⟩
abbrev S4x8x8x128 : Shape := ⟨4, ![4, 8, 8, 128]⟩
abbrev S4x8x1024x128 : Shape := ⟨4, ![4, 8, 1024, 128]⟩
abbrev S12 : Shape := ⟨1, ![12]⟩
abbrev S2x4x4x8x8x128 : Shape := ⟨6, ![2, 4, 4, 8, 8, 128]⟩
abbrev S2x4x4x2x8x8 : Shape := ⟨6, ![2, 4, 4, 2, 8, 8]⟩
abbrev S4x7 : Shape := ⟨2, ![4, 7]⟩
abbrev S2x4x4 : Shape := ⟨3, ![2, 4, 4]⟩
abbrev S_ : Shape := ⟨0, ![]⟩
abbrev S1 : Shape := ⟨1, ![1]⟩
abbrev S1x8x1024x128 : Shape := ⟨4, ![1, 8, 1024, 128]⟩
abbrev S8x1024x128 : Shape := ⟨3, ![8, 1024, 128]⟩
abbrev S8x1024x1x128 : Shape := ⟨4, ![8, 1024, 1, 128]⟩
abbrev S1x8x8x128 : Shape := ⟨4, ![1, 8, 8, 128]⟩
abbrev S8x8x128 : Shape := ⟨3, ![8, 8, 128]⟩
abbrev S8x8x1x128 : Shape := ⟨4, ![8, 8, 1, 128]⟩
abbrev S8x8x1024 : Shape := ⟨3, ![8, 8, 1024]⟩
abbrev S8x8 : Shape := ⟨2, ![8, 8]⟩
abbrev S8x8x1 : Shape := ⟨3, ![8, 8, 1]⟩
abbrev S1x1x1x8x8x128 : Shape := ⟨6, ![1, 1, 1, 8, 8, 128]⟩
abbrev S1x1x1x1x8x8 : Shape := ⟨6, ![1, 1, 1, 1, 8, 8]⟩
abbrev S1x1 : Shape := ⟨2, ![1, 1]⟩
abbrev S1x1x1 : Shape := ⟨3, ![1, 1, 1]⟩
abbrev S1x1x1x2x8x8 : Shape := ⟨6, ![1, 1, 1, 2, 8, 8]⟩
abbrev S1x2x8x8 : Shape := ⟨4, ![1, 2, 8, 8]⟩
abbrev S2x4x1x1x8x8 : Shape := ⟨6, ![2, 4, 1, 1, 8, 8]⟩
abbrev S2x4x1x8x8 : Shape := ⟨5, ![2, 4, 1, 8, 8]⟩
abbrev S1x4x1x8x8 : Shape := ⟨5, ![1, 4, 1, 8, 8]⟩
abbrev S4x1x8x8 : Shape := ⟨4, ![4, 1, 8, 8]⟩
abbrev S2x4x1x8x8x128 : Shape := ⟨6, ![2, 4, 1, 8, 8, 128]⟩
abbrev S1x4x1x8x8x128 : Shape := ⟨6, ![1, 4, 1, 8, 8, 128]⟩
abbrev S4x1x8x8x128 : Shape := ⟨5, ![4, 1, 8, 8, 128]⟩
abbrev S4x1x8x8x1 : Shape := ⟨5, ![4, 1, 8, 8, 1]⟩
abbrev S1x1x8x8x128 : Shape := ⟨5, ![1, 1, 8, 8, 128]⟩

abbrev nBuf : Space → Nat
  | .hbm => 4
  | .vmem => 6
  | .smem => 0
  | _ => 0

abbrev bufTy : (tb : Table) → Fin (tcTables nBuf tb) → BufTy
  | .hbm, ⟨0, _⟩ => ⟨S8x8x16x128, .f32⟩
  | .hbm, ⟨1, _⟩ => ⟨S8x1024x16x128, .f32⟩
  | .hbm, ⟨2, _⟩ => ⟨S8x1024x16x128, .f32⟩
  | .hbm, ⟨3, _⟩ => ⟨S8x8x16x128, .f32⟩
  | .local _ .vmem, ⟨0, _⟩ => ⟨S8x8x16x128, .f32⟩
  | .local _ .vmem, ⟨1, _⟩ => ⟨S4x8x8x128, .f32⟩
  | .local _ .vmem, ⟨2, _⟩ => ⟨S4x8x1024x128, .f32⟩
  | .local _ .vmem, ⟨3, _⟩ => ⟨S4x8x1024x128, .f32⟩
  | .local _ .vmem, ⟨4, _⟩ => ⟨S2x4x4x8x8x128, .bf16⟩
  | .local _ .vmem, ⟨5, _⟩ => ⟨S2x4x4x2x8x8, .f32⟩
  | _, _ => ⟨S8x8x16x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 133 → Bool
  | ⟨i, _⟩ => dmaSemScopedAt i

abbrev sig : RefSig :=
  (ofTc nBuf bufTy 1 133 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch4 : Ref sig .tc := ⟨.vmem, 4, rfl⟩
abbrev cc0_scratch5 : Ref sig .tc := ⟨.vmem, 5, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let c4_i32_17 : BitVec 32 := 4#32
  let v24 : BitVec 32 := Scalar.muli v12 c4_i32_17
  let v25 : BitVec 32 := Scalar.addi c0_i32 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v26 : BitVec 32 := Scalar.muli v5 c2_i32_18
  let v27 : BitVec 32 := Scalar.addi v25 v26
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v28 : BitVec 32 := Scalar.muli v8 c1_i32_19
  let v29 : BitVec 32 := Scalar.addi v27 v28
  v29.toNat
def k0_dev2 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v30 : BitVec 32 := Scalar.muli v2 c4_i32_21
  let v31 : BitVec 32 := Scalar.addi c0_i32_22 v30
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_23 : BitVec 32 := 2#32
  let v32 : BitVec 32 := Scalar.muli v13 c2_i32_23
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v34 : BitVec 32 := Scalar.muli v8 c1_i32_24
  let v35 : BitVec 32 := Scalar.addi v33 v34
  v35.toNat
def k0_dev3 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v36 : BitVec 32 := Scalar.muli v2 c4_i32_26
  let v37 : BitVec 32 := Scalar.addi c0_i32_27 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v38 : BitVec 32 := Scalar.muli v5 c2_i32_28
  let v39 : BitVec 32 := Scalar.addi v37 v38
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_29 : BitVec 32 := 1#32
  let v40 : BitVec 32 := Scalar.muli v14 c1_i32_29
  let v41 : BitVec 32 := Scalar.addi v39 v40
  v41.toNat
def k0_dev4 (d0 : Dev nD) : Nat :=
  let c0_i32_32 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_31 : BitVec 32 := 4#32
  let v42 : BitVec 32 := Scalar.muli v15 c4_i32_31
  let v43 : BitVec 32 := Scalar.addi c0_i32_32 v42
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_33 : BitVec 32 := 2#32
  let v44 : BitVec 32 := Scalar.muli v16 c2_i32_33
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v46 : BitVec 32 := Scalar.muli v8 c1_i32_34
  let v47 : BitVec 32 := Scalar.addi v45 v46
  v47.toNat
def k0_dev5 (d0 : Dev nD) : Nat :=
  let c0_i32_37 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_36 : BitVec 32 := 4#32
  let v48 : BitVec 32 := Scalar.muli v17 c4_i32_36
  let v49 : BitVec 32 := Scalar.addi c0_i32_37 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v50 : BitVec 32 := Scalar.muli v5 c2_i32_38
  let v51 : BitVec 32 := Scalar.addi v49 v50
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let c1_i32_39 : BitVec 32 := 1#32
  let v52 : BitVec 32 := Scalar.muli v18 c1_i32_39
  let v53 : BitVec 32 := Scalar.addi v51 v52
  v53.toNat
def k0_dev6 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_41 : BitVec 32 := 4#32
  let v54 : BitVec 32 := Scalar.muli v2 c4_i32_41
  let v55 : BitVec 32 := Scalar.addi c0_i32_42 v54
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_11 v5
  let c2_i32_43 : BitVec 32 := 2#32
  let v56 : BitVec 32 := Scalar.muli v19 c2_i32_43
  let v57 : BitVec 32 := Scalar.addi v55 v56
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let c1_i32_44 : BitVec 32 := 1#32
  let v58 : BitVec 32 := Scalar.muli v20 c1_i32_44
  let v59 : BitVec 32 := Scalar.addi v57 v58
  v59.toNat
def k0_dev7 (d0 : Dev nD) : Nat :=
  let c0_i32_47 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_13 v2
  let c4_i32_46 : BitVec 32 := 4#32
  let v60 : BitVec 32 := Scalar.muli v21 c4_i32_46
  let v61 : BitVec 32 := Scalar.addi c0_i32_47 v60
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_14 v5
  let c2_i32_48 : BitVec 32 := 2#32
  let v62 : BitVec 32 := Scalar.muli v22 c2_i32_48
  let v63 : BitVec 32 := Scalar.addi v61 v62
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_15 v8
  let c1_i32_49 : BitVec 32 := 1#32
  let v64 : BitVec 32 := Scalar.muli v23 c1_i32_49
  let v65 : BitVec 32 := Scalar.addi v63 v64
  v65.toNat
def k0_off1 (d0 : Dev nD) (c0_i32_51 : BitVec 32) : Fin 4 → Nat :=
  let c0_i32_78 : BitVec 32 := 0#32
  let c0_i32_79 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c4_i32_50 : BitVec 32 := 4#32
  let v66 : BitVec 32 := Scalar.muli v10 c4_i32_50
  let v67 : BitVec 32 := Scalar.addi v66 c0_i32_51
  let c0_i32_80 : BitVec 32 := 0#32
  ![0, 0, v67.toNat, 0]
def k0_off2 (d0 : Dev nD) (c0_i32_55 : BitVec 32) : Fin 4 → Nat :=
  let c0_i32_93 : BitVec 32 := 0#32
  let c0_i32_94 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c4_i32_54 : BitVec 32 := 4#32
  let v70 : BitVec 32 := Scalar.muli v10 c4_i32_54
  let v71 : BitVec 32 := Scalar.addi v70 c0_i32_55
  let c0_i32_95 : BitVec 32 := 0#32
  ![0, 0, v71.toNat, 0]
def k0_off3 (d0 : Dev nD) : Fin 6 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v201 : Index := Scalar.indexCast v5
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v202 : Index := Scalar.indexCast v10
  let c0_201 : Index := 0#32
  let c0_202 : Index := 0#32
  let c0_203 : Index := 0#32
  let c0_204 : Index := 0#32
  ![v201.toNat, v202.toNat, 0, 0, 0, 0]
def k0_off4 (d0 : Dev nD) : Fin 6 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v206 : Index := Scalar.indexCast v5
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v207 : Index := Scalar.indexCast v10
  let c0_205 : Index := 0#32
  let c0_206 : Index := 0#32
  let c0_207 : Index := 0#32
  let c0_208 : Index := 0#32
  ![v206.toNat, v207.toNat, 0, 0, 0, 0]
def k0_off5 (d0 : Dev nD) : Fin 6 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v211 : Index := Scalar.indexCast v5
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v212 : Index := Scalar.indexCast v10
  let c0_209 : Index := 0#32
  let c1 : Index := 1#32
  let c0_210 : Index := 0#32
  let c0_211 : Index := 0#32
  ![v211.toNat, v212.toNat, 0, 1, 0, 0]
def k0_off6 (d0 : Dev nD) : Fin 3 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_213 : BitVec 32 := 0#32
  ![v5.toNat, v10.toNat, 0]
def k0_off7 (d0 : Dev nD) : Fin 6 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_220 : BitVec 32 := 0#32
  let c0_i32_221 : BitVec 32 := 0#32
  let c0_i32_222 : BitVec 32 := 0#32
  let c0_i32_223 : BitVec 32 := 0#32
  ![v5.toNat, v10.toNat, 0, 0, 0, 0]
def k0_dev8 (d0 : Dev nD) : Nat :=
  let c0_i32_217 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let c4_i32_216 : BitVec 32 := 4#32
  let v216 : BitVec 32 := Scalar.muli v12 c4_i32_216
  let v217 : BitVec 32 := Scalar.addi c0_i32_217 v216
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_218 : BitVec 32 := 2#32
  let v218 : BitVec 32 := Scalar.muli v5 c2_i32_218
  let v219 : BitVec 32 := Scalar.addi v217 v218
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_219 : BitVec 32 := 1#32
  let v220 : BitVec 32 := Scalar.muli v8 c1_i32_219
  let v221 : BitVec 32 := Scalar.addi v219 v220
  v221.toNat
def k0_off8 (d0 : Dev nD) : Fin 6 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_235 : BitVec 32 := 0#32
  let c0_i32_236 : BitVec 32 := 0#32
  let c0_i32_237 : BitVec 32 := 0#32
  let c0_i32_238 : BitVec 32 := 0#32
  ![v5.toNat, v10.toNat, 0, 0, 0, 0]
def k0_dev9 (d0 : Dev nD) : Nat :=
  let c0_i32_232 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let c4_i32_231 : BitVec 32 := 4#32
  let v230 : BitVec 32 := Scalar.muli v12 c4_i32_231
  let v231 : BitVec 32 := Scalar.addi c0_i32_232 v230
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_233 : BitVec 32 := 2#32
  let v232 : BitVec 32 := Scalar.muli v5 c2_i32_233
  let v233 : BitVec 32 := Scalar.addi v231 v232
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_234 : BitVec 32 := 1#32
  let v234 : BitVec 32 := Scalar.muli v8 c1_i32_234
  let v235 : BitVec 32 := Scalar.addi v233 v234
  v235.toNat
def k0_dev10 (d0 : Dev nD) : Nat :=
  let c0_i32_247 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_246 : BitVec 32 := 4#32
  let v244 : BitVec 32 := Scalar.muli v2 c4_i32_246
  let v245 : BitVec 32 := Scalar.addi c0_i32_247 v244
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_248 : BitVec 32 := 2#32
  let v246 : BitVec 32 := Scalar.muli v13 c2_i32_248
  let v247 : BitVec 32 := Scalar.addi v245 v246
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_249 : BitVec 32 := 1#32
  let v248 : BitVec 32 := Scalar.muli v8 c1_i32_249
  let v249 : BitVec 32 := Scalar.addi v247 v248
  v249.toNat
def k0_dev11 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v258 : BitVec 32 := Scalar.muli v2 c4_i32_261
  let v259 : BitVec 32 := Scalar.addi c0_i32_262 v258
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_263 : BitVec 32 := 2#32
  let v260 : BitVec 32 := Scalar.muli v13 c2_i32_263
  let v261 : BitVec 32 := Scalar.addi v259 v260
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v262 : BitVec 32 := Scalar.muli v8 c1_i32_264
  let v263 : BitVec 32 := Scalar.addi v261 v262
  v263.toNat
def k0_dev12 (d0 : Dev nD) : Nat :=
  let c0_i32_277 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_276 : BitVec 32 := 4#32
  let v272 : BitVec 32 := Scalar.muli v2 c4_i32_276
  let v273 : BitVec 32 := Scalar.addi c0_i32_277 v272
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_278 : BitVec 32 := 2#32
  let v274 : BitVec 32 := Scalar.muli v5 c2_i32_278
  let v275 : BitVec 32 := Scalar.addi v273 v274
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_279 : BitVec 32 := 1#32
  let v276 : BitVec 32 := Scalar.muli v14 c1_i32_279
  let v277 : BitVec 32 := Scalar.addi v275 v276
  v277.toNat
def k0_dev13 (d0 : Dev nD) : Nat :=
  let c0_i32_292 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_291 : BitVec 32 := 4#32
  let v286 : BitVec 32 := Scalar.muli v2 c4_i32_291
  let v287 : BitVec 32 := Scalar.addi c0_i32_292 v286
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_293 : BitVec 32 := 2#32
  let v288 : BitVec 32 := Scalar.muli v5 c2_i32_293
  let v289 : BitVec 32 := Scalar.addi v287 v288
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_294 : BitVec 32 := 1#32
  let v290 : BitVec 32 := Scalar.muli v14 c1_i32_294
  let v291 : BitVec 32 := Scalar.addi v289 v290
  v291.toNat
def k0_dev14 (d0 : Dev nD) : Nat :=
  let c0_i32_307 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_306 : BitVec 32 := 4#32
  let v300 : BitVec 32 := Scalar.muli v15 c4_i32_306
  let v301 : BitVec 32 := Scalar.addi c0_i32_307 v300
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_308 : BitVec 32 := 2#32
  let v302 : BitVec 32 := Scalar.muli v16 c2_i32_308
  let v303 : BitVec 32 := Scalar.addi v301 v302
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_309 : BitVec 32 := 1#32
  let v304 : BitVec 32 := Scalar.muli v8 c1_i32_309
  let v305 : BitVec 32 := Scalar.addi v303 v304
  v305.toNat
def k0_dev15 (d0 : Dev nD) : Nat :=
  let c0_i32_322 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_321 : BitVec 32 := 4#32
  let v314 : BitVec 32 := Scalar.muli v15 c4_i32_321
  let v315 : BitVec 32 := Scalar.addi c0_i32_322 v314
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_323 : BitVec 32 := 2#32
  let v316 : BitVec 32 := Scalar.muli v16 c2_i32_323
  let v317 : BitVec 32 := Scalar.addi v315 v316
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_324 : BitVec 32 := 1#32
  let v318 : BitVec 32 := Scalar.muli v8 c1_i32_324
  let v319 : BitVec 32 := Scalar.addi v317 v318
  v319.toNat
def k0_dev16 (d0 : Dev nD) : Nat :=
  let c0_i32_337 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_336 : BitVec 32 := 4#32
  let v328 : BitVec 32 := Scalar.muli v17 c4_i32_336
  let v329 : BitVec 32 := Scalar.addi c0_i32_337 v328
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_338 : BitVec 32 := 2#32
  let v330 : BitVec 32 := Scalar.muli v5 c2_i32_338
  let v331 : BitVec 32 := Scalar.addi v329 v330
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let c1_i32_339 : BitVec 32 := 1#32
  let v332 : BitVec 32 := Scalar.muli v18 c1_i32_339
  let v333 : BitVec 32 := Scalar.addi v331 v332
  v333.toNat
def k0_dev17 (d0 : Dev nD) : Nat :=
  let c0_i32_352 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_351 : BitVec 32 := 4#32
  let v342 : BitVec 32 := Scalar.muli v17 c4_i32_351
  let v343 : BitVec 32 := Scalar.addi c0_i32_352 v342
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_353 : BitVec 32 := 2#32
  let v344 : BitVec 32 := Scalar.muli v5 c2_i32_353
  let v345 : BitVec 32 := Scalar.addi v343 v344
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let c1_i32_354 : BitVec 32 := 1#32
  let v346 : BitVec 32 := Scalar.muli v18 c1_i32_354
  let v347 : BitVec 32 := Scalar.addi v345 v346
  v347.toNat
def k0_dev18 (d0 : Dev nD) : Nat :=
  let c0_i32_367 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_366 : BitVec 32 := 4#32
  let v356 : BitVec 32 := Scalar.muli v2 c4_i32_366
  let v357 : BitVec 32 := Scalar.addi c0_i32_367 v356
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_11 v5
  let c2_i32_368 : BitVec 32 := 2#32
  let v358 : BitVec 32 := Scalar.muli v19 c2_i32_368
  let v359 : BitVec 32 := Scalar.addi v357 v358
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let c1_i32_369 : BitVec 32 := 1#32
  let v360 : BitVec 32 := Scalar.muli v20 c1_i32_369
  let v361 : BitVec 32 := Scalar.addi v359 v360
  v361.toNat
def k0_dev19 (d0 : Dev nD) : Nat :=
  let c0_i32_382 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_381 : BitVec 32 := 4#32
  let v370 : BitVec 32 := Scalar.muli v2 c4_i32_381
  let v371 : BitVec 32 := Scalar.addi c0_i32_382 v370
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_11 v5
  let c2_i32_383 : BitVec 32 := 2#32
  let v372 : BitVec 32 := Scalar.muli v19 c2_i32_383
  let v373 : BitVec 32 := Scalar.addi v371 v372
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let c1_i32_384 : BitVec 32 := 1#32
  let v374 : BitVec 32 := Scalar.muli v20 c1_i32_384
  let v375 : BitVec 32 := Scalar.addi v373 v374
  v375.toNat
def k0_dev20 (d0 : Dev nD) : Nat :=
  let c0_i32_397 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_13 v2
  let c4_i32_396 : BitVec 32 := 4#32
  let v384 : BitVec 32 := Scalar.muli v21 c4_i32_396
  let v385 : BitVec 32 := Scalar.addi c0_i32_397 v384
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_14 v5
  let c2_i32_398 : BitVec 32 := 2#32
  let v386 : BitVec 32 := Scalar.muli v22 c2_i32_398
  let v387 : BitVec 32 := Scalar.addi v385 v386
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_15 v8
  let c1_i32_399 : BitVec 32 := 1#32
  let v388 : BitVec 32 := Scalar.muli v23 c1_i32_399
  let v389 : BitVec 32 := Scalar.addi v387 v388
  v389.toNat
def k0_dev21 (d0 : Dev nD) : Nat :=
  let c0_i32_412 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_13 v2
  let c4_i32_411 : BitVec 32 := 4#32
  let v398 : BitVec 32 := Scalar.muli v21 c4_i32_411
  let v399 : BitVec 32 := Scalar.addi c0_i32_412 v398
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_14 v5
  let c2_i32_413 : BitVec 32 := 2#32
  let v400 : BitVec 32 := Scalar.muli v22 c2_i32_413
  let v401 : BitVec 32 := Scalar.addi v399 v400
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_15 v8
  let c1_i32_414 : BitVec 32 := 1#32
  let v402 : BitVec 32 := Scalar.muli v23 c1_i32_414
  let v403 : BitVec 32 := Scalar.addi v401 v402
  v403.toNat
def k0_off9 (d0 : Dev nD) : Fin 6 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v451 : Index := Scalar.indexCast v5
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v452 : Index := Scalar.indexCast v10
  let c1_464 : Index := 1#32
  let c0_465 : Index := 0#32
  let c0_466 : Index := 0#32
  let c0_467 : Index := 0#32
  ![v451.toNat, v452.toNat, 1, 0, 0, 0]
def k0_off10 (d0 : Dev nD) : Fin 6 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v456 : Index := Scalar.indexCast v5
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v457 : Index := Scalar.indexCast v10
  let c1_468 : Index := 1#32
  let c0_469 : Index := 0#32
  let c0_470 : Index := 0#32
  let c0_471 : Index := 0#32
  ![v456.toNat, v457.toNat, 1, 0, 0, 0]
def k0_off11 (d0 : Dev nD) : Fin 6 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v461 : Index := Scalar.indexCast v5
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v462 : Index := Scalar.indexCast v10
  let c1_472 : Index := 1#32
  let c1_473 : Index := 1#32
  let c0_474 : Index := 0#32
  let c0_475 : Index := 0#32
  ![v461.toNat, v462.toNat, 1, 1, 0, 0]
def k0_off12 (d0 : Dev nD) : Fin 3 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c1_i32_476 : BitVec 32 := 1#32
  ![v5.toNat, v10.toNat, 1]
def k0_off13 (d0 : Dev nD) : Fin 6 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c1_i32_483 : BitVec 32 := 1#32
  let c0_i32_484 : BitVec 32 := 0#32
  let c0_i32_485 : BitVec 32 := 0#32
  let c0_i32_486 : BitVec 32 := 0#32
  ![v5.toNat, v10.toNat, 1, 0, 0, 0]
def k0_dev22 (d0 : Dev nD) : Nat :=
  let c0_i32_480 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let c4_i32_479 : BitVec 32 := 4#32
  let v466 : BitVec 32 := Scalar.muli v12 c4_i32_479
  let v467 : BitVec 32 := Scalar.addi c0_i32_480 v466
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_481 : BitVec 32 := 2#32
  let v468 : BitVec 32 := Scalar.muli v5 c2_i32_481
  let v469 : BitVec 32 := Scalar.addi v467 v468
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_482 : BitVec 32 := 1#32
  let v470 : BitVec 32 := Scalar.muli v8 c1_i32_482
  let v471 : BitVec 32 := Scalar.addi v469 v470
  v471.toNat
def k0_off14 (d0 : Dev nD) : Fin 6 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c1_i32_498 : BitVec 32 := 1#32
  let c0_i32_499 : BitVec 32 := 0#32
  let c0_i32_500 : BitVec 32 := 0#32
  let c0_i32_501 : BitVec 32 := 0#32
  ![v5.toNat, v10.toNat, 1, 0, 0, 0]
def k0_dev23 (d0 : Dev nD) : Nat :=
  let c0_i32_495 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let c4_i32_494 : BitVec 32 := 4#32
  let v480 : BitVec 32 := Scalar.muli v12 c4_i32_494
  let v481 : BitVec 32 := Scalar.addi c0_i32_495 v480
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_496 : BitVec 32 := 2#32
  let v482 : BitVec 32 := Scalar.muli v5 c2_i32_496
  let v483 : BitVec 32 := Scalar.addi v481 v482
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_497 : BitVec 32 := 1#32
  let v484 : BitVec 32 := Scalar.muli v8 c1_i32_497
  let v485 : BitVec 32 := Scalar.addi v483 v484
  v485.toNat
def k0_dev24 (d0 : Dev nD) : Nat :=
  let c0_i32_510 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_509 : BitVec 32 := 4#32
  let v494 : BitVec 32 := Scalar.muli v2 c4_i32_509
  let v495 : BitVec 32 := Scalar.addi c0_i32_510 v494
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_511 : BitVec 32 := 2#32
  let v496 : BitVec 32 := Scalar.muli v13 c2_i32_511
  let v497 : BitVec 32 := Scalar.addi v495 v496
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_512 : BitVec 32 := 1#32
  let v498 : BitVec 32 := Scalar.muli v8 c1_i32_512
  let v499 : BitVec 32 := Scalar.addi v497 v498
  v499.toNat
def k0_dev25 (d0 : Dev nD) : Nat :=
  let c0_i32_525 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_524 : BitVec 32 := 4#32
  let v508 : BitVec 32 := Scalar.muli v2 c4_i32_524
  let v509 : BitVec 32 := Scalar.addi c0_i32_525 v508
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_526 : BitVec 32 := 2#32
  let v510 : BitVec 32 := Scalar.muli v13 c2_i32_526
  let v511 : BitVec 32 := Scalar.addi v509 v510
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_527 : BitVec 32 := 1#32
  let v512 : BitVec 32 := Scalar.muli v8 c1_i32_527
  let v513 : BitVec 32 := Scalar.addi v511 v512
  v513.toNat
def k0_dev26 (d0 : Dev nD) : Nat :=
  let c0_i32_540 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_539 : BitVec 32 := 4#32
  let v522 : BitVec 32 := Scalar.muli v2 c4_i32_539
  let v523 : BitVec 32 := Scalar.addi c0_i32_540 v522
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_541 : BitVec 32 := 2#32
  let v524 : BitVec 32 := Scalar.muli v5 c2_i32_541
  let v525 : BitVec 32 := Scalar.addi v523 v524
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_542 : BitVec 32 := 1#32
  let v526 : BitVec 32 := Scalar.muli v14 c1_i32_542
  let v527 : BitVec 32 := Scalar.addi v525 v526
  v527.toNat
def k0_dev27 (d0 : Dev nD) : Nat :=
  let c0_i32_555 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_554 : BitVec 32 := 4#32
  let v536 : BitVec 32 := Scalar.muli v2 c4_i32_554
  let v537 : BitVec 32 := Scalar.addi c0_i32_555 v536
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_556 : BitVec 32 := 2#32
  let v538 : BitVec 32 := Scalar.muli v5 c2_i32_556
  let v539 : BitVec 32 := Scalar.addi v537 v538
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_557 : BitVec 32 := 1#32
  let v540 : BitVec 32 := Scalar.muli v14 c1_i32_557
  let v541 : BitVec 32 := Scalar.addi v539 v540
  v541.toNat
def k0_dev28 (d0 : Dev nD) : Nat :=
  let c0_i32_570 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_569 : BitVec 32 := 4#32
  let v550 : BitVec 32 := Scalar.muli v15 c4_i32_569
  let v551 : BitVec 32 := Scalar.addi c0_i32_570 v550
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_571 : BitVec 32 := 2#32
  let v552 : BitVec 32 := Scalar.muli v16 c2_i32_571
  let v553 : BitVec 32 := Scalar.addi v551 v552
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_572 : BitVec 32 := 1#32
  let v554 : BitVec 32 := Scalar.muli v8 c1_i32_572
  let v555 : BitVec 32 := Scalar.addi v553 v554
  v555.toNat
def k0_dev29 (d0 : Dev nD) : Nat :=
  let c0_i32_585 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_584 : BitVec 32 := 4#32
  let v564 : BitVec 32 := Scalar.muli v15 c4_i32_584
  let v565 : BitVec 32 := Scalar.addi c0_i32_585 v564
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_586 : BitVec 32 := 2#32
  let v566 : BitVec 32 := Scalar.muli v16 c2_i32_586
  let v567 : BitVec 32 := Scalar.addi v565 v566
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_587 : BitVec 32 := 1#32
  let v568 : BitVec 32 := Scalar.muli v8 c1_i32_587
  let v569 : BitVec 32 := Scalar.addi v567 v568
  v569.toNat
def k0_dev30 (d0 : Dev nD) : Nat :=
  let c0_i32_600 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_599 : BitVec 32 := 4#32
  let v578 : BitVec 32 := Scalar.muli v17 c4_i32_599
  let v579 : BitVec 32 := Scalar.addi c0_i32_600 v578
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_601 : BitVec 32 := 2#32
  let v580 : BitVec 32 := Scalar.muli v5 c2_i32_601
  let v581 : BitVec 32 := Scalar.addi v579 v580
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let c1_i32_602 : BitVec 32 := 1#32
  let v582 : BitVec 32 := Scalar.muli v18 c1_i32_602
  let v583 : BitVec 32 := Scalar.addi v581 v582
  v583.toNat
def k0_dev31 (d0 : Dev nD) : Nat :=
  let c0_i32_615 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_614 : BitVec 32 := 4#32
  let v592 : BitVec 32 := Scalar.muli v17 c4_i32_614
  let v593 : BitVec 32 := Scalar.addi c0_i32_615 v592
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_616 : BitVec 32 := 2#32
  let v594 : BitVec 32 := Scalar.muli v5 c2_i32_616
  let v595 : BitVec 32 := Scalar.addi v593 v594
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let c1_i32_617 : BitVec 32 := 1#32
  let v596 : BitVec 32 := Scalar.muli v18 c1_i32_617
  let v597 : BitVec 32 := Scalar.addi v595 v596
  v597.toNat
def k0_dev32 (d0 : Dev nD) : Nat :=
  let c0_i32_630 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_629 : BitVec 32 := 4#32
  let v606 : BitVec 32 := Scalar.muli v2 c4_i32_629
  let v607 : BitVec 32 := Scalar.addi c0_i32_630 v606
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_11 v5
  let c2_i32_631 : BitVec 32 := 2#32
  let v608 : BitVec 32 := Scalar.muli v19 c2_i32_631
  let v609 : BitVec 32 := Scalar.addi v607 v608
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let c1_i32_632 : BitVec 32 := 1#32
  let v610 : BitVec 32 := Scalar.muli v20 c1_i32_632
  let v611 : BitVec 32 := Scalar.addi v609 v610
  v611.toNat
def k0_dev33 (d0 : Dev nD) : Nat :=
  let c0_i32_645 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_644 : BitVec 32 := 4#32
  let v620 : BitVec 32 := Scalar.muli v2 c4_i32_644
  let v621 : BitVec 32 := Scalar.addi c0_i32_645 v620
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_11 v5
  let c2_i32_646 : BitVec 32 := 2#32
  let v622 : BitVec 32 := Scalar.muli v19 c2_i32_646
  let v623 : BitVec 32 := Scalar.addi v621 v622
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let c1_i32_647 : BitVec 32 := 1#32
  let v624 : BitVec 32 := Scalar.muli v20 c1_i32_647
  let v625 : BitVec 32 := Scalar.addi v623 v624
  v625.toNat
def k0_dev34 (d0 : Dev nD) : Nat :=
  let c0_i32_660 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_13 v2
  let c4_i32_659 : BitVec 32 := 4#32
  let v634 : BitVec 32 := Scalar.muli v21 c4_i32_659
  let v635 : BitVec 32 := Scalar.addi c0_i32_660 v634
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_14 v5
  let c2_i32_661 : BitVec 32 := 2#32
  let v636 : BitVec 32 := Scalar.muli v22 c2_i32_661
  let v637 : BitVec 32 := Scalar.addi v635 v636
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_15 v8
  let c1_i32_662 : BitVec 32 := 1#32
  let v638 : BitVec 32 := Scalar.muli v23 c1_i32_662
  let v639 : BitVec 32 := Scalar.addi v637 v638
  v639.toNat
def k0_dev35 (d0 : Dev nD) : Nat :=
  let c0_i32_675 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_13 v2
  let c4_i32_674 : BitVec 32 := 4#32
  let v648 : BitVec 32 := Scalar.muli v21 c4_i32_674
  let v649 : BitVec 32 := Scalar.addi c0_i32_675 v648
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_14 v5
  let c2_i32_676 : BitVec 32 := 2#32
  let v650 : BitVec 32 := Scalar.muli v22 c2_i32_676
  let v651 : BitVec 32 := Scalar.addi v649 v650
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_15 v8
  let c1_i32_677 : BitVec 32 := 1#32
  let v652 : BitVec 32 := Scalar.muli v23 c1_i32_677
  let v653 : BitVec 32 := Scalar.addi v651 v652
  v653.toNat
def k0_off15 (d0 : Dev nD) : Fin 6 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v701 : Index := Scalar.indexCast v5
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v702 : Index := Scalar.indexCast v10
  let c2_726 : Index := 2#32
  let c0_727 : Index := 0#32
  let c0_728 : Index := 0#32
  let c0_729 : Index := 0#32
  ![v701.toNat, v702.toNat, 2, 0, 0, 0]
def k0_off16 (d0 : Dev nD) : Fin 6 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v706 : Index := Scalar.indexCast v5
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v707 : Index := Scalar.indexCast v10
  let c2_730 : Index := 2#32
  let c0_731 : Index := 0#32
  let c0_732 : Index := 0#32
  let c0_733 : Index := 0#32
  ![v706.toNat, v707.toNat, 2, 0, 0, 0]
def k0_off17 (d0 : Dev nD) : Fin 6 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v711 : Index := Scalar.indexCast v5
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v712 : Index := Scalar.indexCast v10
  let c2_734 : Index := 2#32
  let c1_735 : Index := 1#32
  let c0_736 : Index := 0#32
  let c0_737 : Index := 0#32
  ![v711.toNat, v712.toNat, 2, 1, 0, 0]
def k0_off18 (d0 : Dev nD) : Fin 3 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c2_i32_738 : BitVec 32 := 2#32
  ![v5.toNat, v10.toNat, 2]
def k0_off19 (d0 : Dev nD) : Fin 6 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c2_i32_745 : BitVec 32 := 2#32
  let c0_i32_746 : BitVec 32 := 0#32
  let c0_i32_747 : BitVec 32 := 0#32
  let c0_i32_748 : BitVec 32 := 0#32
  ![v5.toNat, v10.toNat, 2, 0, 0, 0]
def k0_dev36 (d0 : Dev nD) : Nat :=
  let c0_i32_742 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let c4_i32_741 : BitVec 32 := 4#32
  let v716 : BitVec 32 := Scalar.muli v12 c4_i32_741
  let v717 : BitVec 32 := Scalar.addi c0_i32_742 v716
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_743 : BitVec 32 := 2#32
  let v718 : BitVec 32 := Scalar.muli v5 c2_i32_743
  let v719 : BitVec 32 := Scalar.addi v717 v718
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_744 : BitVec 32 := 1#32
  let v720 : BitVec 32 := Scalar.muli v8 c1_i32_744
  let v721 : BitVec 32 := Scalar.addi v719 v720
  v721.toNat
def k0_off20 (d0 : Dev nD) : Fin 6 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c2_i32_760 : BitVec 32 := 2#32
  let c0_i32_761 : BitVec 32 := 0#32
  let c0_i32_762 : BitVec 32 := 0#32
  let c0_i32_763 : BitVec 32 := 0#32
  ![v5.toNat, v10.toNat, 2, 0, 0, 0]
def k0_dev37 (d0 : Dev nD) : Nat :=
  let c0_i32_757 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let c4_i32_756 : BitVec 32 := 4#32
  let v730 : BitVec 32 := Scalar.muli v12 c4_i32_756
  let v731 : BitVec 32 := Scalar.addi c0_i32_757 v730
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_758 : BitVec 32 := 2#32
  let v732 : BitVec 32 := Scalar.muli v5 c2_i32_758
  let v733 : BitVec 32 := Scalar.addi v731 v732
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_759 : BitVec 32 := 1#32
  let v734 : BitVec 32 := Scalar.muli v8 c1_i32_759
  let v735 : BitVec 32 := Scalar.addi v733 v734
  v735.toNat
def k0_dev38 (d0 : Dev nD) : Nat :=
  let c0_i32_772 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_771 : BitVec 32 := 4#32
  let v744 : BitVec 32 := Scalar.muli v2 c4_i32_771
  let v745 : BitVec 32 := Scalar.addi c0_i32_772 v744
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_773 : BitVec 32 := 2#32
  let v746 : BitVec 32 := Scalar.muli v13 c2_i32_773
  let v747 : BitVec 32 := Scalar.addi v745 v746
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_774 : BitVec 32 := 1#32
  let v748 : BitVec 32 := Scalar.muli v8 c1_i32_774
  let v749 : BitVec 32 := Scalar.addi v747 v748
  v749.toNat
def k0_dev39 (d0 : Dev nD) : Nat :=
  let c0_i32_787 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_786 : BitVec 32 := 4#32
  let v758 : BitVec 32 := Scalar.muli v2 c4_i32_786
  let v759 : BitVec 32 := Scalar.addi c0_i32_787 v758
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_788 : BitVec 32 := 2#32
  let v760 : BitVec 32 := Scalar.muli v13 c2_i32_788
  let v761 : BitVec 32 := Scalar.addi v759 v760
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_789 : BitVec 32 := 1#32
  let v762 : BitVec 32 := Scalar.muli v8 c1_i32_789
  let v763 : BitVec 32 := Scalar.addi v761 v762
  v763.toNat
def k0_dev40 (d0 : Dev nD) : Nat :=
  let c0_i32_802 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_801 : BitVec 32 := 4#32
  let v772 : BitVec 32 := Scalar.muli v2 c4_i32_801
  let v773 : BitVec 32 := Scalar.addi c0_i32_802 v772
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_803 : BitVec 32 := 2#32
  let v774 : BitVec 32 := Scalar.muli v5 c2_i32_803
  let v775 : BitVec 32 := Scalar.addi v773 v774
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_804 : BitVec 32 := 1#32
  let v776 : BitVec 32 := Scalar.muli v14 c1_i32_804
  let v777 : BitVec 32 := Scalar.addi v775 v776
  v777.toNat
def k0_dev41 (d0 : Dev nD) : Nat :=
  let c0_i32_817 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_816 : BitVec 32 := 4#32
  let v786 : BitVec 32 := Scalar.muli v2 c4_i32_816
  let v787 : BitVec 32 := Scalar.addi c0_i32_817 v786
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_818 : BitVec 32 := 2#32
  let v788 : BitVec 32 := Scalar.muli v5 c2_i32_818
  let v789 : BitVec 32 := Scalar.addi v787 v788
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_819 : BitVec 32 := 1#32
  let v790 : BitVec 32 := Scalar.muli v14 c1_i32_819
  let v791 : BitVec 32 := Scalar.addi v789 v790
  v791.toNat
def k0_dev42 (d0 : Dev nD) : Nat :=
  let c0_i32_832 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_831 : BitVec 32 := 4#32
  let v800 : BitVec 32 := Scalar.muli v15 c4_i32_831
  let v801 : BitVec 32 := Scalar.addi c0_i32_832 v800
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_833 : BitVec 32 := 2#32
  let v802 : BitVec 32 := Scalar.muli v16 c2_i32_833
  let v803 : BitVec 32 := Scalar.addi v801 v802
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_834 : BitVec 32 := 1#32
  let v804 : BitVec 32 := Scalar.muli v8 c1_i32_834
  let v805 : BitVec 32 := Scalar.addi v803 v804
  v805.toNat
def k0_dev43 (d0 : Dev nD) : Nat :=
  let c0_i32_847 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_846 : BitVec 32 := 4#32
  let v814 : BitVec 32 := Scalar.muli v15 c4_i32_846
  let v815 : BitVec 32 := Scalar.addi c0_i32_847 v814
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_848 : BitVec 32 := 2#32
  let v816 : BitVec 32 := Scalar.muli v16 c2_i32_848
  let v817 : BitVec 32 := Scalar.addi v815 v816
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_849 : BitVec 32 := 1#32
  let v818 : BitVec 32 := Scalar.muli v8 c1_i32_849
  let v819 : BitVec 32 := Scalar.addi v817 v818
  v819.toNat
def k0_dev44 (d0 : Dev nD) : Nat :=
  let c0_i32_862 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_861 : BitVec 32 := 4#32
  let v828 : BitVec 32 := Scalar.muli v17 c4_i32_861
  let v829 : BitVec 32 := Scalar.addi c0_i32_862 v828
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_863 : BitVec 32 := 2#32
  let v830 : BitVec 32 := Scalar.muli v5 c2_i32_863
  let v831 : BitVec 32 := Scalar.addi v829 v830
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let c1_i32_864 : BitVec 32 := 1#32
  let v832 : BitVec 32 := Scalar.muli v18 c1_i32_864
  let v833 : BitVec 32 := Scalar.addi v831 v832
  v833.toNat
def k0_dev45 (d0 : Dev nD) : Nat :=
  let c0_i32_877 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_876 : BitVec 32 := 4#32
  let v842 : BitVec 32 := Scalar.muli v17 c4_i32_876
  let v843 : BitVec 32 := Scalar.addi c0_i32_877 v842
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_878 : BitVec 32 := 2#32
  let v844 : BitVec 32 := Scalar.muli v5 c2_i32_878
  let v845 : BitVec 32 := Scalar.addi v843 v844
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let c1_i32_879 : BitVec 32 := 1#32
  let v846 : BitVec 32 := Scalar.muli v18 c1_i32_879
  let v847 : BitVec 32 := Scalar.addi v845 v846
  v847.toNat
def k0_dev46 (d0 : Dev nD) : Nat :=
  let c0_i32_892 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_891 : BitVec 32 := 4#32
  let v856 : BitVec 32 := Scalar.muli v2 c4_i32_891
  let v857 : BitVec 32 := Scalar.addi c0_i32_892 v856
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_11 v5
  let c2_i32_893 : BitVec 32 := 2#32
  let v858 : BitVec 32 := Scalar.muli v19 c2_i32_893
  let v859 : BitVec 32 := Scalar.addi v857 v858
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let c1_i32_894 : BitVec 32 := 1#32
  let v860 : BitVec 32 := Scalar.muli v20 c1_i32_894
  let v861 : BitVec 32 := Scalar.addi v859 v860
  v861.toNat
def k0_dev47 (d0 : Dev nD) : Nat :=
  let c0_i32_907 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_906 : BitVec 32 := 4#32
  let v870 : BitVec 32 := Scalar.muli v2 c4_i32_906
  let v871 : BitVec 32 := Scalar.addi c0_i32_907 v870
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_11 v5
  let c2_i32_908 : BitVec 32 := 2#32
  let v872 : BitVec 32 := Scalar.muli v19 c2_i32_908
  let v873 : BitVec 32 := Scalar.addi v871 v872
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let c1_i32_909 : BitVec 32 := 1#32
  let v874 : BitVec 32 := Scalar.muli v20 c1_i32_909
  let v875 : BitVec 32 := Scalar.addi v873 v874
  v875.toNat
def k0_dev48 (d0 : Dev nD) : Nat :=
  let c0_i32_922 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_13 v2
  let c4_i32_921 : BitVec 32 := 4#32
  let v884 : BitVec 32 := Scalar.muli v21 c4_i32_921
  let v885 : BitVec 32 := Scalar.addi c0_i32_922 v884
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_14 v5
  let c2_i32_923 : BitVec 32 := 2#32
  let v886 : BitVec 32 := Scalar.muli v22 c2_i32_923
  let v887 : BitVec 32 := Scalar.addi v885 v886
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_15 v8
  let c1_i32_924 : BitVec 32 := 1#32
  let v888 : BitVec 32 := Scalar.muli v23 c1_i32_924
  let v889 : BitVec 32 := Scalar.addi v887 v888
  v889.toNat
def k0_dev49 (d0 : Dev nD) : Nat :=
  let c0_i32_937 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_13 v2
  let c4_i32_936 : BitVec 32 := 4#32
  let v898 : BitVec 32 := Scalar.muli v21 c4_i32_936
  let v899 : BitVec 32 := Scalar.addi c0_i32_937 v898
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_14 v5
  let c2_i32_938 : BitVec 32 := 2#32
  let v900 : BitVec 32 := Scalar.muli v22 c2_i32_938
  let v901 : BitVec 32 := Scalar.addi v899 v900
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_15 v8
  let c1_i32_939 : BitVec 32 := 1#32
  let v902 : BitVec 32 := Scalar.muli v23 c1_i32_939
  let v903 : BitVec 32 := Scalar.addi v901 v902
  v903.toNat
def k0_off21 (d0 : Dev nD) : Fin 6 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1143 : Index := Scalar.indexCast v5
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v1144 : Index := Scalar.indexCast v10
  let c3_1363 : Index := 3#32
  let c0_1364 : Index := 0#32
  let c0_1365 : Index := 0#32
  let c0_1366 : Index := 0#32
  ![v1143.toNat, v1144.toNat, 3, 0, 0, 0]
def k0_off22 (d0 : Dev nD) : Fin 6 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1148 : Index := Scalar.indexCast v5
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v1149 : Index := Scalar.indexCast v10
  let c3_1367 : Index := 3#32
  let c0_1368 : Index := 0#32
  let c0_1369 : Index := 0#32
  let c0_1370 : Index := 0#32
  ![v1148.toNat, v1149.toNat, 3, 0, 0, 0]
def k0_off23 (d0 : Dev nD) : Fin 6 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1153 : Index := Scalar.indexCast v5
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v1154 : Index := Scalar.indexCast v10
  let c3_1371 : Index := 3#32
  let c1_1372 : Index := 1#32
  let c0_1373 : Index := 0#32
  let c0_1374 : Index := 0#32
  ![v1153.toNat, v1154.toNat, 3, 1, 0, 0]
def k0_off24 (d0 : Dev nD) : Fin 3 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c3_i32_1375 : BitVec 32 := 3#32
  ![v5.toNat, v10.toNat, 3]
def k0_off25 (d0 : Dev nD) : Fin 6 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c3_i32_1382 : BitVec 32 := 3#32
  let c0_i32_1383 : BitVec 32 := 0#32
  let c0_i32_1384 : BitVec 32 := 0#32
  let c0_i32_1385 : BitVec 32 := 0#32
  ![v5.toNat, v10.toNat, 3, 0, 0, 0]
def k0_dev50 (d0 : Dev nD) : Nat :=
  let c0_i32_1379 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let c4_i32_1378 : BitVec 32 := 4#32
  let v1158 : BitVec 32 := Scalar.muli v12 c4_i32_1378
  let v1159 : BitVec 32 := Scalar.addi c0_i32_1379 v1158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1380 : BitVec 32 := 2#32
  let v1160 : BitVec 32 := Scalar.muli v5 c2_i32_1380
  let v1161 : BitVec 32 := Scalar.addi v1159 v1160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1381 : BitVec 32 := 1#32
  let v1162 : BitVec 32 := Scalar.muli v8 c1_i32_1381
  let v1163 : BitVec 32 := Scalar.addi v1161 v1162
  v1163.toNat
def k0_off26 (d0 : Dev nD) : Fin 6 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c3_i32_1397 : BitVec 32 := 3#32
  let c0_i32_1398 : BitVec 32 := 0#32
  let c0_i32_1399 : BitVec 32 := 0#32
  let c0_i32_1400 : BitVec 32 := 0#32
  ![v5.toNat, v10.toNat, 3, 0, 0, 0]
def k0_dev51 (d0 : Dev nD) : Nat :=
  let c0_i32_1394 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let c4_i32_1393 : BitVec 32 := 4#32
  let v1172 : BitVec 32 := Scalar.muli v12 c4_i32_1393
  let v1173 : BitVec 32 := Scalar.addi c0_i32_1394 v1172
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1395 : BitVec 32 := 2#32
  let v1174 : BitVec 32 := Scalar.muli v5 c2_i32_1395
  let v1175 : BitVec 32 := Scalar.addi v1173 v1174
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1396 : BitVec 32 := 1#32
  let v1176 : BitVec 32 := Scalar.muli v8 c1_i32_1396
  let v1177 : BitVec 32 := Scalar.addi v1175 v1176
  v1177.toNat
def k0_dev52 (d0 : Dev nD) : Nat :=
  let c0_i32_1409 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1408 : BitVec 32 := 4#32
  let v1186 : BitVec 32 := Scalar.muli v2 c4_i32_1408
  let v1187 : BitVec 32 := Scalar.addi c0_i32_1409 v1186
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_1410 : BitVec 32 := 2#32
  let v1188 : BitVec 32 := Scalar.muli v13 c2_i32_1410
  let v1189 : BitVec 32 := Scalar.addi v1187 v1188
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1411 : BitVec 32 := 1#32
  let v1190 : BitVec 32 := Scalar.muli v8 c1_i32_1411
  let v1191 : BitVec 32 := Scalar.addi v1189 v1190
  v1191.toNat
def k0_dev53 (d0 : Dev nD) : Nat :=
  let c0_i32_1424 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1423 : BitVec 32 := 4#32
  let v1200 : BitVec 32 := Scalar.muli v2 c4_i32_1423
  let v1201 : BitVec 32 := Scalar.addi c0_i32_1424 v1200
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_1425 : BitVec 32 := 2#32
  let v1202 : BitVec 32 := Scalar.muli v13 c2_i32_1425
  let v1203 : BitVec 32 := Scalar.addi v1201 v1202
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1426 : BitVec 32 := 1#32
  let v1204 : BitVec 32 := Scalar.muli v8 c1_i32_1426
  let v1205 : BitVec 32 := Scalar.addi v1203 v1204
  v1205.toNat
def k0_dev54 (d0 : Dev nD) : Nat :=
  let c0_i32_1439 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1438 : BitVec 32 := 4#32
  let v1214 : BitVec 32 := Scalar.muli v2 c4_i32_1438
  let v1215 : BitVec 32 := Scalar.addi c0_i32_1439 v1214
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1440 : BitVec 32 := 2#32
  let v1216 : BitVec 32 := Scalar.muli v5 c2_i32_1440
  let v1217 : BitVec 32 := Scalar.addi v1215 v1216
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_1441 : BitVec 32 := 1#32
  let v1218 : BitVec 32 := Scalar.muli v14 c1_i32_1441
  let v1219 : BitVec 32 := Scalar.addi v1217 v1218
  v1219.toNat
def k0_dev55 (d0 : Dev nD) : Nat :=
  let c0_i32_1454 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1453 : BitVec 32 := 4#32
  let v1228 : BitVec 32 := Scalar.muli v2 c4_i32_1453
  let v1229 : BitVec 32 := Scalar.addi c0_i32_1454 v1228
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1455 : BitVec 32 := 2#32
  let v1230 : BitVec 32 := Scalar.muli v5 c2_i32_1455
  let v1231 : BitVec 32 := Scalar.addi v1229 v1230
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_1456 : BitVec 32 := 1#32
  let v1232 : BitVec 32 := Scalar.muli v14 c1_i32_1456
  let v1233 : BitVec 32 := Scalar.addi v1231 v1232
  v1233.toNat
def k0_dev56 (d0 : Dev nD) : Nat :=
  let c0_i32_1469 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_1468 : BitVec 32 := 4#32
  let v1242 : BitVec 32 := Scalar.muli v15 c4_i32_1468
  let v1243 : BitVec 32 := Scalar.addi c0_i32_1469 v1242
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_1470 : BitVec 32 := 2#32
  let v1244 : BitVec 32 := Scalar.muli v16 c2_i32_1470
  let v1245 : BitVec 32 := Scalar.addi v1243 v1244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1471 : BitVec 32 := 1#32
  let v1246 : BitVec 32 := Scalar.muli v8 c1_i32_1471
  let v1247 : BitVec 32 := Scalar.addi v1245 v1246
  v1247.toNat
def k0_dev57 (d0 : Dev nD) : Nat :=
  let c0_i32_1484 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_1483 : BitVec 32 := 4#32
  let v1256 : BitVec 32 := Scalar.muli v15 c4_i32_1483
  let v1257 : BitVec 32 := Scalar.addi c0_i32_1484 v1256
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_1485 : BitVec 32 := 2#32
  let v1258 : BitVec 32 := Scalar.muli v16 c2_i32_1485
  let v1259 : BitVec 32 := Scalar.addi v1257 v1258
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1486 : BitVec 32 := 1#32
  let v1260 : BitVec 32 := Scalar.muli v8 c1_i32_1486
  let v1261 : BitVec 32 := Scalar.addi v1259 v1260
  v1261.toNat
def k0_dev58 (d0 : Dev nD) : Nat :=
  let c0_i32_1499 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_1498 : BitVec 32 := 4#32
  let v1270 : BitVec 32 := Scalar.muli v17 c4_i32_1498
  let v1271 : BitVec 32 := Scalar.addi c0_i32_1499 v1270
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1500 : BitVec 32 := 2#32
  let v1272 : BitVec 32 := Scalar.muli v5 c2_i32_1500
  let v1273 : BitVec 32 := Scalar.addi v1271 v1272
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let c1_i32_1501 : BitVec 32 := 1#32
  let v1274 : BitVec 32 := Scalar.muli v18 c1_i32_1501
  let v1275 : BitVec 32 := Scalar.addi v1273 v1274
  v1275.toNat
def k0_dev59 (d0 : Dev nD) : Nat :=
  let c0_i32_1514 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_1513 : BitVec 32 := 4#32
  let v1284 : BitVec 32 := Scalar.muli v17 c4_i32_1513
  let v1285 : BitVec 32 := Scalar.addi c0_i32_1514 v1284
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1515 : BitVec 32 := 2#32
  let v1286 : BitVec 32 := Scalar.muli v5 c2_i32_1515
  let v1287 : BitVec 32 := Scalar.addi v1285 v1286
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let c1_i32_1516 : BitVec 32 := 1#32
  let v1288 : BitVec 32 := Scalar.muli v18 c1_i32_1516
  let v1289 : BitVec 32 := Scalar.addi v1287 v1288
  v1289.toNat
def k0_dev60 (d0 : Dev nD) : Nat :=
  let c0_i32_1529 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1528 : BitVec 32 := 4#32
  let v1298 : BitVec 32 := Scalar.muli v2 c4_i32_1528
  let v1299 : BitVec 32 := Scalar.addi c0_i32_1529 v1298
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_11 v5
  let c2_i32_1530 : BitVec 32 := 2#32
  let v1300 : BitVec 32 := Scalar.muli v19 c2_i32_1530
  let v1301 : BitVec 32 := Scalar.addi v1299 v1300
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let c1_i32_1531 : BitVec 32 := 1#32
  let v1302 : BitVec 32 := Scalar.muli v20 c1_i32_1531
  let v1303 : BitVec 32 := Scalar.addi v1301 v1302
  v1303.toNat
def k0_dev61 (d0 : Dev nD) : Nat :=
  let c0_i32_1544 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1543 : BitVec 32 := 4#32
  let v1312 : BitVec 32 := Scalar.muli v2 c4_i32_1543
  let v1313 : BitVec 32 := Scalar.addi c0_i32_1544 v1312
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_11 v5
  let c2_i32_1545 : BitVec 32 := 2#32
  let v1314 : BitVec 32 := Scalar.muli v19 c2_i32_1545
  let v1315 : BitVec 32 := Scalar.addi v1313 v1314
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let c1_i32_1546 : BitVec 32 := 1#32
  let v1316 : BitVec 32 := Scalar.muli v20 c1_i32_1546
  let v1317 : BitVec 32 := Scalar.addi v1315 v1316
  v1317.toNat
def k0_dev62 (d0 : Dev nD) : Nat :=
  let c0_i32_1559 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_13 v2
  let c4_i32_1558 : BitVec 32 := 4#32
  let v1326 : BitVec 32 := Scalar.muli v21 c4_i32_1558
  let v1327 : BitVec 32 := Scalar.addi c0_i32_1559 v1326
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_14 v5
  let c2_i32_1560 : BitVec 32 := 2#32
  let v1328 : BitVec 32 := Scalar.muli v22 c2_i32_1560
  let v1329 : BitVec 32 := Scalar.addi v1327 v1328
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_15 v8
  let c1_i32_1561 : BitVec 32 := 1#32
  let v1330 : BitVec 32 := Scalar.muli v23 c1_i32_1561
  let v1331 : BitVec 32 := Scalar.addi v1329 v1330
  v1331.toNat
def k0_dev63 (d0 : Dev nD) : Nat :=
  let c0_i32_1574 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_13 v2
  let c4_i32_1573 : BitVec 32 := 4#32
  let v1340 : BitVec 32 := Scalar.muli v21 c4_i32_1573
  let v1341 : BitVec 32 := Scalar.addi c0_i32_1574 v1340
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_14 v5
  let c2_i32_1575 : BitVec 32 := 2#32
  let v1342 : BitVec 32 := Scalar.muli v22 c2_i32_1575
  let v1343 : BitVec 32 := Scalar.addi v1341 v1342
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_15 v8
  let c1_i32_1576 : BitVec 32 := 1#32
  let v1344 : BitVec 32 := Scalar.muli v23 c1_i32_1576
  let v1345 : BitVec 32 := Scalar.addi v1343 v1344
  v1345.toNat
abbrev stage0_0 : Fin 1 → Memref sig .tc .vmem S8x8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S8x8x16x128 : Shape := ⟨4, ![8, 8, 16, 128]⟩
abbrev S8x2048x16x128 : Shape := ⟨4, ![8, 2048, 16, 128]⟩
abbrev S_ : Shape := ⟨0, ![]⟩
abbrev S8x16x8x2048 : Shape := ⟨4, ![8, 16, 8, 2048]⟩
abbrev S8x16x8 : Shape := ⟨3, ![8, 16, 8]⟩
abbrev S8x16x8x1 : Shape := ⟨4, ![8, 16, 8, 1]⟩
abbrev S8x16x128x8 : Shape := ⟨4, ![8, 16, 128, 8]⟩

abbrev nBuf : Space → Nat
  | .hbm => 23
  | .vmem => 0
  | .smem => 0
  | _ => 0

abbrev bufTy : (tb : Table) → Fin (tcTables nBuf tb) → BufTy
  | .hbm, ⟨0, _⟩ => ⟨S8x8x16x128, .f32⟩
  | .hbm, ⟨1, _⟩ => ⟨S8x2048x16x128, .f32⟩
  | .hbm, ⟨2, _⟩ => ⟨S8x2048x16x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x16x8x2048, .f32⟩
  | .hbm, ⟨8, _⟩ => ⟨S8x16x8x2048, .f32⟩
  | .hbm, ⟨9, _⟩ => ⟨S8x16x8x2048, .f32⟩
  | .hbm, ⟨10, _⟩ => ⟨S_, .f32⟩
  | .hbm, ⟨11, _⟩ => ⟨S8x16x8, .f32⟩
  | .hbm, ⟨12, _⟩ => ⟨S8x16x8x1, .f32⟩
  | .hbm, ⟨13, _⟩ => ⟨S8x16x8x2048, .f32⟩
  | .hbm, ⟨14, _⟩ => ⟨S8x16x8x2048, .f32⟩
  | .hbm, ⟨15, _⟩ => ⟨S8x16x8x2048, .f32⟩
  | .hbm, ⟨16, _⟩ => ⟨S_, .f32⟩
  | .hbm, ⟨17, _⟩ => ⟨S8x16x8, .f32⟩
  | .hbm, ⟨18, _⟩ => ⟨S8x16x8x1, .f32⟩
  | .hbm, ⟨19, _⟩ => ⟨S8x16x8x2048, .f32⟩
  | .hbm, ⟨20, _⟩ => ⟨S8x16x8x2048, .f32⟩
  | .hbm, ⟨21, _⟩ => ⟨S8x16x128x8, .f32⟩
  | .hbm, ⟨22, _⟩ => ⟨S8x8x16x128, .f32⟩
  | _, _ => ⟨S8x8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Geometry.lean ====
/-
  The mesh, the semaphores and the memory regions of the kernel.

  Eight devices, number `4x + 2y + z`. Device `c` works on the key/value half `y` and on the four heads
  `4 (2x + z) + h`, and writes its partial results in the landing slot `(y, 2x + z)` of every device, its own included.
  The slot of `c` has the number `4 y + (2x + z)`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Decode

open Cert.KernelIdeal Cert.KernelIdeal.Gen
open Idealize.ShloMosaic Idealize.ShloMosaic.TcCoe Idealize.SL.Sem

/-! ## Devices and slots -/

/-- The half of the keys that device `c` reads. -/
def sY (c : Dev nD) : ℕ := c.val / 2 % 2
/-- The group of heads that device `c` computes. -/
def sG (c : Dev nD) : ℕ := 2 * (c.val / 4) + c.val % 2
/-- The number of device `c`'s landing slot. -/
def sl (c : Dev nD) : ℕ := 4 * sY c + sG c

theorem sY_lt (c : Dev nD) : sY c < 2 := Nat.mod_lt _ (by decide)
theorem sG_lt (c : Dev nD) : sG c < 4 := by revert c; decide
theorem sl_lt (c : Dev nD) : sl c < 8 := by revert c; decide

/-- The bits in which the `j`-th peer's number differs from one's own. -/
def mask : ℕ → ℕ
  | 0 => 4 | 1 => 2 | 2 => 1 | 3 => 6 | 4 => 5 | 5 => 3 | _ => 7

theorem mask_lt (j : ℕ) : mask j < 8 := by
  unfold mask; split <;> decide

/-- The `j`-th peer of device `c`, in the order in which the kernel visits them. -/
def pr (c : Dev nD) (j : ℕ) : Dev nD := ⟨(c.val ^^^ mask j) % 8, Nat.mod_lt _ (by decide)⟩

theorem pr_pr (c : Dev nD) (j : ℕ) : pr (pr c j) j = c := by
  have H : ∀ k : Fin 8, ∀ d : Fin 8, ((d.val ^^^ k.val) % 8 ^^^ k.val) % 8 = d.val := by decide
  exact Fin.ext (H ⟨mask j, mask_lt j⟩ c)

/-- Being the `j`-th peer is symmetric: a permutation of the mesh that is its own inverse. -/
def prEquiv (j : ℕ) : Dev nD ≃ Dev nD := ⟨fun c => pr c j, fun c => pr c j, fun c => pr_pr c j, fun c => pr_pr c j⟩

/-- The peers' slots are all the slots but one's own, each once. -/
theorem image_sl_pr (c : Dev nD) : (Finset.range 7).image (fun j => sl (pr c j)) = (Finset.range 8).erase (sl c) := by
  revert c; decide
theorem inj_sl_pr (c : Dev nD) : ∀ j ∈ Finset.range 7, ∀ j' ∈ Finset.range 7, sl (pr c j) = sl (pr c j') → j = j' := by
  revert c; decide
theorem sl_pr_ne (c : Dev nD) : ∀ j ∈ Finset.range 7, sl (pr c j) ≠ sl c := by revert c; decide
theorem sl_inj (c d : Dev nD) (h : sl c = sl d) : c = d := by revert c d; decide

/-- The device whose slot has number `4 y + g`. -/
def dv (y g : ℕ) : Dev nD := ⟨(4 * (g / 2) + 2 * y + g % 2) % 8, Nat.mod_lt _ (by decide)⟩

theorem dv_self (c : Dev nD) : dv (sY c) (sG c) = c := by revert c; decide

/-! ## Semaphores -/

abbrev barS : Sem sig := (SemArray.scalar (sig.barrier 0 rfl) : Sems sig S_).sem

/-- The barrier cell of device `c`. -/
abbrev barCell (c : Dev nD) : GSem nD τ sig := ((c : Thread nD τ), .reg barS)

/-- The `i`-th DMA semaphore: 0 the output's, 1–12 the loads', 13–40 and 41–68 the sends', 69–100 and 101–132 the receives'. -/
def dsem (i : ℕ) : DmaSem sig := ⟨i % 133, Nat.mod_lt _ (by decide)⟩
abbrev dcell (c : Dev nD) (i : ℕ) : GSem nD τ sig := ((c : Thread nD τ), .dma (dsem i))

/-! ## Memory regions -/

abbrev locQ (c : Dev nD) : Loc nD τ sig := (c : Thread nD τ).loc cc0_scratch0
abbrev locK (c : Dev nD) : Loc nD τ sig := (c : Thread nD τ).loc cc0_scratch1
abbrev locV (c : Dev nD) : Loc nD τ sig := (c : Thread nD τ).loc cc0_scratch2
abbrev locN (c : Dev nD) : Loc nD τ sig := (c : Thread nD τ).loc cc0_scratch4
abbrev locS (c : Dev nD) : Loc nD τ sig := (c : Thread nD τ).loc cc0_scratch5
abbrev locA0 (c : Dev nD) : Loc nD τ sig := (c : Thread nD τ).loc main_arg0
abbrev locA1 (c : Dev nD) : Loc nD τ sig := (c : Thread nD τ).loc main_arg1
abbrev locA2 (c : Dev nD) : Loc nD τ sig := (c : Thread nD τ).loc main_arg2

/-- The part of the query scratch that holds head `h`; -/
def qSet (h : ℕ) : Finset S4x8x8x128.Idx := Finset.univ.filter fun i => (i 0).val = h
/-- of the key or value scratch; -/
def kvSet (h : ℕ) : Finset S4x8x1024x128.Idx := Finset.univ.filter fun i => (i 0).val = h
/-- of the query argument, at head `n` of sixteen; -/
def qsSet (n : ℕ) : Finset S8x8x16x128.Idx := Finset.univ.filter fun i => (i 2).val = n
/-- of the key or value argument, at head `n` of sixteen. -/
def kvsSet (n : ℕ) : Finset S8x1024x16x128.Idx := Finset.univ.filter fun i => (i 2).val = n
/-- Head `h` of slot `s` of the landing buffer of the numerators; -/
def nSet (s h : ℕ) : Finset S2x4x4x8x8x128.Idx := Finset.univ.filter fun i => 4 * (i 0).val + (i 1).val = s ∧ (i 2).val = h
/-- of the landing buffer of the statistics (maximum and sum). -/
def sSet (s h : ℕ) : Finset S2x4x4x2x8x8.Idx := Finset.univ.filter fun i => 4 * (i 0).val + (i 1).val = s ∧ (i 2).val = h
/-- Head `h` of all slots; -/
def nHead (h : ℕ) : Finset S2x4x4x8x8x128.Idx := Finset.univ.filter fun i => (i 2).val = h
def sHead (h : ℕ) : Finset S2x4x4x2x8x8.Idx := Finset.univ.filter fun i => (i 2).val = h

theorem nHead_eq (h : ℕ) : nHead h = (Finset.range 8).biUnion fun s => nSet s h := by
  ext i
  simp only [nHead, nSet, Finset.mem_filter, Finset.mem_univ, true_and, Finset.mem_biUnion, Finset.mem_range]
  refine ⟨fun e => ⟨4 * (i 0).val + (i 1).val, ?_, rfl, e⟩, fun ⟨_, _, _, e⟩ => e⟩
  have h0 := (i 0).isLt; have h1 := (i 1).isLt
  change (i 0).val < 2 at h0; change (i 1).val < 4 at h1
  omega
theorem sHead_eq (h : ℕ) : sHead h = (Finset.range 8).biUnion fun s => sSet s h := by
  ext i
  simp only [sHead, sSet, Finset.mem_filter, Finset.mem_univ, true_and, Finset.mem_biUnion, Finset.mem_range]
  refine ⟨fun e => ⟨4 * (i 0).val + (i 1).val, ?_, rfl, e⟩, fun ⟨_, _, _, e⟩ => e⟩
  have h0 := (i 0).isLt; have h1 := (i 1).isLt
  change (i 0).val < 2 at h0; change (i 1).val < 4 at h1
  omega
theorem nUniv_eq : (Finset.univ : Finset S2x4x4x8x8x128.Idx) = (Finset.range 4).biUnion nHead := by
  ext i
  simp only [nHead, Finset.mem_filter, Finset.mem_univ, true_and, Finset.mem_biUnion, Finset.mem_range, exists_eq_right', true_iff]
  exact (i 2).isLt
theorem sUniv_eq : (Finset.univ : Finset S2x4x4x2x8x8.Idx) = (Finset.range 4).biUnion sHead := by
  ext i
  simp only [sHead, Finset.mem_filter, Finset.mem_univ, true_and, Finset.mem_biUnion, Finset.mem_range, exists_eq_right', true_iff]
  exact (i 2).isLt
theorem qUniv_eq : (Finset.univ : Finset S4x8x8x128.Idx) = (Finset.range 4).biUnion qSet := by
  ext i
  simp only [qSet, Finset.mem_filter, Finset.mem_univ, true_and, Finset.mem_biUnion, Finset.mem_range, exists_eq_right', true_iff]
  exact (i 0).isLt
theorem kvUniv_eq : (Finset.univ : Finset S4x8x1024x128.Idx) = (Finset.range 4).biUnion kvSet := by
  ext i
  simp only [kvSet, Finset.mem_filter, Finset.mem_univ, true_and, Finset.mem_biUnion, Finset.mem_range, exists_eq_right', true_iff]
  exact (i 0).isLt

theorem disj_filter {α : Type} [Fintype α] (f : α → ℕ) (a b : ℕ) (h : a ≠ b) :
    Disjoint (Finset.univ.filter fun i => f i = a) (Finset.univ.filter fun i => f i = b) :=
  Finset.disjoint_filter.mpr fun i _ ha hb => h (ha.symm.trans hb)
theorem qSet_disj (a b : ℕ) (h : a ≠ b) : Disjoint (qSet a) (qSet b) := disj_filter (fun i : S4x8x8x128.Idx => (i 0).val) a b h
theorem kvSet_disj (a b : ℕ) (h : a ≠ b) : Disjoint (kvSet a) (kvSet b) := disj_filter (fun i : S4x8x1024x128.Idx => (i 0).val) a b h
theorem qsSet_disj (a b : ℕ) (h : a ≠ b) : Disjoint (qsSet a) (qsSet b) := disj_filter (fun i : S8x8x16x128.Idx => (i 2).val) a b h
theorem kvsSet_disj (a b : ℕ) (h : a ≠ b) : Disjoint (kvsSet a) (kvsSet b) := disj_filter (fun i : S8x1024x16x128.Idx => (i 2).val) a b h
theorem nHead_disj (a b : ℕ) (h : a ≠ b) : Disjoint (nHead a) (nHead b) := disj_filter (fun i : S2x4x4x8x8x128.Idx => (i 2).val) a b h
theorem sHead_disj (a b : ℕ) (h : a ≠ b) : Disjoint (sHead a) (sHead b) := disj_filter (fun i : S2x4x4x2x8x8.Idx => (i 2).val) a b h
theorem nSet_disj (h s s' : ℕ) (e : s ≠ s') : Disjoint (nSet s h) (nSet s' h) :=
  Finset.disjoint_filter.mpr fun i _ ha hb => e (ha.1.symm.trans hb.1)
theorem sSet_disj (h s s' : ℕ) (e : s ≠ s') : Disjoint (sSet s h) (sSet s' h) :=
  Finset.disjoint_filter.mpr fun i _ ha hb => e (ha.1.symm.trans hb.1)

/-! ## The sets of the views -/

/-- The index set of a rectangle of unit steps, by its bounds along each axis. -/
theorem set_unit_eq {s : Shape} {off size : Fin s.rank → ℕ} (inb : ∀ a, off a + size a ≤ s.size a) (T : Finset s.Idx)
    (h : ∀ i : s.Idx, i ∈ T ↔ ∀ a, off a ≤ (i a).val ∧ (i a).val < off a + size a) : (Rect.unit off size inb).set = T := by
  ext i; rw [Rect.mem_set_unit, h]

theorem mem_kvSet (h : ℕ) (i : S4x8x1024x128.Idx) :
    i ∈ kvSet h ↔ ∀ a, (![h, 0, 0, 0] : Fin 4 → ℕ) a ≤ (i a).val ∧ (i a).val < (![h, 0, 0, 0] : Fin 4 → ℕ) a + S1x8x1024x128.size a := by
  have h0 : (i 0).val < 4 := (i 0).isLt
  have h1 : (i 1).val < 8 := (i 1).isLt
  have h2 : (i 2).val < 1024 := (i 2).isLt
  have h3 : (i 3).val < 128 := (i 3).isLt
  simp only [kvSet, Finset.mem_filter, Finset.mem_univ, true_and]
  refine ⟨fun e a => ?_, fun e => ?_⟩
  · match a with
    | 0 => show h ≤ (i 0).val ∧ (i 0).val < h + 1; omega
    | 1 => show 0 ≤ (i 1).val ∧ (i 1).val < 0 + 8; omega
    | 2 => show 0 ≤ (i 2).val ∧ (i 2).val < 0 + 1024; omega
    | 3 => show 0 ≤ (i 3).val ∧ (i 3).val < 0 + 128; omega
  · have := e 0; change h ≤ (i 0).val ∧ (i 0).val < h + 1 at this; omega
theorem mem_qSet (h : ℕ) (i : S4x8x8x128.Idx) :
    i ∈ qSet h ↔ ∀ a, (![h, 0, 0, 0] : Fin 4 → ℕ) a ≤ (i a).val ∧ (i a).val < (![h, 0, 0, 0] : Fin 4 → ℕ) a + S1x8x8x128.size a := by
  have h1 : (i 1).val < 8 := (i 1).isLt
  have h2 : (i 2).val < 8 := (i 2).isLt
  have h3 : (i 3).val < 128 := (i 3).isLt
  simp only [qSet, Finset.mem_filter, Finset.mem_univ, true_and]
  refine ⟨fun e a => ?_, fun e => ?_⟩
  · match a with
    | 0 => show h ≤ (i 0).val ∧ (i 0).val < h + 1; omega
    | 1 => show 0 ≤ (i 1).val ∧ (i 1).val < 0 + 8; omega
    | 2 => show 0 ≤ (i 2).val ∧ (i 2).val < 0 + 8; omega
    | 3 => show 0 ≤ (i 3).val ∧ (i 3).val < 0 + 128; omega
  · have := e 0; change h ≤ (i 0).val ∧ (i 0).val < h + 1 at this; omega
theorem mem_qsSet (n : ℕ) (i : S8x8x16x128.Idx) :
    i ∈ qsSet n ↔ ∀ a, (![0, 0, n, 0] : Fin 4 → ℕ) a ≤ (i a).val ∧ (i a).val < (![0, 0, n, 0] : Fin 4 → ℕ) a + S8x8x1x128.size a := by
  have h1 : (i 1).val < 8 := (i 1).isLt
  have h2 : (i 0).val < 8 := (i 0).isLt
  have h3 : (i 3).val < 128 := (i 3).isLt
  simp only [qsSet, Finset.mem_filter, Finset.mem_univ, true_and]
  refine ⟨fun e a => ?_, fun e => ?_⟩
  · match a with
    | 0 => show 0 ≤ (i 0).val ∧ (i 0).val < 0 + 8; omega
    | 1 => show 0 ≤ (i 1).val ∧ (i 1).val < 0 + 8; omega
    | 2 => show n ≤ (i 2).val ∧ (i 2).val < n + 1; omega
    | 3 => show 0 ≤ (i 3).val ∧ (i 3).val < 0 + 128; omega
  · have := e 2; change n ≤ (i 2).val ∧ (i 2).val < n + 1 at this; omega
theorem mem_kvsSet (n : ℕ) (i : S8x1024x16x128.Idx) :
    i ∈ kvsSet n ↔ ∀ a, (![0, 0, n, 0] : Fin 4 → ℕ) a ≤ (i a).val ∧ (i a).val < (![0, 0, n, 0] : Fin 4 → ℕ) a + S8x1024x1x128.size a := by
  have h1 : (i 1).val < 1024 := (i 1).isLt
  have h2 : (i 0).val < 8 := (i 0).isLt
  have h3 : (i 3).val < 128 := (i 3).isLt
  simp only [kvsSet, Finset.mem_filter, Finset.mem_univ, true_and]
  refine ⟨fun e a => ?_, fun e => ?_⟩
  · match a with
    | 0 => show 0 ≤ (i 0).val ∧ (i 0).val < 0 + 8; omega
    | 1 => show 0 ≤ (i 1).val ∧ (i 1).val < 0 + 1024; omega
    | 2 => show n ≤ (i 2).val ∧ (i 2).val < n + 1; omega
    | 3 => show 0 ≤ (i 3).val ∧ (i 3).val < 0 + 128; omega
  · have := e 2; change n ≤ (i 2).val ∧ (i 2).val < n + 1 at this; omega
theorem mem_nSet (y g h : ℕ) (hg : g < 4) (i : S2x4x4x8x8x128.Idx) :
    i ∈ nSet (4 * y + g) h ↔ ∀ a, (![y, g, h, 0, 0, 0] : Fin 6 → ℕ) a ≤ (i a).val ∧ (i a).val < (![y, g, h, 0, 0, 0] : Fin 6 → ℕ) a + S1x1x1x8x8x128.size a := by
  have h0 : (i 1).val < 4 := (i 1).isLt
  have h1 : (i 3).val < 8 := (i 3).isLt
  have h2 : (i 4).val < 8 := (i 4).isLt
  have h3 : (i 5).val < 128 := (i 5).isLt
  simp only [nSet, Finset.mem_filter, Finset.mem_univ, true_and]
  refine ⟨fun e a => ?_, fun e => ?_⟩
  · match a with
    | 0 => show y ≤ (i 0).val ∧ (i 0).val < y + 1; omega
    | 1 => show g ≤ (i 1).val ∧ (i 1).val < g + 1; omega
    | 2 => show h ≤ (i 2).val ∧ (i 2).val < h + 1; omega
    | 3 => show 0 ≤ (i 3).val ∧ (i 3).val < 0 + 8; omega
    | 4 => show 0 ≤ (i 4).val ∧ (i 4).val < 0 + 8; omega
    | 5 => show 0 ≤ (i 5).val ∧ (i 5).val < 0 + 128; omega
  · have e0 := e 0; change y ≤ (i 0).val ∧ (i 0).val < y + 1 at e0
    have e1 := e 1; change g ≤ (i 1).val ∧ (i 1).val < g + 1 at e1
    have e2 := e 2; change h ≤ (i 2).val ∧ (i 2).val < h + 1 at e2
    omega
theorem mem_sSet (y g h : ℕ) (hg : g < 4) (i : S2x4x4x2x8x8.Idx) :
    i ∈ sSet (4 * y + g) h ↔ ∀ a, (![y, g, h, 0, 0, 0] : Fin 6 → ℕ) a ≤ (i a).val ∧ (i a).val < (![y, g, h, 0, 0, 0] : Fin 6 → ℕ) a + S1x1x1x2x8x8.size a := by
  have h0 : (i 1).val < 4 := (i 1).isLt
  have h1 : (i 3).val < 2 := (i 3).isLt
  have h2 : (i 4).val < 8 := (i 4).isLt
  have h3 : (i 5).val < 8 := (i 5).isLt
  simp only [sSet, Finset.mem_filter, Finset.mem_univ, true_and]
  refine ⟨fun e a => ?_, fun e => ?_⟩
  · match a with
    | 0 => show y ≤ (i 0).val ∧ (i 0).val < y + 1; omega
    | 1 => show g ≤ (i 1).val ∧ (i 1).val < g + 1; omega
    | 2 => show h ≤ (i 2).val ∧ (i 2).val < h + 1; omega
    | 3 => show 0 ≤ (i 3).val ∧ (i 3).val < 0 + 2; omega
    | 4 => show 0 ≤ (i 4).val ∧ (i 4).val < 0 + 8; omega
    | 5 => show 0 ≤ (i 5).val ∧ (i 5).val < 0 + 8; omega
  · have e0 := e 0; change y ≤ (i 0).val ∧ (i 0).val < y + 1 at e0
    have e1 := e 1; change g ≤ (i 1).val ∧ (i 1).val < g + 1 at e1
    have e2 := e 2; change h ≤ (i 2).val ∧ (i 2).val < h + 1 at e2
    omega

/-! ## Waits and copies by their sizes -/

/-- The credit of a copy of one head of the keys or values; -/
def NKV : ℕ := cc0_scratch1.dmaCredit S8x1024x128 .f32
/-- of one head of the queries; -/
def NQ : ℕ := cc0_scratch0.dmaCredit S8x8x128 .f32
/-- of one head's numerators; -/
def NN : ℕ := cc0_scratch4.dmaCredit S1x8x8x128 .bf16
/-- of one head's statistics. -/
def NS : ℕ := cc0_scratch5.dmaCredit S1x2x8x8 .f32

theorem NKV_pos : 0 < NKV := sig.dmaCredit_pos _ _ _ _ _ (by decide)
theorem NQ_pos : 0 < NQ := sig.dmaCredit_pos _ _ _ _ _ (by decide)
theorem NN_pos : 0 < NN := sig.dmaCredit_pos _ _ _ _ _ (by decide)
theorem NS_pos : 0 < NS := sig.dmaCredit_pos _ _ _ _ _ (by decide)

end Decode
-- ==== Proof.Contents.lean ====
/-
  What every buffer holds at every stage of the kernel, as functions of the memory at the start.

  A buffer filled in pieces is described element by element: element `i` has the value that the copy or store of its
  piece puts there.
-/
module

public import proofs.«01_k».proof.Proof.Geometry

@[expose] public section

noncomputable section

namespace Decode

open Cert.KernelIdeal Cert.KernelIdeal.Gen
open Idealize.ShloMosaic Idealize.ShloMosaic.TcCoe Idealize.SL.Sem

variable {F : FTy → Type} [FloatOps F] [Named F]

abbrev qM : Memref sig .tc .vmem S4x8x8x128 .f32 := Memref.whole cc0_scratch0
abbrev kM : Memref sig .tc .vmem S4x8x1024x128 .f32 := Memref.whole cc0_scratch1
abbrev vM : Memref sig .tc .vmem S4x8x1024x128 .f32 := Memref.whole cc0_scratch2
abbrev nM : Memref sig .tc .vmem S2x4x4x8x8x128 .bf16 := Memref.whole cc0_scratch4
abbrev sM : Memref sig .tc .vmem S2x4x4x2x8x8 .f32 := Memref.whole cc0_scratch5
abbrev oM : Memref sig .tc .vmem S8x8x16x128 .f32 := Memref.whole cc0_stg0_0
abbrev a0M : Memref sig .tc .hbm S8x8x16x128 .f32 := Memref.whole main_arg0
abbrev a1M : Memref sig .tc .hbm S8x1024x16x128 .f32 := Memref.whole main_arg1
abbrev a2M : Memref sig .tc .hbm S8x1024x16x128 .f32 := Memref.whole main_arg2

/-! ## The rectangles -/

theorem inb_kv (h : Fin 4) : ∀ a, (![h.val, 0, 0, 0] : Fin 4 → ℕ) a + S1x8x1024x128.size a ≤ S4x8x1024x128.size a
  | 0 => by have := h.isLt; show h.val + 1 ≤ 4; omega
  | 1 => by show 0 + 8 ≤ 8; omega
  | 2 => by show 0 + 1024 ≤ 1024; omega
  | 3 => by show 0 + 128 ≤ 128; omega
theorem inb_q (h : Fin 4) : ∀ a, (![h.val, 0, 0, 0] : Fin 4 → ℕ) a + S1x8x8x128.size a ≤ S4x8x8x128.size a
  | 0 => by have := h.isLt; show h.val + 1 ≤ 4; omega
  | 1 => by show 0 + 8 ≤ 8; omega
  | 2 => by show 0 + 8 ≤ 8; omega
  | 3 => by show 0 + 128 ≤ 128; omega
theorem inb_kvs (c : Dev nD) (h : Fin 4) : ∀ a, (![0, 0, 4 * sG c + h.val, 0] : Fin 4 → ℕ) a + S8x1024x1x128.size a ≤ S8x1024x16x128.size a
  | 0 => by show 0 + 8 ≤ 8; omega
  | 1 => by show 0 + 1024 ≤ 1024; omega
  | 2 => by have := sG_lt c; have := h.isLt; show 4 * sG c + h.val + 1 ≤ 16; omega
  | 3 => by show 0 + 128 ≤ 128; omega
theorem inb_qs (c : Dev nD) (h : Fin 4) : ∀ a, (![0, 0, 4 * sG c + h.val, 0] : Fin 4 → ℕ) a + S8x8x1x128.size a ≤ S8x8x16x128.size a
  | 0 => by show 0 + 8 ≤ 8; omega
  | 1 => by show 0 + 8 ≤ 8; omega
  | 2 => by have := sG_lt c; have := h.isLt; show 4 * sG c + h.val + 1 ≤ 16; omega
  | 3 => by show 0 + 128 ≤ 128; omega
theorem inb_n (c : Dev nD) (h : Fin 4) : ∀ a, (![sY c, sG c, h.val, 0, 0, 0] : Fin 6 → ℕ) a + S1x1x1x8x8x128.size a ≤ S2x4x4x8x8x128.size a
  | 0 => by have := sY_lt c; show sY c + 1 ≤ 2; omega
  | 1 => by have := sG_lt c; show sG c + 1 ≤ 4; omega
  | 2 => by have := h.isLt; show h.val + 1 ≤ 4; omega
  | 3 => by show 0 + 8 ≤ 8; omega
  | 4 => by show 0 + 8 ≤ 8; omega
  | 5 => by show 0 + 128 ≤ 128; omega
theorem inb_s (c : Dev nD) (h : Fin 4) : ∀ a, (![sY c, sG c, h.val, 0, 0, 0] : Fin 6 → ℕ) a + S1x1x1x2x8x8.size a ≤ S2x4x4x2x8x8.size a
  | 0 => by have := sY_lt c; show sY c + 1 ≤ 2; omega
  | 1 => by have := sG_lt c; show sG c + 1 ≤ 4; omega
  | 2 => by have := h.isLt; show h.val + 1 ≤ 4; omega
  | 3 => by show 0 + 2 ≤ 2; omega
  | 4 => by show 0 + 8 ≤ 8; omega
  | 5 => by show 0 + 8 ≤ 8; omega
theorem inb_s1 (c : Dev nD) (h : Fin 4) (k : Fin 2) : ∀ a, (![sY c, sG c, h.val, k.val, 0, 0] : Fin 6 → ℕ) a + S1x1x1x1x8x8.size a ≤ S2x4x4x2x8x8.size a
  | 0 => by have := sY_lt c; show sY c + 1 ≤ 2; omega
  | 1 => by have := sG_lt c; show sG c + 1 ≤ 4; omega
  | 2 => by have := h.isLt; show h.val + 1 ≤ 4; omega
  | 3 => by have := k.isLt; show k.val + 1 ≤ 2; omega
  | 4 => by show 0 + 8 ≤ 8; omega
  | 5 => by show 0 + 8 ≤ 8; omega
theorem inb_sd (h : Fin 4) (k : Fin 2) : ∀ a, (![0, 0, h.val, k.val, 0, 0] : Fin 6 → ℕ) a + S2x4x1x1x8x8.size a ≤ S2x4x4x2x8x8.size a
  | 0 => by show 0 + 2 ≤ 2; omega
  | 1 => by show 0 + 4 ≤ 4; omega
  | 2 => by have := h.isLt; show h.val + 1 ≤ 4; omega
  | 3 => by have := k.isLt; show k.val + 1 ≤ 2; omega
  | 4 => by show 0 + 8 ≤ 8; omega
  | 5 => by show 0 + 8 ≤ 8; omega
theorem inb_nd (h : Fin 4) : ∀ a, (![0, 0, h.val, 0, 0, 0] : Fin 6 → ℕ) a + S2x4x1x8x8x128.size a ≤ S2x4x4x8x8x128.size a
  | 0 => by show 0 + 2 ≤ 2; omega
  | 1 => by show 0 + 4 ≤ 4; omega
  | 2 => by have := h.isLt; show h.val + 1 ≤ 4; omega
  | 3 => by show 0 + 8 ≤ 8; omega
  | 4 => by show 0 + 8 ≤ 8; omega
  | 5 => by show 0 + 128 ≤ 128; omega
theorem inb_o (n : Fin 16) : ∀ a, (![0, 0, n.val, 0] : Fin 4 → ℕ) a + S8x8x1x128.size a ≤ S8x8x16x128.size a
  | 0 => by show 0 + 8 ≤ 8; omega
  | 1 => by show 0 + 8 ≤ 8; omega
  | 2 => by have := n.isLt; show n.val + 1 ≤ 16; omega
  | 3 => by show 0 + 128 ≤ 128; omega

/-- Head `h` of the key or value scratch, as the copy and the load see it; -/
abbrev kvR (h : Fin 4) : Rect S4x8x1024x128 := Rect.unit (s := S4x8x1024x128) ![h.val, 0, 0, 0] S1x8x1024x128.size (inb_kv h)
/-- of the query scratch; -/
abbrev qR (h : Fin 4) : Rect S4x8x8x128 := Rect.unit (s := S4x8x8x128) ![h.val, 0, 0, 0] S1x8x8x128.size (inb_q h)
/-- the source of the copy, in the key or value argument; -/
abbrev kvsR (c : Dev nD) (h : Fin 4) : Rect S8x1024x16x128 := Rect.unit (s := S8x1024x16x128) ![0, 0, 4 * sG c + h.val, 0] S8x1024x1x128.size (inb_kvs c h)
/-- in the query argument; -/
abbrev qsR (c : Dev nD) (h : Fin 4) : Rect S8x8x16x128 := Rect.unit (s := S8x8x16x128) ![0, 0, 4 * sG c + h.val, 0] S8x8x1x128.size (inb_qs c h)
/-- head `h` of device `c`'s slot of the numerators; -/
abbrev nR (c : Dev nD) (h : Fin 4) : Rect S2x4x4x8x8x128 := Rect.unit (s := S2x4x4x8x8x128) ![sY c, sG c, h.val, 0, 0, 0] S1x1x1x8x8x128.size (inb_n c h)
/-- of both statistics; -/
abbrev sR (c : Dev nD) (h : Fin 4) : Rect S2x4x4x2x8x8 := Rect.unit (s := S2x4x4x2x8x8) ![sY c, sG c, h.val, 0, 0, 0] S1x1x1x2x8x8.size (inb_s c h)
/-- of the statistic `k` alone (0 the maximum, 1 the sum); -/
abbrev sR1 (c : Dev nD) (h : Fin 4) (k : Fin 2) : Rect S2x4x4x2x8x8 := Rect.unit (s := S2x4x4x2x8x8) ![sY c, sG c, h.val, k.val, 0, 0] S1x1x1x1x8x8.size (inb_s1 c h k)
/-- statistic `k` of head `h` of all slots; -/
abbrev sdR (h : Fin 4) (k : Fin 2) : Rect S2x4x4x2x8x8 := Rect.unit (s := S2x4x4x2x8x8) ![0, 0, h.val, k.val, 0, 0] S2x4x1x1x8x8.size (inb_sd h k)
/-- the numerators of head `h` of all slots; -/
abbrev ndR (h : Fin 4) : Rect S2x4x4x8x8x128 := Rect.unit (s := S2x4x4x8x8x128) ![0, 0, h.val, 0, 0, 0] S2x4x1x8x8x128.size (inb_nd h)
/-- head `n` of sixteen of the output. -/
abbrev oR (n : Fin 16) : Rect S8x8x16x128 := Rect.unit (s := S8x8x16x128) ![0, 0, n.val, 0] S8x8x1x128.size (inb_o n)

/-! ## The contents -/

variable (m : (ℓ : Loc nD τ sig) → Buf (Elt F) ℓ)

/-- The key scratch of device `c` holding `f`, after the copy of head `h`; -/
def kWr (c : Dev nD) (h : Fin 4) (f : Buf (Elt F) (locK c)) : Buf (Elt F) (locK c) :=
  ((kM.slice (kvR h) (fun _ => rfl)).squeeze S8x1024x128 squeezes_S1x8x1024x128_S8x1024x128).view.write (Elt F) f
    (((a1M.slice (kvsR c h) (fun _ => rfl)).squeeze S8x1024x128 squeezes_S8x1024x1x128_S8x1024x128).view.read (Elt F) (m (locA1 c))) Finset.univ
/-- the value scratch; -/
def vWr (c : Dev nD) (h : Fin 4) (f : Buf (Elt F) (locV c)) : Buf (Elt F) (locV c) :=
  ((vM.slice (kvR h) (fun _ => rfl)).squeeze S8x1024x128 squeezes_S1x8x1024x128_S8x1024x128).view.write (Elt F) f
    (((a2M.slice (kvsR c h) (fun _ => rfl)).squeeze S8x1024x128 squeezes_S8x1024x1x128_S8x1024x128).view.read (Elt F) (m (locA2 c))) Finset.univ
/-- the query scratch. -/
def qWr (c : Dev nD) (h : Fin 4) (f : Buf (Elt F) (locQ c)) : Buf (Elt F) (locQ c) :=
  ((qM.slice (qR h) (fun _ => rfl)).squeeze S8x8x128 squeezes_S1x8x8x128_S8x8x128).view.write (Elt F) f
    (((a0M.slice (qsR c h) (fun _ => rfl)).squeeze S8x8x128 squeezes_S8x8x1x128_S8x8x128).view.read (Elt F) (m (locA0 c))) Finset.univ

/-- Device `c`'s key scratch, all four heads loaded; -/
def kV (c : Dev nD) : cc0_scratch1.ty.Contents (Elt F) := fun i : S4x8x1024x128.Idx => kWr m c (i 0) (m (locK c)) i
/-- its value scratch; -/
def vV (c : Dev nD) : cc0_scratch2.ty.Contents (Elt F) := fun i : S4x8x1024x128.Idx => vWr m c (i 0) (m (locV c)) i
/-- its query scratch. -/
def qV (c : Dev nD) : cc0_scratch0.ty.Contents (Elt F) := fun i : S4x8x8x128.Idx => qWr m c (i 0) (m (locQ c)) i

/-- Head `h` of them, as loaded. -/
def kHead (c : Dev nD) (h : Fin 4) : Vec F S1x8x1024x128 .f32 := kM.view.readAt (Elt F) (kvR h).toLoadRect (kV m c)
def vHead (c : Dev nD) (h : Fin 4) : Vec F S1x8x1024x128 .f32 := vM.view.readAt (Elt F) (kvR h).toLoadRect (vV m c)
def qHead (c : Dev nD) (h : Fin 4) : Vec F S1x8x8x128 .f32 := qM.view.readAt (Elt F) (qR h).toLoadRect (qV m c)

/-- The numerators that device `c` computes for its head `h`; -/
def numPay (c : Dev nD) (h : Fin 4) : FVec F S1x1x1x8x8x128 .bf16 := k0_pay8 (k0_pay3 (qHead m c h)) (k0_pay4 (kHead m c h)) (vHead m c h)
/-- the maxima; -/
def maxPay (c : Dev nD) (h : Fin 4) : FVec F S1x1x1x1x8x8 .f32 := k0_pay9 (k0_pay3 (qHead m c h)) (k0_pay4 (kHead m c h))
/-- the sums. -/
def sumPay (c : Dev nD) (h : Fin 4) : FVec F S1x1x1x1x8x8 .f32 := k0_pay10 (k0_pay3 (qHead m c h)) (k0_pay4 (kHead m c h))

/-- The numerators' buffer holding `f`, after device `c`'s store of its head `h`; -/
def nWr (c : Dev nD) (h : Fin 4) (f : cc0_scratch4.ty.Contents (Elt F)) : cc0_scratch4.ty.Contents (Elt F) :=
  (nM.access (nR c h)).write (Elt F) f (numPay m c h) Finset.univ
/-- the statistics' buffer, after the store of the maxima; -/
def mWr (c : Dev nD) (h : Fin 4) (f : cc0_scratch5.ty.Contents (Elt F)) : cc0_scratch5.ty.Contents (Elt F) :=
  (sM.access (sR1 c h 0)).write (Elt F) f (maxPay m c h) Finset.univ
/-- after the store of the sums. -/
def lWr (c : Dev nD) (h : Fin 4) (f : cc0_scratch5.ty.Contents (Elt F)) : cc0_scratch5.ty.Contents (Elt F) :=
  (sM.access (sR1 c h 1)).write (Elt F) f (sumPay m c h) Finset.univ

/-- The landing buffer of the numerators, every slot and head filled (the same on every device); -/
def numV : cc0_scratch4.ty.Contents (Elt F) := fun i : S2x4x4x8x8x128.Idx => nWr m (dv (i 0).val (i 1).val) (i 2) (m (locN 0)) i
/-- the landing buffer of the statistics. -/
def statV : cc0_scratch5.ty.Contents (Elt F) := fun i : S2x4x4x2x8x8.Idx =>
  if (i 3).val = 0 then mWr m (dv (i 0).val (i 1).val) (i 2) (m (locS 0)) i else lWr m (dv (i 0).val (i 1).val) (i 2) (m (locS 0)) i

/-- Head `h` of every slot, as loaded for the merge. -/
def maxAll (h : Fin 4) : Vec F S2x4x1x1x8x8 .f32 := sM.view.readAt (Elt F) (sdR h 0).toLoadRect (statV m)
def sumAll (h : Fin 4) : Vec F S2x4x1x1x8x8 .f32 := sM.view.readAt (Elt F) (sdR h 1).toLoadRect (statV m)
def numAll (h : Fin 4) : Vec F S2x4x1x8x8x128 .bf16 := nM.view.readAt (Elt F) (ndR h).toLoadRect (numV m)

/-- The result of head `4 g + h`: head `h` of group `g`, the two halves merged. -/
def outPay (h : Fin 4) : ℕ → FVec F S8x8x1x128 .f32
  | 0 => k0_pay29 (k0_pay28 (maxAll m h) (sumAll m h) (numAll m h))
  | 1 => k0_pay30 (k0_pay27 (maxAll m h) (sumAll m h) (numAll m h))
  | 2 => k0_pay31 (k0_pay27 (maxAll m h) (sumAll m h) (numAll m h))
  | _ => k0_pay32 (k0_pay27 (maxAll m h) (sumAll m h) (numAll m h))

/-- The head within its group, of one of the sixteen heads. -/
def hd (n : ℕ) : Fin 4 := ⟨n % 4, Nat.mod_lt _ (by decide)⟩

/-- The output holding `f`, after the store of head `n`. -/
def oWr (n : Fin 16) (f : cc0_stg0_0.ty.Contents (Elt F)) : cc0_stg0_0.ty.Contents (Elt F) :=
  (oM.access (oR n)).write (Elt F) f (outPay m (hd n.val) (n.val / 4)) Finset.univ

/-- The output, every head stored. -/
def outV : cc0_stg0_0.ty.Contents (Elt F) := fun i : S8x8x16x128.Idx => oWr m (i 2) (m (((0 : Dev nD) : Thread nD τ).loc cc0_stg0_0)) i

/-! ## The sets of the rectangles -/

theorem set_kvR (h : Fin 4) : (kvR h).set = kvSet h.val := set_unit_eq _ _ (mem_kvSet _)
theorem set_qR (h : Fin 4) : (qR h).set = qSet h.val := set_unit_eq _ _ (mem_qSet _)
theorem set_kvsR (c : Dev nD) (h : Fin 4) : (kvsR c h).set = kvsSet (4 * sG c + h.val) := set_unit_eq _ _ (mem_kvsSet _)
theorem set_qsR (c : Dev nD) (h : Fin 4) : (qsR c h).set = qsSet (4 * sG c + h.val) := set_unit_eq _ _ (mem_qsSet _)
theorem set_nR (c : Dev nD) (h : Fin 4) : (nR c h).set = nSet (sl c) h.val := set_unit_eq _ _ (mem_nSet _ _ _ (sG_lt c))
theorem set_sR (c : Dev nD) (h : Fin 4) : (sR c h).set = sSet (sl c) h.val := set_unit_eq _ _ (mem_sSet _ _ _ (sG_lt c))
theorem set_oR (n : Fin 16) : (oR n).set = qsSet n.val := set_unit_eq _ _ (mem_qsSet _)
theorem mem_sR1 (c : Dev nD) (h : Fin 4) (k : Fin 2) (i : S2x4x4x2x8x8.Idx) :
    i ∈ (sR1 c h k).set ↔ i ∈ sSet (sl c) h.val ∧ (i 3).val = k.val := by
  have hg := sG_lt c
  have h0 : (i 1).val < 4 := (i 1).isLt
  have h2 : (i 4).val < 8 := (i 4).isLt
  have h3 : (i 5).val < 8 := (i 5).isLt
  rw [Rect.mem_set_unit]
  refine ⟨fun e => ?_, fun e a => ?_⟩
  · have e0 := e 0; change sY c ≤ (i 0).val ∧ (i 0).val < sY c + 1 at e0
    have e1 := e 1; change sG c ≤ (i 1).val ∧ (i 1).val < sG c + 1 at e1
    have e2 := e 2; change h.val ≤ (i 2).val ∧ (i 2).val < h.val + 1 at e2
    have e3 := e 3; change k.val ≤ (i 3).val ∧ (i 3).val < k.val + 1 at e3
    refine ⟨Finset.mem_filter.mpr ⟨Finset.mem_univ _, ?_, ?_⟩, ?_⟩
    · show 4 * (i 0).val + (i 1).val = 4 * sY c + sG c; omega
    · exact Nat.le_antisymm (Nat.le_of_lt_succ e2.2) e2.1
    · exact Nat.le_antisymm (Nat.le_of_lt_succ e3.2) e3.1
  · obtain ⟨he, e3⟩ := e
    have e0 : 4 * (i 0).val + (i 1).val = 4 * sY c + sG c := (Finset.mem_filter.mp he).2.1
    have e2 : (i 2).val = h.val := (Finset.mem_filter.mp he).2.2
    match a with
    | 0 => show sY c ≤ (i 0).val ∧ (i 0).val < sY c + 1; omega
    | 1 => show sG c ≤ (i 1).val ∧ (i 1).val < sG c + 1; omega
    | 2 => exact ⟨e2.ge, Nat.lt_succ_of_le e2.le⟩
    | 3 => exact ⟨e3.ge, Nat.lt_succ_of_le e3.le⟩
    | 4 => show 0 ≤ (i 4).val ∧ (i 4).val < 0 + 8; omega
    | 5 => show 0 ≤ (i 5).val ∧ (i 5).val < 0 + 8; omega

/-! ## The sets of the views -/

theorem kView_set (h : Fin 4) : (((kM.slice (kvR h) (fun _ => rfl)).squeeze S8x1024x128 squeezes_S1x8x1024x128_S8x1024x128).view.set : Finset S4x8x1024x128.Idx)
    = kvSet h.val := (View.set_reshape _ _).trans ((View.set_slice_whole _ _).trans (set_kvR h))
theorem vView_set (h : Fin 4) : (((vM.slice (kvR h) (fun _ => rfl)).squeeze S8x1024x128 squeezes_S1x8x1024x128_S8x1024x128).view.set : Finset S4x8x1024x128.Idx)
    = kvSet h.val := (View.set_reshape _ _).trans ((View.set_slice_whole _ _).trans (set_kvR h))
theorem qView_set (h : Fin 4) : (((qM.slice (qR h) (fun _ => rfl)).squeeze S8x8x128 squeezes_S1x8x8x128_S8x8x128).view.set : Finset S4x8x8x128.Idx)
    = qSet h.val := (View.set_reshape _ _).trans ((View.set_slice_whole _ _).trans (set_qR h))
theorem a1View_set (c : Dev nD) (h : Fin 4) : (((a1M.slice (kvsR c h) (fun _ => rfl)).squeeze S8x1024x128 squeezes_S8x1024x1x128_S8x1024x128).view.set : Finset S8x1024x16x128.Idx)
    = kvsSet (4 * sG c + h.val) := (View.set_reshape _ _).trans ((View.set_slice_whole _ _).trans (set_kvsR c h))
theorem a2View_set (c : Dev nD) (h : Fin 4) : (((a2M.slice (kvsR c h) (fun _ => rfl)).squeeze S8x1024x128 squeezes_S8x1024x1x128_S8x1024x128).view.set : Finset S8x1024x16x128.Idx)
    = kvsSet (4 * sG c + h.val) := (View.set_reshape _ _).trans ((View.set_slice_whole _ _).trans (set_kvsR c h))
theorem a0View_set (c : Dev nD) (h : Fin 4) : (((a0M.slice (qsR c h) (fun _ => rfl)).squeeze S8x8x128 squeezes_S8x8x1x128_S8x8x128).view.set : Finset S8x8x16x128.Idx)
    = qsSet (4 * sG c + h.val) := (View.set_reshape _ _).trans ((View.set_slice_whole _ _).trans (set_qsR c h))
theorem nView_set (c : Dev nD) (h : Fin 4) : (((nM.slice (nR c h) (fun _ => rfl)).squeeze S1x8x8x128 squeezes_S1x1x1x8x8x128_S1x8x8x128).view.set : Finset S2x4x4x8x8x128.Idx)
    = nSet (sl c) h.val := (View.set_reshape _ _).trans ((View.set_slice_whole _ _).trans (set_nR c h))
theorem sView_set (c : Dev nD) (h : Fin 4) : (((sM.slice (sR c h) (fun _ => rfl)).squeeze S1x2x8x8 squeezes_S1x1x1x2x8x8_S1x2x8x8).view.set : Finset S2x4x4x2x8x8.Idx)
    = sSet (sl c) h.val := (View.set_reshape _ _).trans ((View.set_slice_whole _ _).trans (set_sR c h))

/-! ## Each piece, once written, holds the described contents -/

theorem kWr_on (c : Dev nD) (h : Fin 4) (f : Buf (Elt F) (locK c)) : ∀ i ∈ kvSet h.val, kWr m c h f i = kV m c i := by
  intro i hi
  have e : i 0 = h := Fin.ext (Finset.mem_filter.mp hi).2
  subst e
  exact View.write_congr (fun _ _ _ => rfl) fun hn => absurd ((Finset.ext_iff.mp (kView_set _) i).mpr hi) hn
theorem vWr_on (c : Dev nD) (h : Fin 4) (f : Buf (Elt F) (locV c)) : ∀ i ∈ kvSet h.val, vWr m c h f i = vV m c i := by
  intro i hi
  have e : i 0 = h := Fin.ext (Finset.mem_filter.mp hi).2
  subst e
  exact View.write_congr (fun _ _ _ => rfl) fun hn => absurd ((Finset.ext_iff.mp (vView_set _) i).mpr hi) hn
theorem qWr_on (c : Dev nD) (h : Fin 4) (f : Buf (Elt F) (locQ c)) : ∀ i ∈ qSet h.val, qWr m c h f i = qV m c i := by
  intro i hi
  have e : i 0 = h := Fin.ext (Finset.mem_filter.mp hi).2
  subst e
  exact View.write_congr (fun _ _ _ => rfl) fun hn => absurd ((Finset.ext_iff.mp (qView_set _) i).mpr hi) hn

/-- An element of device `c`'s slot names `c` by its first two coordinates. -/
theorem dv_of_mem (c : Dev nD) (y g : ℕ) (hg : g < 4) (h : 4 * y + g = sl c) : dv y g = c := by
  have h1 := sG_lt c
  unfold sl at h
  have e1 : y = sY c := by omega
  have e2 : g = sG c := by omega
  rw [e1, e2, dv_self]

theorem nWr_on (c : Dev nD) (h : Fin 4) (f : cc0_scratch4.ty.Contents (Elt F)) : ∀ i ∈ nSet (sl c) h.val, nWr m c h f i = numV m i := by
  intro i hi
  have e1 : dv (i 0).val (i 1).val = c := dv_of_mem c _ _ (i 1).isLt (Finset.mem_filter.mp hi).2.1
  have e : i 2 = h := Fin.ext (Finset.mem_filter.mp hi).2.2
  show _ = nWr m (dv (i 0).val (i 1).val) (i 2) _ i
  rw [e1]
  subst e
  exact View.write_congr (fun _ _ _ => rfl) fun hn => absurd ((Finset.ext_iff.mp ((View.set_slice_whole _ _).trans (set_nR c _)) i).mpr hi) hn
theorem sR1_setOn (c : Dev nD) (h : Fin 4) (k : Fin 2) : ((sM.access (sR1 c h k)).setOn Finset.univ : Finset S2x4x4x2x8x8.Idx) = (sR1 c h k).set :=
  View.set_slice_whole _ _

/-- The store of one statistic writes it whatever was there, -/
theorem mWr_same (c : Dev nD) (h : Fin 4) (f g : cc0_scratch5.ty.Contents (Elt F)) (i : S2x4x4x2x8x8.Idx) (hi : i ∈ sSet (sl c) h.val)
    (h3 : (i 3).val = 0) : mWr m c h f i = mWr m c h g i :=
  View.write_congr (fun _ _ _ => rfl) fun hn => absurd ((Finset.ext_iff.mp (sR1_setOn c h 0) i).mpr ((mem_sR1 c h 0 i).mpr ⟨hi, h3⟩)) hn
theorem lWr_same (c : Dev nD) (h : Fin 4) (f g : cc0_scratch5.ty.Contents (Elt F)) (i : S2x4x4x2x8x8.Idx) (hi : i ∈ sSet (sl c) h.val)
    (h3 : (i 3).val = 1) : lWr m c h f i = lWr m c h g i :=
  View.write_congr (fun _ _ _ => rfl) fun hn => absurd ((Finset.ext_iff.mp (sR1_setOn c h 1) i).mpr ((mem_sR1 c h 1 i).mpr ⟨hi, h3⟩)) hn
/-- and the store of the sums leaves the maxima. -/
theorem lWr_off (c : Dev nD) (h : Fin 4) (f : cc0_scratch5.ty.Contents (Elt F)) (i : S2x4x4x2x8x8.Idx)
    (h3 : (i 3).val = 0) : lWr m c h f i = f i :=
  View.write_of_not_mem _ _ _ fun hn => absurd (h3.symm.trans ((mem_sR1 c h 1 i).mp ((Finset.ext_iff.mp (sR1_setOn c h 1) i).mp hn)).2) Nat.zero_ne_one

theorem sWr_on (c : Dev nD) (h : Fin 4) (f : cc0_scratch5.ty.Contents (Elt F)) :
    ∀ i ∈ sSet (sl c) h.val, lWr m c h (mWr m c h f) i = statV m i := by
  intro i hi
  have e1 : dv (i 0).val (i 1).val = c := dv_of_mem c _ _ (i 1).isLt (Finset.mem_filter.mp hi).2.1
  have e : i 2 = h := Fin.ext (Finset.mem_filter.mp hi).2.2
  have key : statV m i = if (i 3).val = 0 then mWr m c h (m (locS 0)) i else lWr m c h (m (locS 0)) i := by
    unfold statV; rw [e1, e]
  rw [key]
  by_cases h3 : (i 3).val = 0
  · rw [if_pos h3, lWr_off m c h _ i h3]
    exact mWr_same m c h _ _ i hi h3
  · rw [if_neg h3]
    have h4 : (i 3).val < 2 := (i 3).isLt
    exact lWr_same m c h _ _ i hi (by omega)

theorem oR_setOn (n : Fin 16) : ((oM.access (oR n)).setOn Finset.univ : Finset S8x8x16x128.Idx) = qsSet n.val :=
  (View.set_slice_whole _ _).trans (set_oR n)
theorem oWr_same (n : Fin 16) (f g : cc0_stg0_0.ty.Contents (Elt F)) (i : S8x8x16x128.Idx) (hi : i ∈ qsSet n.val) : oWr m n f i = oWr m n g i := by
  unfold oWr
  generalize outPay m (hd n.val) (n.val / 4) = w
  exact View.write_congr (fun _ _ _ => rfl) fun hn => absurd ((Finset.ext_iff.mp (oR_setOn n) i).mpr hi) hn
theorem oWr_off (n : Fin 16) (f : cc0_stg0_0.ty.Contents (Elt F)) (i : S8x8x16x128.Idx) (hi : i ∉ qsSet n.val) : oWr m n f i = f i := by
  unfold oWr
  generalize outPay m (hd n.val) (n.val / 4) = w
  exact View.write_of_not_mem _ _ _ fun hn => hi ((Finset.ext_iff.mp (oR_setOn n) i).mp hn)
theorem oWr_on (n : Fin 16) (f : cc0_stg0_0.ty.Contents (Elt F)) : ∀ i ∈ qsSet n.val, oWr m n f i = outV m i := by
  intro i hi
  have e : i 2 = n := Fin.ext (Finset.mem_filter.mp hi).2
  have key : outV m i = oWr m n (m (((0 : Dev nD) : Thread nD τ).loc cc0_stg0_0)) i := by unfold outV; rw [e]
  rw [key]
  exact oWr_same m n _ _ i hi

/-! ## A copy between equal views -/

/-- Writing into a view what the same view reads of `g` leaves `g` on the view's elements. -/
theorem write_read_on {sp : Space} {s : Shape} {e : EltTy} (v : View sig .tc sp s e) (f g : v.ty.Contents (Elt F)) :
    ∀ i ∈ v.set, v.write (Elt F) f (v.read (Elt F) g) Finset.univ i = g i := by
  intro i hi
  rw [View.write_read_eq_piecewise]
  exact Finset.piecewise_eq_of_mem _ _ _ hi

end Decode
-- ==== Proof.Schedule.lean ====
/-
  The protocol of the kernel: one round per semaphore cell.

  * The barrier cell of device `c` collects one unit from each of its seven peers. The unit of peer `j` hands over the four
    heads of `c`'s landing slot on that peer.
  * A load's cell is paid by the load and hands over the head that it filled.
  * A send's cell is paid by the send and gives the share of the source back that the copy read.
  * A receive cell is paid by the peer whose slot it stands for and hands over one head of that slot, filled.
-/
module

public import proofs.«01_k».proof.Proof.Contents

@[expose] public section

noncomputable section

namespace Decode

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UB : Type := URounds (GSem nD τ sig) ℕ
abbrev UU := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The payloads -/

/-- Slot `s` of the landing buffers on device `d`, with any contents, its head `h`; -/
def landN (d : Dev nD) (s h : ℕ) : sProp 𝕄 := iprop(∃ f : Buf (Elt F) (locN d), locN d ↦[nSet s h]{fullShare} f)
def landS (d : Dev nD) (s h : ℕ) : sProp 𝕄 := iprop(∃ f : Buf (Elt F) (locS d), locS d ↦[sSet s h]{fullShare} f)
/-- filled, with a share of it. -/
def gotN (d : Dev nD) (s h : ℕ) (q : PosShare TreeShare) : sProp 𝕄 := locN d ↦[nSet s h]{q} (numV m : Buf (Elt F) (locN d))
def gotS (d : Dev nD) (s h : ℕ) (q : PosShare TreeShare) : sProp 𝕄 := locS d ↦[sSet s h]{q} (statV m : Buf (Elt F) (locS d))

/-- What the `j`-th peer's unit on device `c`'s barrier cell hands over: `c`'s landing slot on that peer. -/
def barPay (c : Dev nD) (j : ℕ) : sProp 𝕄 :=
  bigSep (Finset.range 4) fun h => iprop(landN (F := F) (pr c j) (sl c) h ∗ landS (F := F) (pr c j) (sl c) h)

/-- What the cell of device `c`'s DMA semaphore `i` hands over. -/
def dmaPay (c : Dev nD) (i : ℕ) : sProp 𝕄 :=
  if i ≤ 4 then locK c ↦[kvSet (i - 1)]{fullShare} (kV m c : Buf (Elt F) (locK c))
  else if i ≤ 8 then locV c ↦[kvSet (i - 5)]{fullShare} (vV m c : Buf (Elt F) (locV c))
  else if i ≤ 12 then locQ c ↦[qSet (i - 9)]{fullShare} (qV m c : Buf (Elt F) (locQ c))
  else if i ≤ 40 then gotN m c (sl c) ((i - 13) / 7) (Transfers.shareTokN fullShare ((i - 13) % 7))
  else if i ≤ 68 then gotS m c (sl c) ((i - 41) / 7) (Transfers.shareTokN fullShare ((i - 41) % 7))
  else if i ≤ 100 then gotN m c ((i - 69) / 4) ((i - 69) % 4) fullShare
  else gotS m c ((i - 101) / 4) ((i - 101) % 4) fullShare

/-- The credit of one copy on DMA semaphore `i`. -/
def amt (i : ℕ) : ℕ :=
  if i ≤ 8 then NKV else if i ≤ 12 then NQ else if i ≤ 40 then NN else if i ≤ 68 then NS else if i ≤ 100 then NN else NS

theorem amt_pos (i : ℕ) : 0 < amt i := by
  unfold amt; (repeat' split) <;> first | exact NKV_pos | exact NQ_pos | exact NN_pos | exact NS_pos

/-- The slot that receive semaphore `i` stands for. -/
def slotOf (i : ℕ) : ℕ := if i ≤ 100 then (i - 69) / 4 else (i - 101) / 4

/-- The semaphores of device `c` that a copy credits: all but the output's and the receive cells of its own slot. -/
def live (c : Dev nD) (i : ℕ) : Prop := 1 ≤ i ∧ (68 < i → slotOf i ≠ sl c)

instance (c : Dev nD) (i : ℕ) : Decidable (live c i) := by unfold live; infer_instance

/-- One round: the barrier cell has seven duties of one unit, a credited DMA cell the one duty 0. -/
def rd : Rounds.Schedule (GSem nD τ sig) ℕ 𝕄 where
  duties g r := if r = 0 ∧ g.1.2 = .tc then
      match g.2 with
      | .reg _ => Finset.range 7
      | .dma i => if live g.1.1 i.val then {0} else ∅
    else ∅
  unitless _ := False
  amount g _ _ := match g.2 with
    | .reg _ => 1
    | .dma i => amt i.val
  payload g _ d := match g.2 with
    | .reg _ => barPay (F := F) g.1.1 d
    | .dma i => dmaPay m g.1.1 i.val
  amount_pos g _ _ _ := by
    obtain ⟨t, s⟩ := g
    cases s with
    | reg s => exact Nat.one_pos
    | dma i => exact amt_pos _

instance landN_storable (d : Dev nD) (s h : ℕ) : BI.Storable (upEmb : UEmb _ 𝕄) (landN (F := F) d s h) := by unfold landN; infer_instance
instance landS_storable (d : Dev nD) (s h : ℕ) : BI.Storable (upEmb : UEmb _ 𝕄) (landS (F := F) d s h) := by unfold landS; infer_instance
instance gotN_storable (d : Dev nD) (s h : ℕ) (q : PosShare TreeShare) : BI.Storable (upEmb : UEmb _ 𝕄) (gotN m d s h q) := by unfold gotN; infer_instance
instance gotS_storable (d : Dev nD) (s h : ℕ) (q : PosShare TreeShare) : BI.Storable (upEmb : UEmb _ 𝕄) (gotS m d s h q) := by unfold gotS; infer_instance
instance barPay_storable (c : Dev nD) (j : ℕ) : BI.Storable (upEmb : UEmb _ 𝕄) (barPay (F := F) c j) := by unfold barPay; infer_instance
instance dmaPay_storable (c : Dev nD) (i : ℕ) : BI.Storable (upEmb : UEmb _ 𝕄) (dmaPay m c i) := by
  unfold dmaPay; (repeat' split) <;> infer_instance

instance rd_payload_storable (g : GSem nD τ sig) (r : ℕ) (d : ℕ) : BI.Storable (upEmb : UEmb _ 𝕄) ((rd m).payload g r d) := by
  obtain ⟨t, s⟩ := g
  cases s with
  | reg s => exact barPay_storable (F := F) t.1 d
  | dma i => exact dmaPay_storable m t.1 i.val

/-! ## The schedule at each cell -/

theorem dsem_val (i : ℕ) (h : i < 133) : (dsem i).val = i := Nat.mod_eq_of_lt h

theorem duties_bar (c : Dev nD) : (rd m).duties (barCell c) 0 = Finset.range 7 := by
  show (if (0 : ℕ) = 0 ∧ (barCell c).1.2 = .tc then Finset.range 7 else ∅) = _
  exact if_pos ⟨rfl, rfl⟩
theorem duties_dma (c : Dev nD) (i : ℕ) (hi : i < 133) : (rd m).duties (dcell c i) 0 = if live c i then {0} else ∅ := by
  have : (rd m).duties (dcell c i) 0 = if live c (dsem i).val then {0} else ∅ := by
    show (if (0 : ℕ) = 0 ∧ (dcell c i).1.2 = .tc then (if live c (dsem i).val then {0} else ∅) else ∅) = _
    exact if_pos ⟨rfl, rfl⟩
  rw [this, dsem_val i hi]
theorem duties_live (c : Dev nD) (i : ℕ) (hi : i < 133) (hl : live c i) : (rd m).duties (dcell c i) 0 = {0} := by
  rw [duties_dma m c i hi, if_pos hl]
theorem duties_later (g : GSem nD τ sig) (r : ℕ) (hr : 1 ≤ r) : (rd m).duties g r = ∅ := if_neg fun h => absurd h.1 (by omega)
/-- A receive cell of one's own slot has no duty at all. -/
theorem duties_own (c : Dev nD) (i : ℕ) (hi : i < 133) (h68 : 68 < i) (hs : slotOf i = sl c) (r : ℕ) (_ : 0 ≤ r) : (rd m).duties (dcell c i) r = ∅ := by
  rcases Nat.eq_zero_or_pos r with rfl | hr
  · rw [duties_dma m c i hi, if_neg fun hl => hl.2 h68 hs]
  · exact duties_later m _ _ hr

theorem amount_bar (c : Dev nD) (d : ℕ) : (rd m).amount (barCell c) 0 d = 1 := rfl
theorem amount_dma (c : Dev nD) (i : ℕ) (hi : i < 133) (d : ℕ) : (rd m).amount (dcell c i) 0 d = amt i := by
  show amt (dsem i).val = amt i
  rw [dsem_val i hi]
theorem payload_bar (c : Dev nD) (d : ℕ) : (rd m).payload (barCell c) 0 d = barPay (F := F) c d := rfl
theorem payload_dma (c : Dev nD) (i : ℕ) (hi : i < 133) (d : ℕ) : (rd m).payload (dcell c i) 0 d = dmaPay m c i := by
  show dmaPay m c (dsem i).val = dmaPay m c i
  rw [dsem_val i hi]

theorem expect_bar (c : Dev nD) : (rd m).expect (barCell c) 0 = 7 := by
  unfold Schedule.expect Schedule.amountOf
  rw [duties_bar, Finset.sum_congr rfl fun d _ => amount_bar m c d, Finset.sum_const, Finset.card_range]
  rfl
theorem expect_dma (c : Dev nD) (i : ℕ) (hi : i < 133) (hl : live c i) : (rd m).expect (dcell c i) 0 = amt i := by
  unfold Schedule.expect Schedule.amountOf
  rw [duties_live m c i hi hl, Finset.sum_singleton, amount_dma m c i hi]

theorem rest_bar (c : Dev nD) : bigSep ((rd m).duties (barCell c) 0 \ ∅) (fun d => (rd m).payload (barCell c) 0 d)
    = bigSep (Finset.range 7) fun j => barPay (F := F) c j := by
  rw [Finset.sdiff_empty, duties_bar]
  rfl
theorem rest_dma (c : Dev nD) (i : ℕ) (hi : i < 133) (hl : live c i) :
    bigSep ((rd m).duties (dcell c i) 0 \ ∅) (fun d => (rd m).payload (dcell c i) 0 d) = dmaPay m c i := by
  rw [Finset.sdiff_empty, duties_live m c i hi hl, bigSep_singleton, payload_dma m c i hi]

/-! ## The cells' numbers -/

/-- The semaphore of the `n`-th load: heads in order, of each the keys, the values and the queries. -/
def li (n : ℕ) : ℕ := 1 + 4 * (n % 3) + n / 3
/-- The receive semaphores of head `h` of slot `s`. -/
def rn (s h : ℕ) : ℕ := 69 + 4 * s + h
def rs (s h : ℕ) : ℕ := 101 + 4 * s + h

theorem live_li (c : Dev nD) (n : ℕ) (hn : n < 12) : live c (li n) ∧ li n < 133 := by
  unfold live li; constructor
  · exact ⟨by omega, fun h => absurd h (by omega)⟩
  · omega
theorem live_n (c : Dev nD) (n : ℕ) (hn : n < 28) : live c (13 + n) ∧ 13 + n < 133 := by
  unfold live; exact ⟨⟨by omega, fun h => absurd h (by omega)⟩, by omega⟩
theorem live_s (c : Dev nD) (n : ℕ) (hn : n < 28) : live c (41 + n) ∧ 41 + n < 133 := by
  unfold live; exact ⟨⟨by omega, fun h => absurd h (by omega)⟩, by omega⟩
theorem slotOf_rn (s h : ℕ) (hs : s < 8) (hh : h < 4) : slotOf (rn s h) = s := by
  unfold slotOf rn; rw [if_pos (by omega)]; omega
theorem slotOf_rs (s h : ℕ) (hs : s < 8) (hh : h < 4) : slotOf (rs s h) = s := by
  unfold slotOf rs; rw [if_neg (by omega)]; omega
theorem live_rn (c : Dev nD) (s h : ℕ) (hs : s < 8) (hh : h < 4) (hne : s ≠ sl c) : live c (rn s h) ∧ rn s h < 133 := by
  refine ⟨⟨by unfold rn; omega, fun _ => by rw [slotOf_rn s h hs hh]; exact hne⟩, by unfold rn; omega⟩
theorem live_rs (c : Dev nD) (s h : ℕ) (hs : s < 8) (hh : h < 4) (hne : s ≠ sl c) : live c (rs s h) ∧ rs s h < 133 := by
  refine ⟨⟨by unfold rs; omega, fun _ => by rw [slotOf_rs s h hs hh]; exact hne⟩, by unfold rs; omega⟩

theorem amt_n (n : ℕ) (hn : n < 28) : amt (13 + n) = NN := by
  unfold amt; rw [if_neg (by omega), if_neg (by omega), if_pos (by omega)]
theorem amt_s (n : ℕ) (hn : n < 28) : amt (41 + n) = NS := by
  unfold amt; rw [if_neg (by omega), if_neg (by omega), if_neg (by omega), if_pos (by omega)]
theorem amt_rn (s h : ℕ) (hs : s < 8) (hh : h < 4) : amt (rn s h) = NN := by
  unfold amt rn; rw [if_neg (by omega), if_neg (by omega), if_neg (by omega), if_neg (by omega), if_pos (by omega)]
theorem amt_rs (s h : ℕ) (hs : s < 8) (hh : h < 4) : amt (rs s h) = NS := by
  unfold amt rs; rw [if_neg (by omega), if_neg (by omega), if_neg (by omega), if_neg (by omega), if_neg (by omega)]

theorem dmaPay_n (c : Dev nD) (n : ℕ) (hn : n < 28) : dmaPay m c (13 + n) = gotN m c (sl c) (n / 7) (Transfers.shareTokN fullShare (n % 7)) := by
  unfold dmaPay
  rw [if_neg (by omega), if_neg (by omega), if_neg (by omega), if_pos (by omega), Nat.add_sub_cancel_left]
theorem dmaPay_s (c : Dev nD) (n : ℕ) (hn : n < 28) : dmaPay m c (41 + n) = gotS m c (sl c) (n / 7) (Transfers.shareTokN fullShare (n % 7)) := by
  unfold dmaPay
  rw [if_neg (by omega), if_neg (by omega), if_neg (by omega), if_neg (by omega), if_pos (by omega), Nat.add_sub_cancel_left]
theorem dmaPay_rn (c : Dev nD) (s h : ℕ) (hs : s < 8) (hh : h < 4) : dmaPay m c (rn s h) = gotN m c s h fullShare := by
  unfold dmaPay rn
  rw [if_neg (by omega), if_neg (by omega), if_neg (by omega), if_neg (by omega), if_neg (by omega), if_pos (by omega),
    show (69 + 4 * s + h - 69) / 4 = s by omega, show (69 + 4 * s + h - 69) % 4 = h by omega]
theorem dmaPay_rs (c : Dev nD) (s h : ℕ) (hs : s < 8) (hh : h < 4) : dmaPay m c (rs s h) = gotS m c s h fullShare := by
  unfold dmaPay rs
  rw [if_neg (by omega), if_neg (by omega), if_neg (by omega), if_neg (by omega), if_neg (by omega), if_neg (by omega),
    show (101 + 4 * s + h - 101) / 4 = s by omega, show (101 + 4 * s + h - 101) % 4 = h by omega]

/-! ## What each device owes; the levels -/

/-- What device `c` still owes after `g` signals, `a` numerators' and `b` statistics' sends. -/
def Owed (c : Dev nD) (g a b : ℕ) : CellTallies nD τ sig Unit :=
  (∑ j ∈ Finset.Ico g 7, tallyAt (barCell (pr c j)) () 1)
    + (∑ n ∈ Finset.Ico a 28, tallyAt (dcell (pr c (n % 7)) (rn (sl c) (n / 7))) () NN)
    + (∑ n ∈ Finset.Ico b 28, tallyAt (dcell (pr c (n % 7)) (rs (sl c) (n / 7))) () NS)

/-- Every TensorCore cell carries the one level index. -/
def L (g : GSem nD τ sig) : Finset Unit := if g.1.2 = .tc then {()} else ∅
/-- Loads and sends at level 0, barriers at 1, the receives of head `h` at `2 + h`. -/
def lv (g : GSem nD τ sig) (_ : Unit) : ℕ := match g.2 with
  | .reg _ => 1
  | .dma i => if i.val ≤ 68 then 0 else 2 + (i.val - 69) % 4

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_dma (c : Dev nD) (i : ℕ) (hi : i < 133) : lv (dcell c i) () = if i ≤ 68 then 0 else 2 + (i - 69) % 4 := by
  show (if (dsem i).val ≤ 68 then 0 else 2 + ((dsem i).val - 69) % 4) = _
  rw [dsem_val i hi]
theorem lv_rn (c : Dev nD) (s h : ℕ) (hs : s < 8) (hh : h < 4) : lv (dcell c (rn s h)) () = 2 + h := by
  rw [lv_dma c _ (by unfold rn; omega)]; unfold rn; rw [if_neg (by omega)]; omega
theorem lv_rs (c : Dev nD) (s h : ℕ) (hs : s < 8) (hh : h < 4) : lv (dcell c (rs s h)) () = 2 + h := by
  rw [lv_dma c _ (by unfold rs; omega)]; unfold rs; rw [if_neg (by omega)]; omega

theorem sum_tally_pos {n : ℕ} {s : Finset ℕ} {f : ℕ → GSem nD τ sig} {g : GSem nD τ sig} {u : Unit}
    (h : 0 < (∑ j ∈ s, tallyAt (Ix := Unit) (f j) () n) g u) : ∃ j ∈ s, g = f j := by
  rw [Finset.sum_apply, Finsupp.finset_sum_apply] at h
  obtain ⟨j, hj, hp⟩ := Finset.exists_ne_zero_of_sum_ne_zero (Nat.pos_iff_ne_zero.mp h)
  refine ⟨j, hj, ?_⟩
  rw [tallyAt_apply] at hp
  by_contra hne
  exact hp (if_neg fun h => hne h.1)

theorem Owed_pos {c : Dev nD} {a b d : ℕ} {g : GSem nD τ sig} {u : Unit} (h : 0 < Owed c a b d g u) :
    (∃ j ∈ Finset.Ico a 7, g = barCell (pr c j)) ∨ (∃ n ∈ Finset.Ico b 28, g = dcell (pr c (n % 7)) (rn (sl c) (n / 7)))
      ∨ (∃ n ∈ Finset.Ico d 28, g = dcell (pr c (n % 7)) (rs (sl c) (n / 7))) := by
  unfold Owed at h
  rw [Pi.add_apply, Finsupp.add_apply, Pi.add_apply, Finsupp.add_apply] at h
  rcases Nat.eq_zero_or_pos ((∑ j ∈ Finset.Ico a 7, tallyAt (Ix := Unit) (barCell (pr c j)) () 1) g u) with h0 | hp
  · rcases Nat.eq_zero_or_pos ((∑ n ∈ Finset.Ico b 28, tallyAt (Ix := Unit) (dcell (pr c (n % 7)) (rn (sl c) (n / 7))) () NN) g u) with h1 | hp
    · rw [h0, h1, Nat.zero_add] at h; exact .inr (.inr (sum_tally_pos h))
    · exact .inr (.inl (sum_tally_pos hp))
  · exact .inl (sum_tally_pos hp)

theorem Owed_L {c : Dev nD} {a b d : ℕ} {g : GSem nD τ sig} {u : Unit} (h : 0 < Owed c a b d g u) : u ∈ L g := by
  rcases Owed_pos h with ⟨j, _, rfl⟩ | ⟨j, _, rfl⟩ | ⟨j, _, rfl⟩ <;> rw [L_tc] <;> exact Finset.mem_singleton_self _

/-- While device `c` owes only what lies above `k`, it may wait on its own cells at level `k` or below. -/
theorem mayWait_of (c : Dev nD) (sm : SemLoc sig) (k a b d : ℕ) (hk : lv ((c : Thread nD τ), sm) () ≤ k)
    (ha : a < 7 → k < 1) (hb : ∀ n, b ≤ n → n < 28 → k < 2 + n / 7) (hd : ∀ n, d ≤ n → n < 28 → k < 2 + n / 7) :
    (levAts L lv : sProp 𝕄) ⊢ MayWait (c : Thread nD τ) sm () (Owed c a b d) :=
  MayOwe.of_cut (L := L) (lev := lv) k (fun p hp => by rw [Finset.mem_singleton.mp hp, L_tc]; exact Finset.mem_singleton_self _)
    (fun g u hg => Owed_L hg)
    (fun p hp => by rw [Finset.mem_singleton.mp hp]; exact hk)
    (fun g u hg => by
      have hsl := sl_lt c
      rcases Owed_pos hg with ⟨j, hj, rfl⟩ | ⟨j, hj, rfl⟩ | ⟨j, hj, rfl⟩ <;> rw [Finset.mem_Ico] at hj
      · exact ha (by omega)
      · have := lv_rn (pr c (j % 7)) (sl c) (j / 7) hsl (by omega)
        show k < lv _ ()
        rw [this]; exact hb j hj.1 hj.2
      · have := lv_rs (pr c (j % 7)) (sl c) (j / 7) hsl (by omega)
        show k < lv _ ()
        rw [this]; exact hd j hj.1 hj.2)

theorem Owed_step {M : Type} [AddCommMonoid M] {a b : ℕ} (h : a < b) {f : ℕ → M} :
    ∑ j ∈ Finset.Ico a b, f j = f a + ∑ j ∈ Finset.Ico (a + 1) b, f j := by
  have e : Finset.Ico a b = insert a (Finset.Ico (a + 1) b) := by
    ext k; simp only [Finset.mem_insert, Finset.mem_Ico]; omega
  rw [e, Finset.sum_insert (by simp only [Finset.mem_Ico]; omega)]
theorem Owed_sig (c : Dev nD) (g a b : ℕ) (h : g < 7) : Owed c g a b = Owed c (g + 1) a b + tallyAt (barCell (pr c g)) () 1 := by
  unfold Owed; rw [Owed_step h]; ac_rfl
theorem Owed_n (c : Dev nD) (g a b : ℕ) (h : a < 28) :
    Owed c g a b = Owed c g (a + 1) b + tallyAt (dcell (pr c (a % 7)) (rn (sl c) (a / 7))) () NN := by
  unfold Owed; rw [Owed_step h]; ac_rfl
theorem Owed_s (c : Dev nD) (g a b : ℕ) (h : b < 28) :
    Owed c g a b = Owed c g a (b + 1) + tallyAt (dcell (pr c (b % 7)) (rs (sl c) (b / 7))) () NS := by
  unfold Owed; rw [Owed_step h]; ac_rfl
theorem Owed_done (c : Dev nD) : Owed c 7 28 28 = 0 := by
  unfold Owed; simp only [Finset.Ico_self, Finset.sum_empty, add_zero]

end Decode
-- ==== Proof.State.lean ====
/-
  What device `c` holds at a point of the kernel, as a function of how far each of its activities has come.

  The counters: `sg` signals sent, `br` (0 or 1) barrier passed, `le` and `lw` loads started and awaited, `hn` heads computed,
  `sn`, `ss` sends of numerators and statistics started and `wn`, `ws` awaited, `rv` arrivals awaited, `dr` heads merged,
  `out` results stored.
-/
module

public import proofs.«01_k».proof.Proof.Schedule

@[expose] public section

noncomputable section

namespace Decode

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

/-- The program `p` of device `c` runs to `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The records of all cells -/

/-- The semaphore of record `k`: the barrier for 0, which stands for no DMA cell of the body's own. -/
def csem (k : Fin 133) : SemLoc sig := if k = 0 then .reg barS else .dma (dsem k.val)
def kcell (ck : Dev nD × Fin 133) : GSem nD τ sig := ((ck.1 : Thread nD τ), csem ck.2)

/-- A cell's record: its invariant, and that its round 0 is reached. -/
def rec1 (g : GSem nD τ sig) : sProp 𝕄 := iprop(∃ κ : ℕ, cellInv ER (rd m) κ g ∗ reached ER g 0)
def recs : sProp 𝕄 := bigSep Finset.univ fun ck : Dev nD × Fin 133 => rec1 m (kcell ck)

instance rec1_persistent (g : GSem nD τ sig) : BI.Persistent (rec1 m g) := by unfold rec1; infer_instance
instance recs_persistent : BI.Persistent (recs m) := by unfold recs; infer_instance

theorem recs_at (ck : Dev nD × Fin 133) : recs m ⊢ rec1 m (kcell ck) :=
  bigSep_elim (Φ := fun ck : Dev nD × Fin 133 => rec1 m (kcell ck)) (Finset.mem_univ ck)
theorem kcell_bar (c : Dev nD) (k : Fin 133) (h : k = 0) : kcell (c, k) = barCell c := by
  unfold kcell csem
  rw [if_pos h]
theorem kcell_dma (c : Dev nD) (k : Fin 133) (h : k ≠ 0) : kcell (c, k) = dcell c k.val := by
  unfold kcell csem
  rw [if_neg h]
theorem recs_bar (c : Dev nD) : recs m ⊢ rec1 m (barCell c) :=
  (recs_at m (c, 0)).trans (Entails.of_eq (congrArg (rec1 m) (kcell_bar c 0 rfl)))
theorem recs_dma (c : Dev nD) (i : ℕ) (h1 : 1 ≤ i) (hi : i < 133) : recs m ⊢ rec1 m (dcell c i) := by
  have hk : (⟨i, hi⟩ : Fin 133) ≠ 0 := fun h => by have h' := congrArg Fin.val h; change i = 0 at h'; omega
  have h := recs_at m (c, ⟨i, hi⟩)
  rw [kcell_dma c _ hk] at h
  exact h

/-! ## The parts -/

/-- Of the two kinds of sends, numerators (`false`) and statistics (`true`): -/
def got (c : Dev nD) (b : Bool) (s h : ℕ) (q : PosShare TreeShare) : sProp 𝕄 := match b with
  | false => gotN m c s h q
  | true => gotS m c s h q
def land (c : Dev nD) (b : Bool) (s h : ℕ) : sProp 𝕄 := match b with
  | false => landN (F := F) c s h
  | true => landS (F := F) c s h
def si (b : Bool) (n : ℕ) : ℕ := match b with
  | false => 13 + n
  | true => 41 + n
def ri (b : Bool) (s h : ℕ) : ℕ := match b with
  | false => rn s h
  | true => rs s h
def nb (b : Bool) : ℕ := match b with
  | false => NN
  | true => NS

/-- What is owed. -/
def OwP (c : Dev nD) (sg sn ss : ℕ) : sProp 𝕄 := iprop(∃ W : Waits sig Unit, owes (c : Thread nD τ) (Owed c sg sn ss) W)

/-- The signals still to send: for each the peer's duty and the landing slot that it hands over. -/
def SgP (c : Dev nD) (sg : ℕ) : sProp 𝕄 := bigSep (Finset.Ico sg 7) fun j =>
  iprop(dutyTok ER (barCell (pr c j)) 0 j ∗ barPay (F := F) (pr c j) j)

/-- The barrier: before, the credit for its seven units; after, the cell closed. -/
def BrP (c : Dev nD) (br : ℕ) : sProp 𝕄 :=
  if br = 0 then iprop(cred (tallyAt (barCell c) () 7) ∗ atPos ER (barCell c) 0 ∅ 0) else semVal (barCell c) 0

/-- What the `n`-th load needs: its source, under the right half of a whole share, and its destination. -/
def lpre (c : Dev nD) (n : ℕ) : sProp 𝕄 :=
  if n % 3 = 0 then iprop((locA1 c ↦[kvsSet (4 * sG c + n / 3)]{fullShare.right} (m (locA1 c) : Buf (Elt F) (locA1 c)))
    ∗ ∃ f : Buf (Elt F) (locK c), locK c ↦[kvSet (n / 3)]{fullShare} f)
  else if n % 3 = 1 then iprop((locA2 c ↦[kvsSet (4 * sG c + n / 3)]{fullShare.right} (m (locA2 c) : Buf (Elt F) (locA2 c)))
    ∗ ∃ f : Buf (Elt F) (locV c), locV c ↦[kvSet (n / 3)]{fullShare} f)
  else iprop((locA0 c ↦[qsSet (4 * sG c + n / 3)]{fullShare.right} (m (locA0 c) : Buf (Elt F) (locA0 c)))
    ∗ ∃ f : Buf (Elt F) (locQ c), locQ c ↦[qSet (n / 3)]{fullShare} f)

/-- The loads: to start, under way, and awaited. -/
def LdP (c : Dev nD) (le lw : ℕ) : sProp 𝕄 := iprop(
  (bigSep (Finset.Ico le 12) fun n => iprop(dutyTok ER (dcell c (li n)) 0 0 ∗ lpre m c n))
  ∗ (bigSep (Finset.Ico lw le) fun n => cred (tallyAt (dcell c (li n)) () (amt (li n))))
  ∗ (bigSep (Finset.Ico lw 12) fun n => atPos ER (dcell c (li n)) 0 ∅ 0)
  ∗ (bigSep (Finset.Ico 0 lw) fun n => semVal (dcell c (li n)) 0)
  ∗ (bigSep (Finset.Ico 0 lw) fun n => dmaPay m c (li n)))

/-- One's own slot: the heads not yet computed, and of those computed and not merged the share that no send borrows. -/
def OwnP (c : Dev nD) (hn dr : ℕ) : sProp 𝕄 := iprop(
  (bigSep (Finset.Ico hn 4) fun h => iprop(land (F := F) c false (sl c) h ∗ land (F := F) c true (sl c) h))
  ∗ (bigSep (Finset.Ico dr hn) fun h => iprop(got m c false (sl c) h (Transfers.shareDrop fullShare 7) ∗ got m c true (sl c) h (Transfers.shareDrop fullShare 7))))

/-- The sends of one kind: to start (the two duties, the peer's landing head once the barrier is passed, and the source's
    share once the head is computed), under way, and awaited (the source's share, until the head is merged). -/
def SnP (c : Dev nD) (b : Bool) (br hn sn wn dr : ℕ) : sProp 𝕄 := iprop(
  (bigSep (Finset.Ico sn 28) fun n => iprop(dutyTok ER (dcell c (si b n)) 0 0 ∗ dutyTok ER (dcell (pr c (n % 7)) (ri b (sl c) (n / 7))) 0 0))
  ∗ (if br = 0 then emp else bigSep (Finset.Ico sn 28) fun n => land (F := F) (pr c (n % 7)) b (sl c) (n / 7))
  ∗ (bigSep (Finset.Ico sn (7 * hn)) fun n => got m c b (sl c) (n / 7) (Transfers.shareTokN fullShare (n % 7)))
  ∗ (bigSep (Finset.Ico wn sn) fun n => cred (tallyAt (dcell c (si b n)) () (nb b)))
  ∗ (bigSep (Finset.Ico wn 28) fun n => atPos ER (dcell c (si b n)) 0 ∅ 0)
  ∗ (bigSep (Finset.Ico 0 wn) fun n => semVal (dcell c (si b n)) 0)
  ∗ (bigSep (Finset.Ico (7 * dr) wn) fun n => got m c b (sl c) (n / 7) (Transfers.shareTokN fullShare (n % 7))))

/-- The arrivals, both kinds, slot by slot within each head: to await, and arrived. -/
def RvP (c : Dev nD) (rv dr : ℕ) : sProp 𝕄 := iprop(
  (bigSep (Finset.Ico rv 32) fun r => if r % 8 = sl c then iprop(emp) else
    iprop(cred (tallyAt (dcell c (rn (r % 8) (r / 8))) () NN) ∗ cred (tallyAt (dcell c (rs (r % 8) (r / 8))) () NS)))
  ∗ (bigSep (Finset.Ico rv 32) fun r => iprop(atPos ER (dcell c (rn (r % 8) (r / 8))) 0 ∅ 0 ∗ atPos ER (dcell c (rs (r % 8) (r / 8))) 0 ∅ 0))
  ∗ (bigSep (Finset.Ico 0 rv) fun r => iprop(semVal (dcell c (rn (r % 8) (r / 8))) 0 ∗ semVal (dcell c (rs (r % 8) (r / 8))) 0))
  ∗ (bigSep (Finset.Ico (8 * dr) rv) fun r => if r % 8 = sl c then iprop(emp) else
    iprop(got m c false (r % 8) (r / 8) fullShare ∗ got m c true (r % 8) (r / 8) fullShare)))

/-- The heads merged: every slot, whole. -/
def FuP (c : Dev nD) (dr : ℕ) : sProp 𝕄 := bigSep (Finset.Ico 0 dr) fun h =>
  iprop((locN c ↦[nHead h]{fullShare} (numV m : Buf (Elt F) (locN c))) ∗ (locS c ↦[sHead h]{fullShare} (statV m : Buf (Elt F) (locS c))))

/-- The place of head `n` in the order in which the results are stored. -/
def ord (n : ℕ) : ℕ := 4 * (n % 4) + n / 4

/-- The output: the first `out` results stored. -/
def OuP (c : Dev nD) (out : ℕ) : sProp 𝕄 := iprop(∃ f : Buf (Elt F) ((c : Thread nD τ).loc cc0_stg0_0),
  ⌜∀ i : S8x8x16x128.Idx, ord (i 2).val < out → (f : cc0_stg0_0.ty.Contents (Elt F)) i = outV m i⌝ ∗ ((c : Thread nD τ).loc cc0_stg0_0 ↦{fullShare} f))

/-- All of it. -/
def St (c : Dev nD) (sg br le lw hn sn ss wn ws rv dr out : ℕ) : sProp 𝕄 := iprop(
  recs m ∗ levAts L lv ∗ OwP (F := F) c sg sn ss ∗ SgP (F := F) c sg ∗ BrP (F := F) c br ∗ LdP m c le lw ∗ OwnP m c hn dr
    ∗ SnP m c false br hn sn wn dr ∗ SnP m c true br hn ss ws dr ∗ RvP m c rv dr ∗ FuP m c dr ∗ OuP m c out)

/-! ## Waiting on a DMA cell, and closing it -/

theorem wait_dma (c : Dev nD) (i n : ℕ) (h1 : 1 ≤ i) (hi : i < 133) (hl : live c i) (hn : n = amt i)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma (dsem i)) n K)
    {α : Type} {k : PUnit → Prog (TpuEff nD τ sig (Elt F) Λ₀ .tc) α} {Q : α → sProp 𝕄} (a b d : ℕ)
    (hm : (levAts L lv : sProp 𝕄) ⊢ MayWait (c : Thread nD τ) (.dma (dsem i)) () (Owed c a b d)) :
    iprop(recs m ∗ levAts L lv ∗ OwP (F := F) c a b d ∗ cred (tallyAt (dcell c i) () n) ∗ atPos ER (dcell c i) 0 ∅ 0)
      ⊢ iprop(((OwP (F := F) c a b d ∗ semVal (dcell c i) 0 ∗ dmaPay m c i) -∗ WP c (k ⟨⟩) Q) -∗ WP c (.op w k) Q) := by
  subst hn
  unfold OwP
  iintro ⟨#HR, #Hlev, ⟨%W, HO⟩, Hc, Hat⟩
  ihave #Hr := (recs_dma m c i h1 hi) $$ HR
  unfold rec1
  icases Hr with ⟨%κ, #HI, #Hre⟩
  iintro Hk
  iapply (Rounds.wp_wait_rest_token 𝒱₀ ER (rd m) (c : Thread nD τ) none (κ := κ) hw (Set.mem_univ _) () (O := Owed c a b d) (W := W) (R := 0) (m := 0) (T := ∅)
      (by rw [Nat.zero_add, expect_dma m c i hi hl])) $$ [Hc HO Hat]
  · isplitr; · iexact HI
    isplitl [Hc]; · iexact Hc
    isplitl [HO]; · iexact HO
    isplitr; · iapply hm; iexact Hlev
    iexact Hat
  iintro ⟨HO, Hat, -, Hpay⟩
  ihave Hp := (Entails.of_eq (rest_dma m c i hi hl)) $$ Hpay
  imod (Rounds.cell_close ER (rd m) (Set.mem_univ κ) (fun h => h) (R := 0 + 1) (duties_later m (dcell c i))) $$ [Hat] with Hz
  · isplitr; · iexact HI
    iexact Hat
  iapply Hk
  isplitl [HO]; · iexists _; iexact HO
  isplitl [Hz]; · iexact Hz
  iexact Hp

theorem wait_bar (c : Dev nD) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.reg barS) 7 K)
    {α : Type} {k : PUnit → Prog (TpuEff nD τ sig (Elt F) Λ₀ .tc) α} {Q : α → sProp 𝕄} (a b d : ℕ)
    (hm : (levAts L lv : sProp 𝕄) ⊢ MayWait (c : Thread nD τ) (.reg barS) () (Owed c a b d)) :
    iprop(recs m ∗ levAts L lv ∗ OwP (F := F) c a b d ∗ cred (tallyAt (barCell c) () 7) ∗ atPos ER (barCell c) 0 ∅ 0)
      ⊢ iprop(((OwP (F := F) c a b d ∗ semVal (barCell c) 0 ∗ bigSep (Finset.range 7) fun j => barPay (F := F) c j) -∗ WP c (k ⟨⟩) Q) -∗ WP c (.op w k) Q) := by
  unfold OwP
  iintro ⟨#HR, #Hlev, ⟨%W, HO⟩, Hc, Hat⟩
  ihave #Hr := (recs_bar m c) $$ HR
  unfold rec1
  icases Hr with ⟨%κ, #HI, #Hre⟩
  iintro Hk
  iapply (Rounds.wp_wait_rest_token 𝒱₀ ER (rd m) (c : Thread nD τ) none (κ := κ) hw (Set.mem_univ _) () (O := Owed c a b d) (W := W) (R := 0) (m := 0) (T := ∅)
      (by rw [Nat.zero_add, expect_bar m c])) $$ [Hc HO Hat]
  · isplitr; · iexact HI
    isplitl [Hc]; · iexact Hc
    isplitl [HO]; · iexact HO
    isplitr; · iapply hm; iexact Hlev
    iexact Hat
  iintro ⟨HO, Hat, -, Hpay⟩
  ihave Hp := (Entails.of_eq (rest_bar m c)) $$ Hpay
  imod (Rounds.cell_close ER (rd m) (Set.mem_univ κ) (fun h => h) (R := 0 + 1) (duties_later m (barCell c))) $$ [Hat] with Hz
  · isplitr; · iexact HI
    iexact Hat
  iapply Hk
  isplitl [HO]; · iexists _; iexact HO
  isplitl [Hz]; · iexact Hz
  iexact Hp

/-- A receive cell of one's own slot closes without a wait. -/
theorem close_own (c : Dev nD) (i : ℕ) (hi : i < 133) (h68 : 68 < i) (hs : slotOf i = sl c) :
    iprop(recs m ∗ atPos ER (dcell c i) 0 ∅ 0) ⊢ iprop(|={Set.univ}=> semVal (dcell c i) 0) := by
  iintro ⟨#HR, Hat⟩
  ihave #Hr := (recs_dma m c i (by omega) hi) $$ HR
  unfold rec1
  icases Hr with ⟨%κ, #HI, #Hre⟩
  iapply (Rounds.cell_close ER (rd m) (Set.mem_univ κ) (fun h => h) (R := 0) (duties_own m c i hi h68 hs))
  isplitr; · iexact HI
  iexact Hat

end Decode
-- ==== Proof.StepsA.lean ====
/-
  One step of the kernel for each kind of operation: the first half, with the signals, the barrier, the loads and the waits.

  Each theorem moves one counter of the device's state: what runs from the next state runs from this one behind the operation.
-/
module

public import proofs.«01_k».proof.Proof.State
public import Idealize.SL.BI.BigOpNat

@[expose] public section

noncomputable section

namespace Decode

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-- The first summand of a range set apart, and a range extended by one summand. -/
theorem pop {a b : ℕ} (h : a < b) (A : ℕ → sProp 𝕄) : bigSep (Finset.Ico a b) A ⊢ iprop(A a ∗ bigSep (Finset.Ico (a + 1) b) A) :=
  Entails.of_eq (bigSep_Ico_succ_bot h A)
theorem push {a b : ℕ} (h : a ≤ b) (A : ℕ → sProp 𝕄) : iprop(A b ∗ bigSep (Finset.Ico a b) A) ⊢ bigSep (Finset.Ico a (b + 1)) A :=
  Entails.of_eq (bigSep_Ico_succ_top h A).symm
/-- A range counted from its first number. -/
theorem shift (a k : ℕ) (A : ℕ → sProp 𝕄) : bigSep (Finset.Ico a (a + k)) A = bigSep (Finset.range k) fun j => A (a + j) := by
  have e : Finset.Ico a (a + k) = (Finset.range k).image (fun j => a + j) := by
    ext x
    simp only [Finset.mem_Ico, Finset.mem_image, Finset.mem_range]
    exact ⟨fun h => ⟨x - a, by omega, by omega⟩, fun ⟨j, h1, h2⟩ => by omega⟩
  rw [e, BI.bigSep_image_of_injOn (fun x _ y _ h => Nat.add_left_cancel h)]
/-- Two nested products exchanged. -/
theorem swap (s t : Finset ℕ) (Φ : ℕ → ℕ → sProp 𝕄) :
    (bigSep s fun i => bigSep t fun j => Φ i j) = bigSep t fun j => bigSep s fun i => Φ i j := by
  induction s using Finset.induction_on with
  | empty => simp
  | insert i s hi ih =>
    rw [bigSep_insert hi, ih]
    refine (bigSep_sep' t (fun j => Φ i j) (fun j => bigSep s fun i => Φ i j)).symm.trans ?_
    exact bigSep_congr fun j _ => (bigSep_insert hi (Φ := fun i => Φ i j)).symm
/-- A range cut in two. -/
theorem cut {a b d : ℕ} (h : a ≤ b) (h' : b ≤ d) (A : ℕ → sProp 𝕄) :
    bigSep (Finset.Ico a d) A = iprop(bigSep (Finset.Ico a b) A ∗ bigSep (Finset.Ico b d) A) := by
  have e : Finset.Ico a d = Finset.Ico a b ∪ Finset.Ico b d := by
    ext x
    simp only [Finset.mem_union, Finset.mem_Ico]
    omega
  rw [e, bigSep_union (Finset.disjoint_left.mpr fun x h1 h2 => by
    simp only [Finset.mem_Ico] at h1 h2; omega)]
  rfl
/-- A range cut in blocks of equal length. -/
theorem blocks (b : ℕ) (A : ℕ → sProp 𝕄) : ∀ k, bigSep (Finset.Ico 0 (b * k)) A
    = bigSep (Finset.range k) fun h => bigSep (Finset.range b) fun j => A (b * h + j)
  | 0 => by rw [Nat.mul_zero, Finset.Ico_self, Finset.range_zero, bigSep_empty, bigSep_empty]
  | k + 1 => by
    have e : Finset.Ico 0 (k + 1) = Finset.range (k + 1) := by rw [Finset.range_eq_Ico]
    have e' : Finset.Ico 0 k = Finset.range k := by rw [Finset.range_eq_Ico]
    rw [← e, bigSep_Ico_succ_top (Nat.zero_le k), e', ← blocks b A k, ← shift (b * k) b A, show b * k + b = b * (k + 1) from rfl,
      cut (Nat.zero_le (b * k)) (show b * k ≤ b * (k + 1) from Nat.mul_le_mul_left _ (Nat.le_succ k))]
    exact BI.Entails.antisymm BI.sep_comm BI.sep_comm
/-- The same elements under another name of their set. -/
theorem pts_set {ℓ : Loc nD τ sig} {S T : Finset (Idx ℓ)} {q : PosShare TreeShare} {f : Buf (Elt F) ℓ} (h : S = T) :
    (ℓ ↦[S]{q} f : sProp 𝕄) ⊢ ℓ ↦[T]{q} f := by
  subst h; exact BI.Entails.refl _
/-- The same elements with contents that agree on them. -/
theorem pts_val {ℓ : Loc nD τ sig} {S T : Finset (Idx ℓ)} {q : PosShare TreeShare} {f g : Buf (Elt F) ℓ} (h : S = T) (hv : ∀ i ∈ T, f i = g i) :
    (ℓ ↦[S]{q} f : sProp 𝕄) ⊢ ℓ ↦[T]{q} g := by
  subst h; exact Entails.of_eq (pointsTo_congr hv)
/-- One summand of a range, borrowed. -/
theorem borrow {a b k : ℕ} (h : a ≤ k ∧ k < b) (A : ℕ → sProp 𝕄) :
    bigSep (Finset.Ico a b) A ⊢ iprop(A k ∗ (A k -∗ bigSep (Finset.Ico a b) A)) := by
  have e : bigSep (Finset.Ico a b) A = iprop(A k ∗ bigSep ((Finset.Ico a b).erase k) A) := bigSep_erase (Finset.mem_Ico.mpr h)
  iintro H
  ihave H := (Entails.of_eq e) $$ H
  icases H with ⟨H1, H2⟩
  isplitl [H1]; · iexact H1
  iintro H1
  iapply (Entails.of_eq e.symm)
  isplitl [H1]; · iexact H1
  iexact H2

variable {α : Type} {Q : α → sProp (MT nD τ sig Unit (Elt F) ℕ UU ℕ)} (c : Dev nD) {sg br le lw hn sn ss wn ws rv dr out : ℕ}

/-! ## The signals and the barrier -/

theorem st_signal {k : PUnit → Prog (TpuEff nD τ sig (Elt F) Λ₀ .tc) α} {d : Dev nD} {n : ℤ}
    (hg : sg < 7) (hd : d = pr c sg) (hn1 : n = 1)
    (hk : St m c (sg + 1) br le lw hn sn ss wn ws rv dr out ⊢ WP c (k ⟨⟩) Q) :
    St m c sg br le lw hn sn ss wn ws rv dr out ⊢ WP c (.op (.semSignal ((d, .tc) : Thread nD τ) barS n) k) Q := by
  subst hd hn1
  unfold St OwP SgP
  iintro ⟨#HR, #Hlev, ⟨%W, HO⟩, Hsg, Hbr, Hld, Hown, HsN, HsS, Hrv, Hfu, Hou⟩
  icases (pop hg _) $$ Hsg with ⟨⟨Ht, Hpay⟩, Hsg⟩
  ihave #Hr := (recs_bar m (pr c sg)) $$ HR
  unfold rec1
  icases Hr with ⟨%κ, #HI, #Hre⟩
  iapply (Rounds.wp_signal 𝒱₀ ER (rd m) (c : Thread nD τ) none (dst := (pr c sg : Thread nD τ)) (κ := κ) (r := 0) (d := sg)
      (by rw [duties_bar]; exact Finset.mem_range.mpr hg) (amount_bar m (pr c sg) sg) () (Owed c (sg + 1) sn ss) (Owed_sig c sg sn ss hg)) $$ [HO Ht Hpay]
  · isplitr; · iexact HI
    isplitl [HO]; · iexact HO
    isplitl [Ht]; · iexact Ht
    isplitl [Hpay]; · rw [payload_bar]; iexact Hpay
    iexact Hre
  iintro HO
  iapply hk
  unfold St OwP SgP
  iframe HR Hlev Hsg Hbr Hld Hown HsN HsS Hrv Hfu Hou
  iexists W; iexact HO

theorem land_collect : (bigSep (Finset.range 7) fun j => barPay (F := F) c j)
    ⊢ iprop((bigSep (Finset.Ico 0 28) fun n => land (F := F) (pr c (n % 7)) false (sl c) (n / 7))
      ∗ (bigSep (Finset.Ico 0 28) fun n => land (F := F) (pr c (n % 7)) true (sl c) (n / 7))) := by
  have key (Φ Ψ : ℕ → ℕ → sProp 𝕄) : (bigSep (Finset.range 7) fun j => bigSep (Finset.range 4) fun h => iprop(Φ j h ∗ Ψ j h))
      = iprop((bigSep (Finset.Ico 0 28) fun n => Φ (n % 7) (n / 7)) ∗ (bigSep (Finset.Ico 0 28) fun n => Ψ (n % 7) (n / 7))) := by
    have e (Θ : ℕ → ℕ → sProp 𝕄) : (bigSep (Finset.Ico 0 28) fun n => Θ (n % 7) (n / 7))
        = bigSep (Finset.range 7) fun j => bigSep (Finset.range 4) fun h => Θ j h := by
      rw [show 28 = 7 * 4 from rfl, blocks 7, swap]
      refine BI.bigSep_congr fun j hj => BI.bigSep_congr fun h _ => ?_
      have hj := Finset.mem_range.mp hj
      rw [show (7 * h + j) % 7 = j by omega, show (7 * h + j) / 7 = h by omega]
    rw [e, e, ← bigSep_sep']
    exact BI.bigSep_congr fun j _ => bigSep_sep' _ _ _
  exact Entails.of_eq (key (fun j h => landN (F := F) (pr c j) (sl c) h) (fun j h => landS (F := F) (pr c j) (sl c) h))

theorem st_barrier {k : PUnit → Prog (TpuEff nD τ sig (Elt F) Λ₀ .tc) α} {n : ℤ} (hn7 : n = 7)
    (hk : St m c 7 1 le lw hn 0 0 wn ws rv dr out ⊢ WP c (k ⟨⟩) Q) :
    St m c 7 0 le lw hn 0 0 wn ws rv dr out ⊢ WP c (.op (.semWait barS n) k) Q := by
  subst hn7
  unfold St BrP SnP
  rw [if_pos rfl]
  iintro ⟨#HR, #Hlev, HO, Hsg, ⟨Hcr, Hat⟩, Hld, Hown, ⟨HsN1, -, HsN⟩, ⟨HsS1, -, HsS⟩, Hrv, Hfu, Hou⟩
  iapply (wait_bar m c (wpE_semWait_eq (k := 7) 𝒱₀ (c : Thread nD τ) none Set.univ) 7 0 0
    (mayWait_of c _ 1 7 0 0 (by rw [lv_bar]) (fun h => absurd h (by omega)) (fun n _ _ => by omega) (fun n _ _ => by omega))) $$ [HO Hcr Hat]
  · iframe HR Hlev HO Hcr Hat
  iintro ⟨HO, Hz, Hpay⟩
  icases (land_collect c) $$ Hpay with ⟨HlN, HlS⟩
  iapply hk
  unfold St BrP SnP
  rw [if_neg Nat.one_ne_zero, if_neg Nat.one_ne_zero, if_neg Nat.one_ne_zero]
  iframe HR Hlev HO Hsg Hld Hown Hrv Hfu Hou Hz HsN1 HlN HsN HsS1 HlS HsS

/-! ## Waiting on the loads and the sends -/

theorem st_wait_load {k : PUnit → Prog (TpuEff nD τ sig (Elt F) Λ₀ .tc) α} {sp sp' : Space} {s s' : Shape} {e e' : EltTy} {sem : DmaSem sig}
    {src : Memref sig .tc sp' s' e'} {dst : Memref sig .tc sp s e} {hsrc : src.view.WordExact} {hdst : dst.view.WordExact}
    (hl : lw < 12) (hle : lw < le) (hs : sem = dsem (li lw)) (hN : dst.view.dmaCredit = amt (li lw))
    (hk : St m c sg br le (lw + 1) hn sn ss wn ws rv dr out ⊢ WP c (k ⟨⟩) Q) :
    St m c sg br le lw hn sn ss wn ws rv dr out ⊢ WP c (.op (.waitDma2 sem src dst hsrc hdst) k) Q := by
  subst hs
  have hli := live_li c lw hl
  unfold St LdP
  iintro ⟨#HR, #Hlev, HO, Hsg, Hbr, ⟨Hst, Hcr, Hat, Hz, Hp⟩, Hrest⟩
  icases (pop hle _) $$ Hcr with ⟨Hcr1, Hcr⟩
  icases (pop hl _) $$ Hat with ⟨Hat1, Hat⟩
  rw [← hN]
  iapply (wait_dma m c (li lw) dst.view.dmaCredit hli.1.1 hli.2 hli.1 hN (wpE_waitDma2_eq 𝒱₀ (c : Thread nD τ) none Set.univ) sg sn ss
    (mayWait_of c _ 0 sg sn ss (by rw [lv_dma c _ hli.2]; unfold li; split <;> omega) (fun _ => by omega) (fun n _ _ => by omega) (fun n _ _ => by omega))) $$ [HO Hcr1 Hat1]
  · iframe HR Hlev HO Hcr1 Hat1
  iintro ⟨HO, Hz1, Hp1⟩
  iapply hk
  unfold St LdP
  icases Hrest with ⟨Hown, HsN, HsS, Hrv, Hfu, Hou⟩
  iframe HR Hlev HO Hsg Hbr Hst Hcr Hat Hown HsN HsS Hrv Hfu Hou
  isplitl [Hz Hz1]
  · iapply (push (Nat.zero_le lw) _); iframe Hz1 Hz
  · iapply (push (Nat.zero_le lw) _); iframe Hp1 Hp

theorem si_pos (b : Bool) (n : ℕ) (hn : n < 28) : live c (si b n) ∧ si b n < 133 := by
  cases b
  · exact live_n c n hn
  · exact live_s c n hn
theorem amt_si (b : Bool) (n : ℕ) (hn : n < 28) : amt (si b n) = nb b := by
  cases b
  · exact amt_n n hn
  · exact amt_s n hn
theorem dmaPay_si (b : Bool) (n : ℕ) (hn : n < 28) : dmaPay m c (si b n) = got m c b (sl c) (n / 7) (Transfers.shareTokN fullShare (n % 7)) := by
  cases b
  · exact dmaPay_n m c n hn
  · exact dmaPay_s m c n hn
theorem lv_si (b : Bool) (n : ℕ) (hn : n < 28) : lv (dcell c (si b n)) () = 0 := by
  rw [lv_dma c _ (si_pos c b n hn).2, if_pos]
  cases b
  · show 13 + n ≤ 68; omega
  · show 41 + n ≤ 68; omega

/-- One wait on the sends of one kind, on its part of the state alone. -/
theorem wait_send {b : Bool} {k : PUnit → Prog (TpuEff nD τ sig (Elt F) Λ₀ .tc) α} {sp sp' : Space} {s s' : Shape} {e e' : EltTy} {sem : DmaSem sig}
    {src : Memref sig .tc sp' s' e'} {dst : Memref sig .tc sp s e} {hsrc : src.view.WordExact} {hdst : dst.view.WordExact} {x y z : ℕ}
    (hl : wn < 28) (hle : wn < sn) (hdr : 7 * dr ≤ wn) (hs : sem = dsem (si b wn)) (hN : dst.view.dmaCredit = nb b) :
    iprop(recs m ∗ levAts L lv ∗ OwP (F := F) c x y z ∗ SnP m c b br hn sn wn dr)
      ⊢ iprop(((OwP (F := F) c x y z ∗ SnP m c b br hn sn (wn + 1) dr) -∗ WP c (k ⟨⟩) Q) -∗ WP c (.op (.waitDma2 sem src dst hsrc hdst) k) Q) := by
  subst hs
  have hli := si_pos c b wn hl
  have hN' : dst.view.dmaCredit = amt (si b wn) := hN.trans (amt_si b wn hl).symm
  have hpos : 1 ≤ si b wn := hli.1.1
  unfold SnP
  iintro ⟨#HR, #Hlev, HO, Htk, Hld, Hsh, Hcr, Hat, Hz, Hp⟩ Hk
  icases (pop hle _) $$ Hcr with ⟨Hcr1, Hcr⟩
  icases (pop hl _) $$ Hat with ⟨Hat1, Hat⟩
  rw [← hN]
  iapply (wait_dma m c (si b wn) dst.view.dmaCredit hpos hli.2 hli.1 hN' (wpE_waitDma2_eq 𝒱₀ (c : Thread nD τ) none Set.univ) x y z
    (mayWait_of c _ 0 x y z (by rw [lv_si c b wn hl]) (fun _ => by omega) (fun n _ _ => by omega) (fun n _ _ => by omega))) $$ [HO Hcr1 Hat1]
  · iframe HR Hlev HO Hcr1 Hat1
  iintro ⟨HO, Hz1, Hp1⟩
  iapply Hk
  iframe HO Htk Hld Hsh Hcr Hat
  isplitl [Hz Hz1]
  · iapply (push (Nat.zero_le wn) _); iframe Hz1 Hz
  · iapply (push hdr _)
    ihave Hp1 := (Entails.of_eq (dmaPay_si m c b wn hl)) $$ Hp1
    iframe Hp1 Hp

theorem st_wait_n {k : PUnit → Prog (TpuEff nD τ sig (Elt F) Λ₀ .tc) α} {sp sp' : Space} {s s' : Shape} {e e' : EltTy} {sem : DmaSem sig}
    {src : Memref sig .tc sp' s' e'} {dst : Memref sig .tc sp s e} {hsrc : src.view.WordExact} {hdst : dst.view.WordExact}
    (hl : wn < 28) (hle : wn < sn) (hdr : 7 * dr ≤ wn) (hs : sem = dsem (si false wn)) (hN : dst.view.dmaCredit = nb false)
    (hk : St m c sg br le lw hn sn ss (wn + 1) ws rv dr out ⊢ WP c (k ⟨⟩) Q) :
    St m c sg br le lw hn sn ss wn ws rv dr out ⊢ WP c (.op (.waitDma2 sem src dst hsrc hdst) k) Q := by
  unfold St
  iintro ⟨#HR, #Hlev, HO, Hsg, Hbr, Hld, Hown, HsN, HsS, Hrv, Hfu, Hou⟩
  iapply (wait_send m c (b := false) hl hle hdr hs hN) $$ [HO HsN]
  · iframe HR Hlev HO HsN
  iintro ⟨HO, HsN⟩
  iapply hk
  unfold St
  iframe HR Hlev HO Hsg Hbr Hld Hown HsN HsS Hrv Hfu Hou

theorem st_wait_s {k : PUnit → Prog (TpuEff nD τ sig (Elt F) Λ₀ .tc) α} {sp sp' : Space} {s s' : Shape} {e e' : EltTy} {sem : DmaSem sig}
    {src : Memref sig .tc sp' s' e'} {dst : Memref sig .tc sp s e} {hsrc : src.view.WordExact} {hdst : dst.view.WordExact}
    (hl : ws < 28) (hle : ws < ss) (hdr : 7 * dr ≤ ws) (hs : sem = dsem (si true ws)) (hN : dst.view.dmaCredit = nb true)
    (hk : St m c sg br le lw hn sn ss wn (ws + 1) rv dr out ⊢ WP c (k ⟨⟩) Q) :
    St m c sg br le lw hn sn ss wn ws rv dr out ⊢ WP c (.op (.waitDma2 sem src dst hsrc hdst) k) Q := by
  unfold St
  iintro ⟨#HR, #Hlev, HO, Hsg, Hbr, Hld, Hown, HsN, HsS, Hrv, Hfu, Hou⟩
  iapply (wait_send m c (b := true) hl hle hdr hs hN) $$ [HO HsS]
  · iframe HR Hlev HO HsS
  iintro ⟨HO, HsS⟩
  iapply hk
  unfold St
  iframe HR Hlev HO Hsg Hbr Hld Hown HsN HsS Hrv Hfu Hou

/-! ## The arrivals -/

theorem st_recv {β : Type} {X : Prog (TpuEff nD τ sig (Elt F) Λ₀ .tc) β} {K : β → Prog (TpuEff nD τ sig (Elt F) Λ₀ .tc) α} {v : BitVec 1} {sp sp' sp₁ sp₁' : Space} {s s' s₁ s₁' : Shape} {e e' e₁ e₁' : EltTy}
    {semN semS : DmaSem sig}
    {srcN : Memref sig .tc sp' s' e'} {dstN : Memref sig .tc sp s e} {hsrcN : srcN.view.WordExact} {hdstN : dstN.view.WordExact}
    {srcS : Memref sig .tc sp₁' s₁' e₁'} {dstS : Memref sig .tc sp₁ s₁ e₁} {hsrcS : srcS.view.WordExact} {hdstS : dstS.view.WordExact}
    (hr : rv < 32) (hg7 : 7 ≤ sg) (hsn : 7 * (rv / 8 + 1) ≤ sn) (hss : 7 * (rv / 8 + 1) ≤ ss) (hdr : 8 * dr ≤ rv)
    (hv : v = 1#1 ↔ rv % 8 ≠ sl c) (hsN : semN = dsem (rn (rv % 8) (rv / 8))) (hsS : semS = dsem (rs (rv % 8) (rv / 8)))
    (hN : dstN.view.dmaCredit = NN) (hS : dstS.view.dmaCredit = NS)
    (hk : St m c sg br le lw hn sn ss wn ws (rv + 1) dr out ⊢ WP c (X >>= K) Q) :
    St m c sg br le lw hn sn ss wn ws rv dr out ⊢ WP c ((if _h : v = 1#1 then
      (.op (.waitDma2 semN srcN dstN hsrcN hdstN) fun _ => .op (.waitDma2 semS srcS dstS hsrcS hdstS) fun _ => X) else X) >>= K) Q := by
  subst hsN hsS
  have h8 : rv % 8 < 8 := Nat.mod_lt _ (by decide)
  have h4 : rv / 8 < 4 := by omega
  unfold St RvP
  iintro ⟨#HR, #Hlev, HO, Hsg, Hbr, Hld, Hown, HsN, HsS, ⟨Hcr, Hat, Hz, Hp⟩, Hfu, Hou⟩
  icases (pop hr _) $$ Hcr with ⟨Hcr1, Hcr⟩
  icases (pop hr _) $$ Hat with ⟨⟨HatN, HatS⟩, Hat⟩
  by_cases hs : rv % 8 = sl c
  · rw [dif_neg (fun h => hv.mp h hs)]
    have hi1 : rn (rv % 8) (rv / 8) < 133 := by unfold rn; omega
    have hi2 : rs (rv % 8) (rv / 8) < 133 := by unfold rs; omega
    imod (close_own m c _ hi1 (by unfold rn; omega) ((slotOf_rn _ _ h8 h4).trans hs)) $$ [HatN] with HzN
    · iframe HR HatN
    imod (close_own m c _ hi2 (by unfold rs; omega) ((slotOf_rs _ _ h8 h4).trans hs)) $$ [HatS] with HzS
    · iframe HR HatS
    iapply hk
    unfold St RvP
    iframe HR Hlev HO Hsg Hbr Hld Hown HsN HsS Hcr Hat Hfu Hou
    isplitl [Hz HzN HzS]
    · iapply (push (Nat.zero_le rv) _); iframe HzN HzS Hz
    · iapply (push hdr _)
      isplitr [Hp]
      · iapply (Entails.of_eq (if_pos hs).symm); iempintro
      iexact Hp
  · rw [dif_pos (hv.mpr hs)]
    ihave Hcr1 := (Entails.of_eq (if_neg hs)) $$ Hcr1
    icases Hcr1 with ⟨HcN, HcS⟩
    have hlN := live_rn c _ _ h8 h4 hs
    have hlS := live_rs c _ _ h8 h4 hs
    have hN' : dstN.view.dmaCredit = amt (rn (rv % 8) (rv / 8)) := hN.trans (amt_rn _ _ h8 h4).symm
    have hS' : dstS.view.dmaCredit = amt (rs (rv % 8) (rv / 8)) := hS.trans (amt_rs _ _ h8 h4).symm
    rw [← hN, ← hS]
    iapply (wait_dma m c _ dstN.view.dmaCredit hlN.1.1 hlN.2 hlN.1 hN' (wpE_waitDma2_eq 𝒱₀ (c : Thread nD τ) none Set.univ) sg sn ss
      (mayWait_of c _ (2 + rv / 8) sg sn ss (by rw [lv_rn c _ _ h8 h4]) (fun _ => by omega) (fun n _ _ => by omega) (fun n _ _ => by omega))) $$ [HO HcN HatN]
    · iframe HR Hlev HO HcN HatN
    iintro ⟨HO, HzN, HpN⟩
    iapply (wait_dma m c _ dstS.view.dmaCredit hlS.1.1 hlS.2 hlS.1 hS' (wpE_waitDma2_eq 𝒱₀ (c : Thread nD τ) none Set.univ) sg sn ss
      (mayWait_of c _ (2 + rv / 8) sg sn ss (by rw [lv_rs c _ _ h8 h4]) (fun _ => by omega) (fun n _ _ => by omega) (fun n _ _ => by omega))) $$ [HO HcS HatS]
    · iframe HR Hlev HO HcS HatS
    iintro ⟨HO, HzS, HpS⟩
    ihave HpN := (Entails.of_eq (dmaPay_rn m c _ _ h8 h4)) $$ HpN
    ihave HpS := (Entails.of_eq (dmaPay_rs m c _ _ h8 h4)) $$ HpS
    iapply hk
    unfold St RvP
    rw [hN, hS]
    iframe HR Hlev HO Hsg Hbr Hld Hown HsN HsS Hcr Hat Hfu Hou
    isplitl [Hz HzN HzS]
    · iapply (push (Nat.zero_le rv) _); iframe HzN HzS Hz
    · iapply (push hdr _)
      isplitr [Hp]
      · iapply (Entails.of_eq (if_neg hs).symm); unfold got; iframe HpN HpS
      iexact Hp

end Decode
-- ==== Proof.StepsB.lean ====
/-
  One step of the kernel for each kind of operation: the copies of the inputs, the stores of a head's results and the sends.
-/
module

public import proofs.«01_k».proof.Proof.StepsA

@[expose] public section

noncomputable section

namespace Decode

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable {α : Type} {Q : α → sProp (MT nD τ sig Unit (Elt F) ℕ UU ℕ)} (c : Dev nD) {sg br le lw hn sn ss wn ws rv dr out : ℕ}

/-! ## Starting the copy of a head -/

/-- A copy of an input's head, given what its two views need and what they hold afterwards. -/
theorem st_copy {k : PUnit → Prog (TpuEff nD τ sig (Elt F) Λ₀ .tc) α} {sp sp' : Space} {s : Shape} {e : EltTy} {sem : DmaSem sig}
    {src : Memref sig .tc sp s e} {dst : Memref sig .tc sp' s e} {hsrc : src.view.WordExact} {hdst : dst.view.WordExact}
    {hsem : DmaTarget.Typed (nD := nD) (τ := τ) (p := .tc) sp (SemLoc.dma sem) (.here dst)}
    (fs : Buf (Elt F) (src.view.loc (c : Thread nD τ)))
    (hl : le < 12) (hle : lw ≤ le) (hs : sem = dsem (li le)) (hN : dst.view.dmaCredit = amt (li le))
    (hpre : lpre m c le ⊢ iprop((src.view.loc (c : Thread nD τ) ↦[src.view.set]{fullShare.right} fs)
      ∗ ∃ fd : Buf (Elt F) (dst.view.loc (c : Thread nD τ)), dst.view.loc (c : Thread nD τ) ↦[dst.view.set]{fullShare} fd))
    (hpay : ∀ fd : Buf (Elt F) (dst.view.loc (c : Thread nD τ)),
      (dst.view.loc (c : Thread nD τ) ↦[dst.view.set]{fullShare} (dst.view.write (Elt F) fd (src.view.read (Elt F) fs) Finset.univ)) ⊢ dmaPay m c (li le))
    (hk : St m c sg br (le + 1) lw hn sn ss wn ws rv dr out ⊢ WP c (k ⟨⟩) Q) :
    St m c sg br le lw hn sn ss wn ws rv dr out ⊢ WP c (.op (.enqueueDma src (.here dst) (.dma sem) hsrc hdst hsem) k) Q := by
  subst hs
  have hli := live_li c le hl
  have hpos : 1 ≤ li le := hli.1.1
  unfold St LdP
  iintro ⟨#HR, #Hlev, HO, Hsg, Hbr, ⟨Hpre, Hcr, Hat, Hz, Hp⟩, Hown, HsN, HsS, Hrv, Hfu, Hou⟩
  icases (pop hl _) $$ Hpre with ⟨⟨Htk, Hpre1⟩, Hpre⟩
  ihave Hpre1 := hpre $$ Hpre1
  icases Hpre1 with ⟨Hs, ⟨%fd, Hd⟩⟩
  ihave #Hr := (recs_dma m c (li le) hpos hli.2) $$ HR
  unfold rec1
  icases Hr with ⟨%κ, #HI, #Hre⟩
  iapply (Rounds.wp_copy_pointsTo 𝒱₀ ER (rd m) (c : Thread nD τ) none (src := src) (dst := dst) (sem := .dma (dsem (li le))) (κ := κ) (r := 0) (d := 0)
      (by rw [duties_live m c _ hli.2 hli.1]; exact Finset.mem_singleton_self _) () (amt (li le)) hN (amount_dma m c _ hli.2 0)
      (by rw [payload_dma m c _ hli.2]; exact sep_elim_left.trans (hpay fd))) $$ [Htk Hs Hd]
  · isplitr; · iexact HI
    isplitl [Hs]; · iexact Hs
    isplitl [Hd]; · iexact Hd
    isplitl [Htk]; · iexact Htk
    iexact Hre
  iintro Hc
  iapply hk
  unfold St LdP
  iframe HR Hlev HO Hsg Hbr Hown HsN HsS Hrv Hfu Hou Hpre Hat Hz Hp
  iapply (push hle _)
  iframe Hc Hcr

theorem st_load_k {k : PUnit → Prog (TpuEff nD τ sig (Elt F) Λ₀ .tc) α} {sem : DmaSem sig} {off off' : Fin 4 → ℕ}
    {inb : ∀ a, off a + S8x1024x1x128.size a ≤ S8x1024x16x128.size a} {inb' : ∀ a, off' a + S1x8x1024x128.size a ≤ S4x8x1024x128.size a}
    {hsrc} {hdst} {hsem}
    (hl : le < 12) (h3 : le % 3 = 0) (hle : lw ≤ le) (hs : sem = dsem (li le))
    (ho : off = ![0, 0, 4 * sG c + (hd (le / 3)).val, 0]) (ho' : off' = ![(hd (le / 3)).val, 0, 0, 0])
    (hk : St m c sg br (le + 1) lw hn sn ss wn ws rv dr out ⊢ WP c (k ⟨⟩) Q) :
    St m c sg br le lw hn sn ss wn ws rv dr out ⊢ WP c (.op (.enqueueDma
      ((a1M.slice (Rect.unit (s := S8x1024x16x128) off S8x1024x1x128.size inb) (fun _ => rfl)).squeeze S8x1024x128 squeezes_S8x1024x1x128_S8x1024x128)
      (.here ((kM.slice (Rect.unit (s := S4x8x1024x128) off' S1x8x1024x128.size inb') (fun _ => rfl)).squeeze S8x1024x128 squeezes_S1x8x1024x128_S8x1024x128))
      (.dma sem) hsrc hdst hsem) k) Q := by
  have hh : (hd (le / 3)).val = le / 3 := Nat.mod_eq_of_lt (by omega)
  have hi : li le = 1 + (hd (le / 3)).val := by unfold li; omega
  generalize hd (le / 3) = h at ho ho' hh hi
  subst ho ho'
  have h4 := h.isLt
  have hN : amt (li le) = NKV := by unfold amt; rw [if_pos (by omega)]
  refine st_copy m c (m (locA1 c)) hl hle hs (hN ▸ rfl) ?_ (fun fd => ?_) hk
  · unfold lpre; rw [if_pos h3, ← hh]
    refine BI.sep_mono (pts_set (a1View_set c h).symm) ?_
    exact exists_mono fun f => pts_set (kView_set h).symm
  · unfold dmaPay; rw [if_pos (by omega), show li le - 1 = h.val by omega]
    exact pts_val (kView_set h) (kWr_on m c h fd)

theorem st_load_v {k : PUnit → Prog (TpuEff nD τ sig (Elt F) Λ₀ .tc) α} {sem : DmaSem sig} {off off' : Fin 4 → ℕ}
    {inb : ∀ a, off a + S8x1024x1x128.size a ≤ S8x1024x16x128.size a} {inb' : ∀ a, off' a + S1x8x1024x128.size a ≤ S4x8x1024x128.size a}
    {hsrc} {hdst} {hsem}
    (hl : le < 12) (h3 : le % 3 = 1) (hle : lw ≤ le) (hs : sem = dsem (li le))
    (ho : off = ![0, 0, 4 * sG c + (hd (le / 3)).val, 0]) (ho' : off' = ![(hd (le / 3)).val, 0, 0, 0])
    (hk : St m c sg br (le + 1) lw hn sn ss wn ws rv dr out ⊢ WP c (k ⟨⟩) Q) :
    St m c sg br le lw hn sn ss wn ws rv dr out ⊢ WP c (.op (.enqueueDma
      ((a2M.slice (Rect.unit (s := S8x1024x16x128) off S8x1024x1x128.size inb) (fun _ => rfl)).squeeze S8x1024x128 squeezes_S8x1024x1x128_S8x1024x128)
      (.here ((vM.slice (Rect.unit (s := S4x8x1024x128) off' S1x8x1024x128.size inb') (fun _ => rfl)).squeeze S8x1024x128 squeezes_S1x8x1024x128_S8x1024x128))
      (.dma sem) hsrc hdst hsem) k) Q := by
  have hh : (hd (le / 3)).val = le / 3 := Nat.mod_eq_of_lt (by omega)
  have hi : li le = 5 + (hd (le / 3)).val := by unfold li; omega
  generalize hd (le / 3) = h at ho ho' hh hi
  subst ho ho'
  have h4 := h.isLt
  have hN : amt (li le) = NKV := by unfold amt; rw [if_pos (by omega)]
  refine st_copy m c (m (locA2 c)) hl hle hs (hN ▸ rfl) ?_ (fun fd => ?_) hk
  · unfold lpre; rw [if_neg (by omega), if_pos h3, ← hh]
    refine BI.sep_mono (pts_set (a2View_set c h).symm) ?_
    exact exists_mono fun f => pts_set (vView_set h).symm
  · unfold dmaPay; rw [if_neg (by omega), if_pos (by omega), show li le - 5 = h.val by omega]
    exact pts_val (vView_set h) (vWr_on m c h fd)

theorem st_load_q {k : PUnit → Prog (TpuEff nD τ sig (Elt F) Λ₀ .tc) α} {sem : DmaSem sig} {off off' : Fin 4 → ℕ}
    {inb : ∀ a, off a + S8x8x1x128.size a ≤ S8x8x16x128.size a} {inb' : ∀ a, off' a + S1x8x8x128.size a ≤ S4x8x8x128.size a}
    {hsrc} {hdst} {hsem}
    (hl : le < 12) (h3 : le % 3 = 2) (hle : lw ≤ le) (hs : sem = dsem (li le))
    (ho : off = ![0, 0, 4 * sG c + (hd (le / 3)).val, 0]) (ho' : off' = ![(hd (le / 3)).val, 0, 0, 0])
    (hk : St m c sg br (le + 1) lw hn sn ss wn ws rv dr out ⊢ WP c (k ⟨⟩) Q) :
    St m c sg br le lw hn sn ss wn ws rv dr out ⊢ WP c (.op (.enqueueDma
      ((a0M.slice (Rect.unit (s := S8x8x16x128) off S8x8x1x128.size inb) (fun _ => rfl)).squeeze S8x8x128 squeezes_S8x8x1x128_S8x8x128)
      (.here ((qM.slice (Rect.unit (s := S4x8x8x128) off' S1x8x8x128.size inb') (fun _ => rfl)).squeeze S8x8x128 squeezes_S1x8x8x128_S8x8x128))
      (.dma sem) hsrc hdst hsem) k) Q := by
  have hh : (hd (le / 3)).val = le / 3 := Nat.mod_eq_of_lt (by omega)
  have hi : li le = 9 + (hd (le / 3)).val := by unfold li; omega
  generalize hd (le / 3) = h at ho ho' hh hi
  subst ho ho'
  have h4 := h.isLt
  have hN : amt (li le) = NQ := by unfold amt; rw [if_neg (by omega), if_pos (by omega)]
  refine st_copy m c (m (locA0 c)) hl hle hs (hN ▸ rfl) ?_ (fun fd => ?_) hk
  · unfold lpre; rw [if_neg (by omega), if_neg (by omega), ← hh]
    refine BI.sep_mono (pts_set (a0View_set c h).symm) ?_
    exact exists_mono fun f => pts_set (qView_set h).symm
  · unfold dmaPay; rw [if_neg (by omega), if_neg (by omega), if_pos (by omega), show li le - 9 = h.val by omega]
    exact pts_val (qView_set h) (qWr_on m c h fd)

/-! ## Loading a head -/

theorem whole_sub {b : Ref sig .tc} (r : Rect b.ty.shape) (S : Finset b.ty.shape.Idx) (h : r.set = S) :
    (Memref.whole b).view.setOn r.toLoadRect.set ⊆ S := by
  subst h
  intro x hx
  obtain ⟨y, hy, e⟩ := Finset.mem_map.mp hx
  subst e
  exact hy

/-- A load of a piece that a load's completion gave. -/
theorem st_ld {b : Ref sig .tc} {cs : CoreSpace} {r : Rect b.ty.shape}
    {M : Memref sig .tc cs b.ty.shape b.ty.elt} {hl : M.view.LoadsAt r.toLoadRect}
    {k : (r.toLoadRect.shape.Idx → Elt F b.ty.elt) → Prog (TpuEff nD τ sig (Elt F) Λ₀ .tc) α} {n : ℕ} (hw : n < lw)
    (S : Finset (Idx (M.view.loc (c : Thread nD τ)))) (f : Buf (Elt F) (M.view.loc (c : Thread nD τ)))
    (hS : M.view.setOn r.toLoadRect.set ⊆ S)
    (e : dmaPay m c (li n) = (M.view.loc (c : Thread nD τ) ↦[S]{fullShare} f))
    (hk : St m c sg br le lw hn sn ss wn ws rv dr out ⊢ WP c (k (M.view.readAt (Elt F) r.toLoadRect f)) Q) :
    St m c sg br le lw hn sn ss wn ws rv dr out ⊢ WP c (.op (.load M r.toLoadRect hl) k) Q := by
  unfold St LdP
  iintro ⟨#HR, #Hlev, HO, Hsg, Hbr, ⟨Hpre, Hcr, Hat, Hz, Hp⟩, Hown, HsN, HsS, Hrv, Hfu, Hou⟩
  icases (borrow (show 0 ≤ n ∧ n < lw from ⟨Nat.zero_le _, hw⟩) _) $$ Hp with ⟨Hp1, Hback⟩
  ihave Hp1 := (Entails.of_eq e) $$ Hp1
  iapply (wp_load 𝒱₀ (c : Thread nD τ) none Set.univ (m := M) hS) $$ [Hp1]
  · iexact Hp1
  iintro Hp1
  iapply hk
  unfold St LdP
  iframe HR Hlev HO Hsg Hbr Hown HsN HsS Hrv Hfu Hou Hpre Hcr Hat Hz
  iapply Hback
  iapply (Entails.of_eq e.symm)
  iexact Hp1

theorem st_ld_k {off : Fin 4 → ℕ} {inb : ∀ a, off a + S1x8x1024x128.size a ≤ S4x8x1024x128.size a} {hl}
    {k : Vec F S1x8x1024x128 .f32 → Prog (TpuEff nD τ sig (Elt F) Λ₀ .tc) α} (hw : 3 * hn < lw) (h4 : hn < 4) (ho : off = ![(hd hn).val, 0, 0, 0])
    (hk : St m c sg br le lw hn sn ss wn ws rv dr out ⊢ WP c (k (kHead m c (hd hn))) Q) :
    St m c sg br le lw hn sn ss wn ws rv dr out ⊢ WP c (.op (.load kM (Rect.unit (s := S4x8x1024x128) off S1x8x1024x128.size inb).toLoadRect hl) k) Q := by
  have hh : (hd hn).val = hn := Nat.mod_eq_of_lt h4
  generalize hd hn = h at ho hh hk
  subst ho
  refine st_ld m c (b := cc0_scratch1) (M := kM) (r := kvR h) hw (kvSet h.val) (kV m c) (whole_sub _ _ (set_kvR h)) ?_ hk
  unfold dmaPay li; rw [if_pos (by omega), show 1 + 4 * (3 * hn % 3) + 3 * hn / 3 - 1 = h.val by omega]

theorem st_ld_v {off : Fin 4 → ℕ} {inb : ∀ a, off a + S1x8x1024x128.size a ≤ S4x8x1024x128.size a} {hl}
    {k : Vec F S1x8x1024x128 .f32 → Prog (TpuEff nD τ sig (Elt F) Λ₀ .tc) α} (hw : 3 * hn + 1 < lw) (h4 : hn < 4) (ho : off = ![(hd hn).val, 0, 0, 0])
    (hk : St m c sg br le lw hn sn ss wn ws rv dr out ⊢ WP c (k (vHead m c (hd hn))) Q) :
    St m c sg br le lw hn sn ss wn ws rv dr out ⊢ WP c (.op (.load vM (Rect.unit (s := S4x8x1024x128) off S1x8x1024x128.size inb).toLoadRect hl) k) Q := by
  have hh : (hd hn).val = hn := Nat.mod_eq_of_lt h4
  generalize hd hn = h at ho hh hk
  subst ho
  refine st_ld m c (b := cc0_scratch2) (M := vM) (r := kvR h) hw (kvSet h.val) (vV m c) (whole_sub _ _ (set_kvR h)) ?_ hk
  unfold dmaPay li; rw [if_neg (by omega), if_pos (by omega), show 1 + 4 * ((3 * hn + 1) % 3) + (3 * hn + 1) / 3 - 5 = h.val by omega]

theorem st_ld_q {off : Fin 4 → ℕ} {inb : ∀ a, off a + S1x8x8x128.size a ≤ S4x8x8x128.size a} {hl}
    {k : Vec F S1x8x8x128 .f32 → Prog (TpuEff nD τ sig (Elt F) Λ₀ .tc) α} (hw : 3 * hn + 2 < lw) (h4 : hn < 4) (ho : off = ![(hd hn).val, 0, 0, 0])
    (hk : St m c sg br le lw hn sn ss wn ws rv dr out ⊢ WP c (k (qHead m c (hd hn))) Q) :
    St m c sg br le lw hn sn ss wn ws rv dr out ⊢ WP c (.op (.load qM (Rect.unit (s := S4x8x8x128) off S1x8x8x128.size inb).toLoadRect hl) k) Q := by
  have hh : (hd hn).val = hn := Nat.mod_eq_of_lt h4
  generalize hd hn = h at ho hh hk
  subst ho
  refine st_ld m c (b := cc0_scratch0) (M := qM) (r := qR h) hw (qSet h.val) (qV m c) (whole_sub _ _ (set_qR h)) ?_ hk
  unfold dmaPay li; rw [if_neg (by omega), if_neg (by omega), if_pos (by omega), show 1 + 4 * ((3 * hn + 2) % 3) + (3 * hn + 2) / 3 - 9 = h.val by omega]

/-! ## Storing a head -/

/-- The seven shares of a head that the sends borrow, in the count of the sends. -/
theorem toks (b : Bool) (n : ℕ) :
    (bigSep (Finset.range 7) fun j => got m c b (sl c) n (Transfers.shareTokN fullShare j))
      ⊢ bigSep (Finset.Ico (7 * n) (7 * (n + 1))) fun n => got m c b (sl c) (n / 7) (Transfers.shareTokN fullShare (n % 7)) := by
  rw [show 7 * (n + 1) = 7 * n + 7 from rfl, shift]
  refine bigSep_mono fun j hj => ?_
  have hj := Finset.mem_range.mp hj
  rw [show (7 * n + j) / 7 = n by omega, show (7 * n + j) % 7 = j by omega]
  exact BI.Entails.refl _

/-- The numerators stored, then the maxima, then the sums, each behind a load whose value is not used; the head's own slot
    is then shared out: a part kept, a part for each send. -/
theorem st_store {o₁ o₂ o₃ : Fin 6 → ℕ} {i₁ i₁' : ∀ a, o₁ a + S1x1x1x8x8x128.size a ≤ S2x4x4x8x8x128.size a}
    {i₂ i₂' : ∀ a, o₂ a + S1x1x1x1x8x8.size a ≤ S2x4x4x2x8x8.size a} {i₃ i₃' : ∀ a, o₃ a + S1x1x1x1x8x8.size a ≤ S2x4x4x2x8x8.size a}
    {hl₁ hl₂ hl₃ hx₁ hx₂ hx₃ hm₁ hm₂ hm₃} {w₁ : FVec F S1x1x1x8x8x128 .bf16} {w₂ w₃ : FVec F S1x1x1x1x8x8 .f32}
    {k : PUnit → Prog (TpuEff nD τ sig (Elt F) Λ₀ .tc) α} (h4 : hn < 4) (hdr : dr ≤ hn) (hsn : sn ≤ 7 * hn) (hss : ss ≤ 7 * hn)
    (ho₁ : o₁ = ![sY c, sG c, (hd hn).val, 0, 0, 0]) (ho₂ : o₂ = ![sY c, sG c, (hd hn).val, 0, 0, 0]) (ho₃ : o₃ = ![sY c, sG c, (hd hn).val, 1, 0, 0])
    (hw₁ : w₁ = numPay m c (hd hn)) (hw₂ : w₂ = maxPay m c (hd hn)) (hw₃ : w₃ = sumPay m c (hd hn))
    (hk : St m c sg br le lw (hn + 1) sn ss wn ws rv dr out ⊢ WP c (k ⟨⟩) Q) :
    St m c sg br le lw hn sn ss wn ws rv dr out ⊢ WP c
      (.op (.load nM (Rect.unit (s := S2x4x4x8x8x128) o₁ S1x1x1x8x8x128.size i₁).toLoadRect hl₁) fun _ =>
       .op (.store nM (Rect.unit (s := S2x4x4x8x8x128) o₁ S1x1x1x8x8x128.size i₁') w₁ Finset.univ hx₁ hm₁) fun _ =>
       .op (.load sM (Rect.unit (s := S2x4x4x2x8x8) o₂ S1x1x1x1x8x8.size i₂).toLoadRect hl₂) fun _ =>
       .op (.store sM (Rect.unit (s := S2x4x4x2x8x8) o₂ S1x1x1x1x8x8.size i₂') w₂ Finset.univ hx₂ hm₂) fun _ =>
       .op (.load sM (Rect.unit (s := S2x4x4x2x8x8) o₃ S1x1x1x1x8x8.size i₃).toLoadRect hl₃) fun _ =>
       .op (.store sM (Rect.unit (s := S2x4x4x2x8x8) o₃ S1x1x1x1x8x8.size i₃') w₃ Finset.univ hx₃ hm₃) k) Q := by
  have hh : (hd hn).val = hn := Nat.mod_eq_of_lt h4
  generalize hd hn = h at ho₁ ho₂ ho₃ hw₁ hw₂ hw₃ hh
  subst ho₁ ho₂ ho₃ hw₁ hw₂ hw₃
  have cN : (nR c h).set ⊆ nSet (sl c) h.val := (set_nR c h).le
  have c0 : (sR1 c h 0).set ⊆ sSet (sl c) h.val := fun i hi => ((mem_sR1 c h 0 i).mp hi).1
  have c1 : (sR1 c h 1).set ⊆ sSet (sl c) h.val := fun i hi => ((mem_sR1 c h 1 i).mp hi).1
  have eN (f : cc0_scratch4.ty.Contents (Elt F)) : ((nM.access (nR c h)).loc (c : Thread nD τ) ↦[nSet (sl c) h.val]{fullShare}
      (nM.access (nR c h)).write (Elt F) f (numPay m c h) Finset.univ : sProp 𝕄) ⊢ (locN c ↦[nSet (sl c) h.val]{fullShare} (numV m : Buf (Elt F) (locN c))) :=
    pts_val (ℓ := locN c) rfl (nWr_on m c h f)
  have eS (f : cc0_scratch5.ty.Contents (Elt F)) : ((sM.access (sR1 c h 1)).loc (c : Thread nD τ) ↦[sSet (sl c) h.val]{fullShare}
      (sM.access (sR1 c h 1)).write (Elt F) ((sM.access (sR1 c h 0)).write (Elt F) f (maxPay m c h) Finset.univ) (sumPay m c h) Finset.univ : sProp 𝕄)
        ⊢ (locS c ↦[sSet (sl c) h.val]{fullShare} (statV m : Buf (Elt F) (locS c))) :=
    pts_val (ℓ := locS c) rfl (sWr_on m c h f)
  have tN : (locN c ↦[nSet (sl c) h.val]{fullShare} (numV m : Buf (Elt F) (locN c)) : sProp 𝕄)
      ⊢ iprop(got m c false (sl c) h.val (Transfers.shareDrop fullShare 7) ∗ bigSep (Finset.range 7) fun j => got m c false (sl c) h.val (Transfers.shareTokN fullShare j)) :=
    (Transfers.pointsTo_toks_range fullShare 7).1
  have tS : (locS c ↦[sSet (sl c) h.val]{fullShare} (statV m : Buf (Elt F) (locS c)) : sProp 𝕄)
      ⊢ iprop(got m c true (sl c) h.val (Transfers.shareDrop fullShare 7) ∗ bigSep (Finset.range 7) fun j => got m c true (sl c) h.val (Transfers.shareTokN fullShare j)) :=
    (Transfers.pointsTo_toks_range fullShare 7).1
  unfold St OwnP
  iintro ⟨#HR, #Hlev, HO, Hsg, Hbr, Hld, ⟨Hland, Hkept⟩, HsN, HsS, Hrv, Hfu, Hou⟩
  icases (pop h4 _) $$ Hland with ⟨⟨HN, HS⟩, Hland⟩
  rw [← hh]
  ihave HN := (Entails.of_eq (show land (F := F) c false (sl c) h.val = iprop(∃ f : Buf (Elt F) (locN c), locN c ↦[nSet (sl c) h.val]{fullShare} f) from rfl)) $$ HN
  ihave HS := (Entails.of_eq (show land (F := F) c true (sl c) h.val = iprop(∃ f : Buf (Elt F) (locS c), locS c ↦[sSet (sl c) h.val]{fullShare} f) from rfl)) $$ HS
  icases HN with ⟨%fN, HN⟩
  icases HS with ⟨%fS, HS⟩
  iapply (wp_load 𝒱₀ (c : Thread nD τ) none Set.univ (m := nM) (S := nSet (sl c) h.val) ((whole_sub _ _ rfl).trans cN)) $$ [HN]
  · iexact HN
  iintro HN
  iapply (wp_store 𝒱₀ (c : Thread nD τ) none Set.univ (m := nM) (r := nR c h) (S := nSet (sl c) h.val) ((View.set_slice_whole _ _).le.trans cN)) $$ [HN]
  · iexact HN
  iintro HN
  iapply (wp_load 𝒱₀ (c : Thread nD τ) none Set.univ (m := sM) (S := sSet (sl c) h.val) ((whole_sub _ _ rfl).trans c0)) $$ [HS]
  · iexact HS
  iintro HS
  iapply (wp_store 𝒱₀ (c : Thread nD τ) none Set.univ (m := sM) (r := sR1 c h 0) (S := sSet (sl c) h.val) ((sR1_setOn c h 0).le.trans c0)) $$ [HS]
  · iexact HS
  iintro HS
  iapply (wp_load 𝒱₀ (c : Thread nD τ) none Set.univ (m := sM) (S := sSet (sl c) h.val) ((whole_sub _ _ rfl).trans c1)) $$ [HS]
  · iexact HS
  iintro HS
  iapply (wp_store 𝒱₀ (c : Thread nD τ) none Set.univ (m := sM) (r := sR1 c h 1) (S := sSet (sl c) h.val) ((sR1_setOn c h 1).le.trans c1)) $$ [HS]
  · iexact HS
  iintro HS
  ihave HN := (eN fN) $$ HN
  ihave HS := (eS fS) $$ HS
  icases tN $$ HN with ⟨HN0, HN⟩
  icases tS $$ HS with ⟨HS0, HS⟩
  rw [hh]
  iapply hk
  unfold St OwnP
  iframe HR Hlev HO Hsg Hbr Hld Hrv Hfu Hou Hland
  isplitl [Hkept HN0 HS0]
  · iapply (push hdr _)
    rw [← hh]
    iframe Hkept
    isplitl [HN0]; · iexact HN0
    iexact HS0
  isplitl [HsN HN]
  · unfold SnP
    icases HsN with ⟨A1, A2, A3, A4, A5, A6, A7⟩
    iframe A1 A2 A4 A5 A6 A7
    iapply (Entails.of_eq (cut hsn (show 7 * hn ≤ 7 * (hn + 1) by omega) _).symm)
    iframe A3
    iapply (toks m c false hn)
    iexact HN
  · unfold SnP
    icases HsS with ⟨A1, A2, A3, A4, A5, A6, A7⟩
    iframe A1 A2 A4 A5 A6 A7
    iapply (Entails.of_eq (cut hss (show 7 * hn ≤ 7 * (hn + 1) by omega) _).symm)
    iframe A3
    iapply (toks m c true hn)
    iexact HS

/-! ## Sending a head -/

theorem live_ri (b : Bool) (d : Dev nD) (s h : ℕ) (hs : s < 8) (hh : h < 4) (hne : s ≠ sl d) : live d (ri b s h) ∧ ri b s h < 133 := by
  cases b
  · exact live_rn d s h hs hh hne
  · exact live_rs d s h hs hh hne
theorem amt_ri (b : Bool) (s h : ℕ) (hs : s < 8) (hh : h < 4) : amt (ri b s h) = nb b := by
  cases b
  · exact amt_rn s h hs hh
  · exact amt_rs s h hs hh
theorem dmaPay_ri (b : Bool) (d : Dev nD) (s h : ℕ) (hs : s < 8) (hh : h < 4) : dmaPay m d (ri b s h) = got m d b s h fullShare := by
  cases b
  · exact dmaPay_rn m d s h hs hh
  · exact dmaPay_rs m d s h hs hh

/-- One send of either kind, on its part of the state alone. -/
theorem send_core {b : Bool} {sp : Space} {s : Shape} {e : EltTy} {M : Memref sig .tc sp s e} {k : PUnit → Prog (TpuEff nD τ sig (Elt F) Λ₀ .tc) α}
    {O₀ O : CellTallies nD τ sig Unit} {W : Waits sig Unit} {hsc hsrc hdst hsem}
    (fs : Buf (Elt F) (M.view.loc (c : Thread nD τ)))
    (hl : sn < 28) (hh : sn < 7 * hn) (hle : wn ≤ sn) (hN : M.view.dmaCredit = nb b)
    (hO : O₀ = O + tallyAt (dcell (pr c (sn % 7)) (ri b (sl c) (sn / 7))) () (nb b))
    (es : got m c b (sl c) (sn / 7) (Transfers.shareTokN fullShare (sn % 7)) ⊢ (M.view.loc (c : Thread nD τ) ↦[M.view.set]{Transfers.shareTokN fullShare (sn % 7)} fs))
    (es' : (M.view.loc (c : Thread nD τ) ↦[M.view.set]{Transfers.shareTokN fullShare (sn % 7)} fs) ⊢ got m c b (sl c) (sn / 7) (Transfers.shareTokN fullShare (sn % 7)))
    (ed : land (F := F) (pr c (sn % 7)) b (sl c) (sn / 7) ⊢ iprop(∃ fd : Buf (Elt F) (M.view.loc (pr c (sn % 7) : Thread nD τ)), M.view.loc (pr c (sn % 7) : Thread nD τ) ↦[M.view.set]{fullShare} fd))
    (ed' : ∀ fd : Buf (Elt F) (M.view.loc (pr c (sn % 7) : Thread nD τ)),
      (M.view.loc (pr c (sn % 7) : Thread nD τ) ↦[M.view.set]{fullShare} (M.view.write (Elt F) fd (M.view.read (Elt F) fs) Finset.univ)) ⊢ got m (pr c (sn % 7)) b (sl c) (sn / 7) fullShare) :
    iprop(recs m ∗ owes (c : Thread nD τ) O₀ W ∗ SnP m c b 1 hn sn wn dr)
      ⊢ iprop(((owes (c : Thread nD τ) O W ∗ SnP m c b 1 hn (sn + 1) wn dr) -∗ WP c (k ⟨⟩) Q)
        -∗ WP c (.op (.enqueueDma M (.remote (Dev.tc (pr c (sn % 7)) : Thread nD τ) M (.dma (dsem (si b sn))) hsc) (.dma (dsem (ri b (sl c) (sn / 7)))) hsrc hdst hsem) k) Q) := by
  have hj : sn % 7 < 7 := Nat.mod_lt _ (by decide)
  have hne : sl c ≠ sl (pr c (sn % 7)) := fun e => sl_pr_ne c _ (Finset.mem_range.mpr hj) e.symm
  have hlS := si_pos c b sn hl
  have h4 : sn / 7 < 4 := by omega
  have hlR := live_ri b (pr c (sn % 7)) (sl c) (sn / 7) (sl_lt c) h4 hne
  unfold SnP
  iintro ⟨#HR, HO, ⟨Htk, Hland, Hsh, Hcr, Hat, Hz, Hp⟩⟩ Hk
  icases (pop hl _) $$ Htk with ⟨⟨Ht1, Ht2⟩, Htk⟩
  ihave Hland := (Entails.of_eq (if_neg (show ¬ (1 : ℕ) = 0 by decide))) $$ Hland
  icases (pop hl _) $$ Hland with ⟨Hd, Hland⟩
  ihave Hd := ed $$ Hd
  icases Hd with ⟨%fd, Hd⟩
  icases (pop hh _) $$ Hsh with ⟨Hs, Hsh⟩
  ihave Hs := es $$ Hs
  ihave #Hr := (recs_dma m c (si b sn) hlS.1.1 hlS.2) $$ HR
  ihave #Hr' := (recs_dma m (pr c (sn % 7)) (ri b (sl c) (sn / 7)) hlR.1.1 hlR.2) $$ HR
  unfold rec1
  icases Hr with ⟨%κ, #HI, #Hre⟩
  icases Hr' with ⟨%κ', #HI', #Hre'⟩
  iapply (Rounds.wp_send_pointsTo 𝒱₀ ER (rd m) (c : Thread nD τ) none (c' := (pr c (sn % 7) : Thread nD τ)) (src := M) (dst := M) (κ₁ := κ) (κ₂ := κ') (r₁ := 0) (r₂ := 0) (d₁ := 0) (d₂ := 0)
      (sS := .dma (dsem (si b sn))) (sem := .dma (dsem (ri b (sl c) (sn / 7))))
      (by rw [duties_live m c _ hlS.2 hlS.1]; exact Finset.mem_singleton_self _) (by rw [duties_live m _ _ hlR.2 hlR.1]; exact Finset.mem_singleton_self _)
      () () (nb b) hN ((amount_dma m c _ hlS.2 0).trans (amt_si b sn hl)) ((amount_dma m _ _ hlR.2 0).trans (amt_ri b _ _ (sl_lt c) h4)) O hO
      (by rw [payload_dma m c _ hlS.2, dmaPay_si m c b sn hl]; exact es')
      (by rw [payload_dma m _ _ hlR.2, dmaPay_ri m b _ _ _ (sl_lt c) h4]; exact ed' fd)) $$ [HO Ht1 Ht2 Hs Hd]
  · isplitr; · iexact HI
    isplitr; · iexact HI'
    isplitl [Hs]; · iexact Hs
    isplitl [Hd]; · iexact Hd
    isplitl [HO]; · iexact HO
    isplitl [Ht1]; · iexact Ht1
    isplitr; · iexact Hre
    isplitl [Ht2]; · iexact Ht2
    iexact Hre'
  iintro ⟨Hc, HO⟩
  iapply Hk
  iframe HO Htk Hsh Hat Hz Hp
  isplitl [Hland]
  · iapply (Entails.of_eq (if_neg (show ¬ (1 : ℕ) = 0 by decide)).symm)
    iexact Hland
  iapply (push hle _)
  iframe Hcr
  iexact Hc

/-- The numerators of one's own slot, as a send sees them; -/
abbrev nSl (c : Dev nD) (h : Fin 4) : Memref sig .tc .vmem S1x8x8x128 .bf16 :=
  (nM.slice (nR c h) (fun _ => rfl)).squeeze S1x8x8x128 squeezes_S1x1x1x8x8x128_S1x8x8x128
/-- the statistics. -/
abbrev sSl (c : Dev nD) (h : Fin 4) : Memref sig .tc .vmem S1x2x8x8 .f32 :=
  (sM.slice (sR c h) (fun _ => rfl)).squeeze S1x2x8x8 squeezes_S1x1x1x2x8x8_S1x2x8x8

theorem st_send_n {k : PUnit → Prog (TpuEff nD τ sig (Elt F) Λ₀ .tc) α} {sS sR : DmaSem sig} {d : Dev nD} {o o' : Fin 6 → ℕ}
    {i : ∀ a, o a + S1x1x1x8x8x128.size a ≤ S2x4x4x8x8x128.size a} {i' : ∀ a, o' a + S1x1x1x8x8x128.size a ≤ S2x4x4x8x8x128.size a} {hsc hsrc hdst hsem}
    (hb : br = 1) (hl : sn < 28) (hh : sn < 7 * hn) (hle : wn ≤ sn) (hd' : d = pr c (sn % 7)) (hs : sS = dsem (si false sn))
    (hr : sR = dsem (ri false (sl c) (sn / 7))) (ho : o = ![sY c, sG c, (hd (sn / 7)).val, 0, 0, 0]) (ho' : o' = ![sY c, sG c, (hd (sn / 7)).val, 0, 0, 0])
    (hk : St m c sg br le lw hn (sn + 1) ss wn ws rv dr out ⊢ WP c (k ⟨⟩) Q) :
    St m c sg br le lw hn sn ss wn ws rv dr out ⊢ WP c (.op (.enqueueDma
      ((nM.slice (Rect.unit (s := S2x4x4x8x8x128) o S1x1x1x8x8x128.size i) (fun _ => rfl)).squeeze S1x8x8x128 squeezes_S1x1x1x8x8x128_S1x8x8x128)
      (.remote (Dev.tc d : Thread nD τ) ((nM.slice (Rect.unit (s := S2x4x4x8x8x128) o' S1x1x1x8x8x128.size i') (fun _ => rfl)).squeeze S1x8x8x128 squeezes_S1x1x1x8x8x128_S1x8x8x128)
        (.dma sS) hsc) (.dma sR) hsrc hdst hsem) k) Q := by
  subst hb hd' hs hr
  have h7 : (hd (sn / 7)).val = sn / 7 := Nat.mod_eq_of_lt (by omega)
  generalize hd (sn / 7) = h at ho ho' h7
  subst ho ho'
  have eS : ((nSl c h).view.set : Finset S2x4x4x8x8x128.Idx) = nSet (sl c) (sn / 7) := by rw [← h7]; exact nView_set c h
  unfold St OwP
  iintro ⟨#HR, #Hlev, ⟨%W, HO⟩, Hsg, Hbr, Hld, Hown, HsN, HsS, Hrv, Hfu, Hou⟩
  iapply (send_core m c (b := false) (M := nSl c h) (numV m) hl hh hle rfl (Owed_n c sg sn ss hl)
    (pts_set (ℓ := locN c) eS.symm) (pts_set (ℓ := locN c) eS) (exists_mono fun f => pts_set (ℓ := locN (pr c (sn % 7))) eS.symm)
    (fun fd => pts_val (ℓ := locN (pr c (sn % 7))) eS fun i hi => write_read_on (nSl c h).view fd (numV m) i ((Finset.ext_iff.mp eS i).mpr hi))) $$ [HO HsN]
  · iframe HR HO HsN
  iintro ⟨HO, HsN⟩
  iapply hk
  unfold St OwP
  iframe HR Hlev Hsg Hbr Hld Hown HsN HsS Hrv Hfu Hou
  iexists W; iexact HO

theorem st_send_s {k : PUnit → Prog (TpuEff nD τ sig (Elt F) Λ₀ .tc) α} {sS sR : DmaSem sig} {d : Dev nD} {o o' : Fin 6 → ℕ}
    {i : ∀ a, o a + S1x1x1x2x8x8.size a ≤ S2x4x4x2x8x8.size a} {i' : ∀ a, o' a + S1x1x1x2x8x8.size a ≤ S2x4x4x2x8x8.size a} {hsc hsrc hdst hsem}
    (hb : br = 1) (hl : ss < 28) (hh : ss < 7 * hn) (hle : ws ≤ ss) (hd' : d = pr c (ss % 7)) (hs : sS = dsem (si true ss))
    (hr : sR = dsem (ri true (sl c) (ss / 7))) (ho : o = ![sY c, sG c, (hd (ss / 7)).val, 0, 0, 0]) (ho' : o' = ![sY c, sG c, (hd (ss / 7)).val, 0, 0, 0])
    (hk : St m c sg br le lw hn sn (ss + 1) wn ws rv dr out ⊢ WP c (k ⟨⟩) Q) :
    St m c sg br le lw hn sn ss wn ws rv dr out ⊢ WP c (.op (.enqueueDma
      ((sM.slice (Rect.unit (s := S2x4x4x2x8x8) o S1x1x1x2x8x8.size i) (fun _ => rfl)).squeeze S1x2x8x8 squeezes_S1x1x1x2x8x8_S1x2x8x8)
      (.remote (Dev.tc d : Thread nD τ) ((sM.slice (Rect.unit (s := S2x4x4x2x8x8) o' S1x1x1x2x8x8.size i') (fun _ => rfl)).squeeze S1x2x8x8 squeezes_S1x1x1x2x8x8_S1x2x8x8)
        (.dma sS) hsc) (.dma sR) hsrc hdst hsem) k) Q := by
  subst hb hd' hs hr
  have h7 : (hd (ss / 7)).val = ss / 7 := Nat.mod_eq_of_lt (by omega)
  generalize hd (ss / 7) = h at ho ho' h7
  subst ho ho'
  have eS : ((sSl c h).view.set : Finset S2x4x4x2x8x8.Idx) = sSet (sl c) (ss / 7) := by rw [← h7]; exact sView_set c h
  unfold St OwP
  iintro ⟨#HR, #Hlev, ⟨%W, HO⟩, Hsg, Hbr, Hld, Hown, HsN, HsS, Hrv, Hfu, Hou⟩
  iapply (send_core m c (b := true) (M := sSl c h) (statV m) hl hh hle rfl (Owed_s c sg sn ss hl)
    (pts_set (ℓ := locS c) eS.symm) (pts_set (ℓ := locS c) eS) (exists_mono fun f => pts_set (ℓ := locS (pr c (ss % 7))) eS.symm)
    (fun fd => pts_val (ℓ := locS (pr c (ss % 7))) eS fun i hi => write_read_on (sSl c h).view fd (statV m) i ((Finset.ext_iff.mp eS i).mpr hi))) $$ [HO HsS]
  · iframe HR HO HsS
  iintro ⟨HO, HsS⟩
  iapply hk
  unfold St OwP
  iframe HR Hlev Hsg Hbr Hld Hown HsN HsS Hrv Hfu Hou
  iexists W; iexact HO

end Decode
-- ==== Proof.StepsC.lean ====
/-
  One step of the kernel for each kind of operation: the pieces of a head gathered, the loads of the merge and the stores of the results.
-/
module

public import proofs.«01_k».proof.Proof.StepsB

@[expose] public section

noncomputable section

namespace Decode

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable {α : Type} {Q : α → sProp (MT nD τ sig Unit (Elt F) ℕ UU ℕ)} (c : Dev nD) {sg br le lw hn sn ss wn ws rv dr out : ℕ}

/-! ## A head gathered -/

/-- The share kept and the seven returned make one's own slot whole. -/
theorem own_join (b : Bool) (n : ℕ) :
    iprop(got m c b (sl c) n (Transfers.shareDrop fullShare 7)
      ∗ bigSep (Finset.Ico (7 * n) (7 * (n + 1))) fun n => got m c b (sl c) (n / 7) (Transfers.shareTokN fullShare (n % 7)))
    ⊢ got m c b (sl c) n fullShare := by
  have e : (bigSep (Finset.Ico (7 * n) (7 * (n + 1))) fun n => got m c b (sl c) (n / 7) (Transfers.shareTokN fullShare (n % 7)))
      = bigSep (Finset.range 7) fun j => got m c b (sl c) n (Transfers.shareTokN fullShare j) := by
    rw [show 7 * (n + 1) = 7 * n + 7 from rfl, shift]
    refine bigSep_congr fun j hj => ?_
    have hj := Finset.mem_range.mp hj
    rw [show (7 * n + j) / 7 = n by omega, show (7 * n + j) % 7 = j by omega]
  rw [e]
  cases b
  · exact (Transfers.pointsTo_toks_range fullShare 7).2
  · exact (Transfers.pointsTo_toks_range fullShare 7).2

/-- The eight slots of a head, seven arrived and one's own, are the head whole, in both buffers. -/
theorem slots_join (n : ℕ) :
    iprop((bigSep (Finset.Ico (8 * n) (8 * (n + 1))) fun r => if r % 8 = sl c then iprop(emp) else
        iprop(got m c false (r % 8) (r / 8) fullShare ∗ got m c true (r % 8) (r / 8) fullShare))
      ∗ got m c false (sl c) n fullShare ∗ got m c true (sl c) n fullShare)
    ⊢ iprop((locN c ↦[nHead n]{fullShare} (numV m : Buf (Elt F) (locN c))) ∗ (locS c ↦[sHead n]{fullShare} (statV m : Buf (Elt F) (locS c)))) := by
  have hm : sl c ∈ Finset.range 8 := Finset.mem_range.mpr (sl_lt c)
  have e : (bigSep (Finset.Ico (8 * n) (8 * (n + 1))) fun r => if r % 8 = sl c then iprop(emp) else
        iprop(got m c false (r % 8) (r / 8) fullShare ∗ got m c true (r % 8) (r / 8) fullShare))
      = bigSep (Finset.range 8) fun s => if s = sl c then iprop(emp) else iprop(got m c false s n fullShare ∗ got m c true s n fullShare) := by
    rw [show 8 * (n + 1) = 8 * n + 8 from rfl, shift]
    refine bigSep_congr fun j hj => ?_
    have hj := Finset.mem_range.mp hj
    rw [show (8 * n + j) / 8 = n by omega, show (8 * n + j) % 8 = j by omega]
  have e2 : bigSep (Finset.range 8) (fun s => if s = sl c then iprop(emp) else iprop(got m c false s n fullShare ∗ got m c true s n fullShare))
      = iprop((if sl c = sl c then iprop(emp) else iprop(got m c false (sl c) n fullShare ∗ got m c true (sl c) n fullShare))
        ∗ bigSep ((Finset.range 8).erase (sl c)) fun s => iprop(got m c false s n fullShare ∗ got m c true s n fullShare)) := by
    refine (bigSep_erase hm).trans ?_
    have e3 := bigSep_congr (s := (Finset.range 8).erase (sl c)) (Φ := fun s => if s = sl c then iprop(emp) else iprop(got m c false s n fullShare ∗ got m c true s n fullShare))
      (Ψ := fun s => iprop(got m c false s n fullShare ∗ got m c true s n fullShare)) fun s hs => if_neg (Finset.ne_of_mem_erase hs)
    rw [e3]
    rfl
  have e4 : bigSep (Finset.range 8) (fun s => iprop(got m c false s n fullShare ∗ got m c true s n fullShare))
      = iprop((got m c false (sl c) n fullShare ∗ got m c true (sl c) n fullShare)
        ∗ bigSep ((Finset.range 8).erase (sl c)) fun s => iprop(got m c false s n fullShare ∗ got m c true s n fullShare)) := bigSep_erase hm
  have e5 : (bigSep (Finset.range 8) fun s => got m c false s n fullShare) = (locN c ↦[nHead n]{fullShare} (numV m : Buf (Elt F) (locN c)) : sProp 𝕄) := by
    rw [nHead_eq]
    exact (pointsTo_biUnion _ _ fun s _ s' _ h => nSet_disj n s s' h).symm
  have e6 : (bigSep (Finset.range 8) fun s => got m c true s n fullShare) = (locS c ↦[sHead n]{fullShare} (statV m : Buf (Elt F) (locS c)) : sProp 𝕄) := by
    rw [sHead_eq]
    exact (pointsTo_biUnion _ _ fun s _ s' _ h => sSet_disj n s s' h).symm
  rw [e, e2]
  refine BIBase.Entails.trans ?_ (Entails.of_eq ((bigSep_sep' _ _ _).trans (congr (congrArg BI.sep e5) e6)))
  rw [e4]
  iintro ⟨⟨-, H⟩, H1, H2⟩
  iframe H H1 H2

/-- Once head `dr` has arrived from everywhere and its sends have returned, it is whole in both buffers. -/
theorem gather (h4 : dr < 4) (hhn : dr + 1 ≤ hn) (hwn : 7 * (dr + 1) ≤ wn) (hws : 7 * (dr + 1) ≤ ws) (hrv : 8 * (dr + 1) ≤ rv) :
    St m c sg br le lw hn sn ss wn ws rv dr out ⊢ St m c sg br le lw hn sn ss wn ws rv (dr + 1) out := by
  unfold St OwnP SnP RvP FuP
  iintro ⟨#HR, #Hlev, HO, Hsg, Hbr, Hld, ⟨Hland, Hkept⟩, ⟨A1, A2, A3, A4, A5, A6, A7⟩, ⟨B1, B2, B3, B4, B5, B6, B7⟩, ⟨C1, C2, C3, C4⟩, Hfu, Hou⟩
  icases (pop (show dr < hn from hhn) _) $$ Hkept with ⟨⟨Hn, Hs⟩, Hkept⟩
  icases (Entails.of_eq (cut (show 7 * dr ≤ 7 * (dr + 1) by omega) hwn _)) $$ A7 with ⟨A7', A7⟩
  icases (Entails.of_eq (cut (show 7 * dr ≤ 7 * (dr + 1) by omega) hws _)) $$ B7 with ⟨B7', B7⟩
  icases (Entails.of_eq (cut (show 8 * dr ≤ 8 * (dr + 1) by omega) hrv _)) $$ C4 with ⟨C4', C4⟩
  ihave Hn := (own_join m c false dr) $$ [Hn A7']
  · iframe Hn A7'
  ihave Hs := (own_join m c true dr) $$ [Hs B7']
  · iframe Hs B7'
  ihave H := (slots_join m c dr) $$ [C4' Hn Hs]
  · iframe C4' Hn Hs
  iframe HR Hlev HO Hsg Hbr Hld Hland Hkept A1 A2 A3 A4 A5 A6 A7 B1 B2 B3 B4 B5 B6 B7 C1 C2 C3 C4 Hou
  iapply (push (Nat.zero_le dr) _)
  iframe H Hfu

/-! ## The loads of the merge -/

theorem nM_sub (h : Fin 4) : nM.view.setOn (ndR h).toLoadRect.set ⊆ nHead h.val := by
  refine (whole_sub _ _ rfl).trans ?_
  intro i hi
  have e := (Rect.mem_set_unit ..).mp hi 2
  change h.val ≤ (i 2).val ∧ (i 2).val < h.val + 1 at e
  exact Finset.mem_filter.mpr ⟨Finset.mem_univ _, Nat.le_antisymm (Nat.le_of_lt_succ e.2) e.1⟩
theorem sM_sub (h : Fin 4) (k : Fin 2) : sM.view.setOn (sdR h k).toLoadRect.set ⊆ sHead h.val := by
  refine (whole_sub _ _ rfl).trans ?_
  intro i hi
  have e := (Rect.mem_set_unit ..).mp hi 2
  change h.val ≤ (i 2).val ∧ (i 2).val < h.val + 1 at e
  exact Finset.mem_filter.mpr ⟨Finset.mem_univ _, Nat.le_antisymm (Nat.le_of_lt_succ e.2) e.1⟩

theorem st_ld_stat {o : Fin 6 → ℕ} {inb : ∀ a, o a + S2x4x1x1x8x8.size a ≤ S2x4x4x2x8x8.size a} {hl} (kk : Fin 2)
    {k : Vec F S2x4x1x1x8x8 .f32 → Prog (TpuEff nD τ sig (Elt F) Λ₀ .tc) α} (h4 : dr < 4) (ho : o = ![0, 0, (hd dr).val, kk.val, 0, 0])
    (hk : St m c sg br le lw hn sn ss wn ws rv (dr + 1) out ⊢ WP c (k (sM.view.readAt (Elt F) (sdR (hd dr) kk).toLoadRect (statV m))) Q) :
    St m c sg br le lw hn sn ss wn ws rv (dr + 1) out ⊢ WP c (.op (.load sM (Rect.unit (s := S2x4x4x2x8x8) o S2x4x1x1x8x8.size inb).toLoadRect hl) k) Q := by
  have hh : (hd dr).val = dr := Nat.mod_eq_of_lt h4
  generalize hd dr = h at ho hh hk
  subst ho
  have hsub : sM.view.setOn (sdR h kk).toLoadRect.set ⊆ sHead dr := by rw [← hh]; exact sM_sub h kk
  unfold St FuP
  iintro ⟨#HR, #Hlev, HO, Hsg, Hbr, Hld, Hown, HsN, HsS, Hrv, Hfu, Hou⟩
  icases (borrow (show 0 ≤ dr ∧ dr < dr + 1 by omega) _) $$ Hfu with ⟨⟨H1, H2⟩, Hback⟩
  iapply (wp_load 𝒱₀ (c : Thread nD τ) none Set.univ (m := sM) (S := sHead dr) (f := statV m) hsub) $$ [H2]
  · iexact H2
  iintro H2
  iapply hk
  unfold St FuP
  iframe HR Hlev HO Hsg Hbr Hld Hown HsN HsS Hrv Hou
  iapply Hback
  iframe H1
  iexact H2

theorem st_ld_max {o : Fin 6 → ℕ} {inb : ∀ a, o a + S2x4x1x1x8x8.size a ≤ S2x4x4x2x8x8.size a} {hl}
    {k : Vec F S2x4x1x1x8x8 .f32 → Prog (TpuEff nD τ sig (Elt F) Λ₀ .tc) α} (h4 : dr < 4) (ho : o = ![0, 0, (hd dr).val, 0, 0, 0])
    (hk : St m c sg br le lw hn sn ss wn ws rv (dr + 1) out ⊢ WP c (k (maxAll m (hd dr))) Q) :
    St m c sg br le lw hn sn ss wn ws rv (dr + 1) out ⊢ WP c (.op (.load sM (Rect.unit (s := S2x4x4x2x8x8) o S2x4x1x1x8x8.size inb).toLoadRect hl) k) Q :=
  st_ld_stat m c 0 h4 ho hk
theorem st_ld_sum {o : Fin 6 → ℕ} {inb : ∀ a, o a + S2x4x1x1x8x8.size a ≤ S2x4x4x2x8x8.size a} {hl}
    {k : Vec F S2x4x1x1x8x8 .f32 → Prog (TpuEff nD τ sig (Elt F) Λ₀ .tc) α} (h4 : dr < 4) (ho : o = ![0, 0, (hd dr).val, 1, 0, 0])
    (hk : St m c sg br le lw hn sn ss wn ws rv (dr + 1) out ⊢ WP c (k (sumAll m (hd dr))) Q) :
    St m c sg br le lw hn sn ss wn ws rv (dr + 1) out ⊢ WP c (.op (.load sM (Rect.unit (s := S2x4x4x2x8x8) o S2x4x1x1x8x8.size inb).toLoadRect hl) k) Q :=
  st_ld_stat m c 1 h4 ho hk

theorem st_ld_num {o : Fin 6 → ℕ} {inb : ∀ a, o a + S2x4x1x8x8x128.size a ≤ S2x4x4x8x8x128.size a} {hl}
    {k : Vec F S2x4x1x8x8x128 .bf16 → Prog (TpuEff nD τ sig (Elt F) Λ₀ .tc) α} (h4 : dr < 4) (ho : o = ![0, 0, (hd dr).val, 0, 0, 0])
    (hk : St m c sg br le lw hn sn ss wn ws rv (dr + 1) out ⊢ WP c (k (numAll m (hd dr))) Q) :
    St m c sg br le lw hn sn ss wn ws rv (dr + 1) out ⊢ WP c (.op (.load nM (Rect.unit (s := S2x4x4x8x8x128) o S2x4x1x8x8x128.size inb).toLoadRect hl) k) Q := by
  have hh : (hd dr).val = dr := Nat.mod_eq_of_lt h4
  generalize hd dr = h at ho hh hk
  subst ho
  have hsub : nM.view.setOn (ndR h).toLoadRect.set ⊆ nHead dr := by rw [← hh]; exact nM_sub h
  unfold St FuP
  iintro ⟨#HR, #Hlev, HO, Hsg, Hbr, Hld, Hown, HsN, HsS, Hrv, Hfu, Hou⟩
  icases (borrow (show 0 ≤ dr ∧ dr < dr + 1 by omega) _) $$ Hfu with ⟨⟨H1, H2⟩, Hback⟩
  iapply (wp_load 𝒱₀ (c : Thread nD τ) none Set.univ (m := nM) (S := nHead dr) (f := numV m) hsub) $$ [H1]
  · iexact H1
  iintro H1
  iapply hk
  unfold St FuP
  iframe HR Hlev HO Hsg Hbr Hld Hown HsN HsS Hrv Hou
  iapply Hback
  iframe H2
  iexact H1

/-! ## The results -/

/-- The head that the `n`-th store of the output writes. -/
def on (n : ℕ) : Fin 16 := ⟨ord n % 16, Nat.mod_lt _ (by decide)⟩
theorem ord_on (n : ℕ) (h : n < 16) : ord (on n).val = n := by
  exact (by decide : ∀ n : Fin 16, ord (ord n.val % 16) = n.val) ⟨n, h⟩
theorem on_of_ord (n k : ℕ) (h : k < 16) (e : ord k = n) : k = (on n).val := by
  subst e
  exact (by decide : ∀ n : Fin 16, n.val = ord (ord n.val) % 16) ⟨k, h⟩

theorem st_ld_o {r : Rect S8x8x16x128} {hl} {k : (r.toLoadRect.shape.Idx → Elt F .f32) → Prog (TpuEff nD τ sig (Elt F) Λ₀ .tc) α}
    (hk : ∀ v, St m c sg br le lw hn sn ss wn ws rv dr out ⊢ WP c (k v) Q) :
    St m c sg br le lw hn sn ss wn ws rv dr out ⊢ WP c (.op (.load oM r.toLoadRect hl) k) Q := by
  unfold St OuP
  iintro ⟨#HR, #Hlev, HO, Hsg, Hbr, Hld, Hown, HsN, HsS, Hrv, Hfu, ⟨%f, %hf, Hf⟩⟩
  iapply (wp_load 𝒱₀ (c : Thread nD τ) none Set.univ (m := oM) (S := Finset.univ) (f := f) (Finset.subset_univ _)) $$ [Hf]
  · iexact Hf
  iintro Hf
  iapply (hk _)
  unfold St OuP
  iframe HR Hlev HO Hsg Hbr Hld Hown HsN HsS Hrv Hfu
  iexists f
  isplitr; · ipureintro; exact hf
  iexact Hf

theorem st_st_o {o : Fin 4 → ℕ} {inb : ∀ a, o a + S8x8x1x128.size a ≤ S8x8x16x128.size a} {w : FVec F S8x8x1x128 .f32} {hx hm}
    {k : PUnit → Prog (TpuEff nD τ sig (Elt F) Λ₀ .tc) α} (h16 : out < 16) (ho : o = ![0, 0, (on out).val, 0])
    (hw : w = outPay m (hd (on out).val) ((on out).val / 4))
    (hk : St m c sg br le lw hn sn ss wn ws rv dr (out + 1) ⊢ WP c (k ⟨⟩) Q) :
    St m c sg br le lw hn sn ss wn ws rv dr out ⊢ WP c (.op (.store oM (Rect.unit (s := S8x8x16x128) o S8x8x1x128.size inb) w Finset.univ hx hm) k) Q := by
  subst ho hw
  unfold St OuP
  iintro ⟨#HR, #Hlev, HO, Hsg, Hbr, Hld, Hown, HsN, HsS, Hrv, Hfu, ⟨%f, %hf, Hf⟩⟩
  iapply (wp_store 𝒱₀ (c : Thread nD τ) none Set.univ (m := oM) (r := oR (on out)) (S := Finset.univ) (Finset.subset_univ _)) $$ [Hf]
  · iexact Hf
  iintro Hf
  iapply hk
  unfold St OuP
  iframe HR Hlev HO Hsg Hbr Hld Hown HsN HsS Hrv Hfu
  iexists (oWr m (on out) f)
  isplitr
  · ipureintro
    intro i hi
    by_cases hm : i ∈ qsSet (on out).val
    · exact oWr_on m (on out) f i hm
    · refine (oWr_off m (on out) f i hm).trans (hf i ?_)
      have hne : ord (i 2).val ≠ out := fun e => hm (Finset.mem_filter.mpr ⟨Finset.mem_univ _, on_of_ord out _ (i 2).isLt e⟩)
      omega
  iexact Hf

end Decode
-- ==== Proof.Body.lean ====
/-
  The kernel's body, run from the first state to the last.
-/
module

public import proofs.«01_k».proof.Proof.StepsC
public import proofs.«01_k».proof.Proof.Gen.KernelIdeal.Skeleton

@[expose] public section

noncomputable section

namespace Decode

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable {Q : PUnit → sProp (MT nD τ sig Unit (Elt F) ℕ UU ℕ)} (c : Dev nD)

/-- A finished program is proved by its postcondition. -/
theorem ret_of {P : sProp (MT nD τ sig Unit (Elt F) ℕ UU ℕ)} (h : P ⊢ Q ⟨⟩) : P ⊢ WP c (.ret ⟨⟩) Q := h.trans (le_wp_ret _ _ _ _ _)

attribute [local irreducible] k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54 k0_part55 k0_part56 k0_part57 k0_part58 k0_part59 k0_part60 k0_part61 k0_part62 k0_part63 k0_part64 k0_part65 k0_part66 k0_part67 k0_part68 k0_part69 k0_part70 k0_part71 k0_part72 k0_part73 k0_part74 k0_part75 k0_part76 k0_part77 k0_part78 k0_part79 k0_part80 k0_part81 k0_part82 cc0_body St wp

set_option maxHeartbeats 20000000 in
/-- The body, from the launch's state to the last, for any postcondition the last state gives. -/
theorem body_run (hQ : St m c 7 1 12 12 4 28 28 28 28 32 4 16 ⊢ Q ⟨⟩) : St m c 0 0 0 0 0 0 0 0 0 0 0 0 ⊢ WP c (cc0_body (Memref.whole main_arg0) (Memref.isWhole_whole _) (Memref.whole main_arg1) (Memref.isWhole_whole _) (Memref.whole main_arg2) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) cc0_scratch3 (Memref.whole cc0_scratch4) (Memref.isWhole_whole _) (Memref.whole cc0_scratch5) (Memref.isWhole_whole _) cc0_scratch6 cc0_scratch7 cc0_scratch8 cc0_scratch9) Q := by
  rw [cc0_body_eq_skeleton]; unfold cc0_body_skel
  rw [k0_part82_eq_skeleton]; unfold k0_part82_skel
  repeat first
    | (refine st_signal m c (by decide) ?_ rfl ?_; clear hQ; revert c; decide +kernel)
    | (refine st_load_k m c (by decide) (by decide) (by decide) rfl ?_ rfl ?_; clear hQ; revert c; decide +kernel)
    | (refine st_load_v m c (by decide) (by decide) (by decide) rfl ?_ rfl ?_; clear hQ; revert c; decide +kernel)
    | (refine st_load_q m c (by decide) (by decide) (by decide) rfl ?_ rfl ?_; clear hQ; revert c; decide +kernel)
    | (refine st_wait_load m c (by decide) (by decide) rfl rfl ?_)
    | (refine st_wait_n m c (by decide) (by decide) (by decide) rfl rfl ?_)
    | (refine st_wait_s m c (by decide) (by decide) (by decide) rfl rfl ?_)
    | (refine st_barrier m c rfl ?_)
    | (refine st_ld_q m c (by decide) (by decide) rfl ?_)
    | (refine st_ld_k m c (by decide) (by decide) rfl ?_)
    | (refine st_ld_v m c (by decide) (by decide) rfl ?_)
    | (refine st_store m c (by decide) (by decide) (by decide) (by decide) ?_ ?_ ?_ rfl rfl rfl ?_
       · clear hQ; revert c; decide +kernel
       · clear hQ; revert c; decide +kernel
       · clear hQ; revert c; decide +kernel)
    | (refine st_send_n m c rfl (by decide) (by decide) (by decide) ?_ rfl ?_ ?_ ?_ ?_
       · clear hQ; revert c; decide +kernel
       · clear hQ; revert c; decide +kernel
       · clear hQ; revert c; decide +kernel
       · clear hQ; revert c; decide +kernel)
    | (refine st_send_s m c rfl (by decide) (by decide) (by decide) ?_ rfl ?_ ?_ ?_ ?_
       · clear hQ; revert c; decide +kernel
       · clear hQ; revert c; decide +kernel
       · clear hQ; revert c; decide +kernel
       · clear hQ; revert c; decide +kernel)
    | (refine st_recv m c (by decide) (by decide) (by decide) (by decide) (by decide) ?_ rfl rfl rfl rfl ?_
       · clear hQ; revert c; decide +kernel
       try simp only [Prog.bind_op, Prog.bind_ret, Prog.bind_assoc])
    | (refine st_ld_max m c (by decide) rfl ?_)
    | (refine st_ld_sum m c (by decide) rfl ?_)
    | (refine st_ld_num m c (by decide) rfl ?_)
    | (refine st_ld_o m c (fun v => ?_))
    | (refine st_st_o m c (by decide) rfl rfl ?_)
    | ((first
      | (rw [k0_part1_eq_skeleton]; unfold k0_part1_skel)
      | (rw [k0_part2_eq_skeleton]; unfold k0_part2_skel)
      | (rw [k0_part3_eq_skeleton]; unfold k0_part3_skel)
      | (rw [k0_part4_eq_skeleton]; unfold k0_part4_skel)
      | (rw [k0_part5_eq_skeleton]; unfold k0_part5_skel)
      | (rw [k0_part6_eq_skeleton]; unfold k0_part6_skel)
      | (rw [k0_part7_eq_skeleton]; unfold k0_part7_skel)
      | (rw [k0_part8_eq_skeleton]; unfold k0_part8_skel)
      | (rw [k0_part9_eq_skeleton]; unfold k0_part9_skel)
      | (rw [k0_part10_eq_skeleton]; unfold k0_part10_skel)
      | (rw [k0_part11_eq_skeleton]; unfold k0_part11_skel)
      | (rw [k0_part12_eq_skeleton]; unfold k0_part12_skel)
      | (rw [k0_part13_eq_skeleton]; unfold k0_part13_skel)
      | (rw [k0_part14_eq_skeleton]; unfold k0_part14_skel)
      | (rw [k0_part15_eq_skeleton]; unfold k0_part15_skel)
      | (rw [k0_part16_eq_skeleton]; unfold k0_part16_skel)
      | (rw [k0_part17_eq_skeleton]; unfold k0_part17_skel)
      | (rw [k0_part18_eq_skeleton]; unfold k0_part18_skel)
      | (rw [k0_part19_eq_skeleton]; unfold k0_part19_skel)
      | (rw [k0_part20_eq_skeleton]; unfold k0_part20_skel)
      | (rw [k0_part21_eq_skeleton]; unfold k0_part21_skel)
      | (rw [k0_part22_eq_skeleton]; unfold k0_part22_skel)
      | (rw [k0_part23_eq_skeleton]; unfold k0_part23_skel)
      | (rw [k0_part24_eq_skeleton]; unfold k0_part24_skel)
      | (rw [k0_part25_eq_skeleton]; unfold k0_part25_skel)
      | (rw [k0_part26_eq_skeleton]; unfold k0_part26_skel)
      | (rw [k0_part27_eq_skeleton]; unfold k0_part27_skel)
      | (rw [k0_part28_eq_skeleton]; unfold k0_part28_skel)
      | (rw [k0_part29_eq_skeleton]; unfold k0_part29_skel)
      | (rw [k0_part30_eq_skeleton]; unfold k0_part30_skel)
      | (rw [k0_part31_eq_skeleton]; unfold k0_part31_skel)
      | (rw [k0_part32_eq_skeleton]; unfold k0_part32_skel)
      | (rw [k0_part33_eq_skeleton]; unfold k0_part33_skel)
      | (rw [k0_part34_eq_skeleton]; unfold k0_part34_skel)
      | (rw [k0_part35_eq_skeleton]; unfold k0_part35_skel)
      | (rw [k0_part36_eq_skeleton]; unfold k0_part36_skel)
      | (rw [k0_part37_eq_skeleton]; unfold k0_part37_skel)
      | (rw [k0_part38_eq_skeleton]; unfold k0_part38_skel)
      | (rw [k0_part39_eq_skeleton]; unfold k0_part39_skel)
      | (rw [k0_part40_eq_skeleton]; unfold k0_part40_skel)
      | (rw [k0_part41_eq_skeleton]; unfold k0_part41_skel)
      | (rw [k0_part42_eq_skeleton]; unfold k0_part42_skel)
      | (rw [k0_part43_eq_skeleton]; unfold k0_part43_skel)
      | (rw [k0_part44_eq_skeleton]; unfold k0_part44_skel)
      | (rw [k0_part45_eq_skeleton]; unfold k0_part45_skel)
      | (rw [k0_part46_eq_skeleton]; unfold k0_part46_skel)
      | (rw [k0_part47_eq_skeleton]; unfold k0_part47_skel)
      | (rw [k0_part48_eq_skeleton]; unfold k0_part48_skel)
      | (rw [k0_part49_eq_skeleton]; unfold k0_part49_skel)
      | (rw [k0_part50_eq_skeleton]; unfold k0_part50_skel)
      | (rw [k0_part51_eq_skeleton]; unfold k0_part51_skel)
      | (rw [k0_part52_eq_skeleton]; unfold k0_part52_skel)
      | (rw [k0_part53_eq_skeleton]; unfold k0_part53_skel)
      | (rw [k0_part54_eq_skeleton]; unfold k0_part54_skel)
      | (rw [k0_part55_eq_skeleton]; unfold k0_part55_skel)
      | (rw [k0_part56_eq_skeleton]; unfold k0_part56_skel)
      | (rw [k0_part57_eq_skeleton]; unfold k0_part57_skel)
      | (rw [k0_part58_eq_skeleton]; unfold k0_part58_skel)
      | (rw [k0_part59_eq_skeleton]; unfold k0_part59_skel)
      | (rw [k0_part60_eq_skeleton]; unfold k0_part60_skel)
      | (rw [k0_part61_eq_skeleton]; unfold k0_part61_skel)
      | (rw [k0_part62_eq_skeleton]; unfold k0_part62_skel)
      | (rw [k0_part63_eq_skeleton]; unfold k0_part63_skel)
      | (rw [k0_part64_eq_skeleton]; unfold k0_part64_skel)
      | (rw [k0_part65_eq_skeleton]; unfold k0_part65_skel)
      | (rw [k0_part66_eq_skeleton]; unfold k0_part66_skel)
      | (rw [k0_part67_eq_skeleton]; unfold k0_part67_skel)
      | (rw [k0_part68_eq_skeleton]; unfold k0_part68_skel)
      | (rw [k0_part69_eq_skeleton]; unfold k0_part69_skel)
      | (rw [k0_part70_eq_skeleton]; unfold k0_part70_skel)
      | (rw [k0_part71_eq_skeleton]; unfold k0_part71_skel)
      | (rw [k0_part72_eq_skeleton]; unfold k0_part72_skel)
      | (rw [k0_part73_eq_skeleton]; unfold k0_part73_skel)
      | (rw [k0_part74_eq_skeleton]; unfold k0_part74_skel)
      | (rw [k0_part75_eq_skeleton]; unfold k0_part75_skel)
      | (rw [k0_part76_eq_skeleton]; unfold k0_part76_skel)
      | (rw [k0_part77_eq_skeleton]; unfold k0_part77_skel)
      | (rw [k0_part78_eq_skeleton]; unfold k0_part78_skel)
      | (rw [k0_part79_eq_skeleton]; unfold k0_part79_skel)
      | (rw [k0_part80_eq_skeleton]; unfold k0_part80_skel)
      | (rw [k0_part81_eq_skeleton]; unfold k0_part81_skel))
       simp only [Prog.lift, semSignalWord, semWaitWord, Prog.bind_op, Prog.bind_ret, Prog.pure_eq_ret, Prog.bind_assoc, wp_deviceId, Nat.reduceAdd])
    | (refine (gather m c (by decide) (by decide) (by decide) (by decide) (by decide)).trans ?_)
  exact ret_of c hQ

end Decode
-- ==== Proof.Ghost.lean ====
/-
  The ghost state that the launch mints, and how it is dealt: the records of all cells to every device, the positions to the
  cells' devices, and each duty's token to the device that pays it.
-/
module

public import proofs.«01_k».proof.Proof.StepsA
public import proofs.«01_k».proof.Proof.Gen.KernelIdeal.Launch
public import Idealize.ShloMosaic.Lib.Rounds

@[expose] public section

noncomputable section

namespace Decode

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## Products over the first numbers -/

theorem fin_ico (n : ℕ) (Φ : ℕ → sProp 𝕄) : (bigSep Finset.univ fun k : Fin n => Φ k.val) = bigSep (Finset.Ico 0 n) Φ := by
  have e : Finset.Ico 0 n = (Finset.univ : Finset (Fin n)).image (fun k => k.val) := by
    ext x
    simp only [Finset.mem_Ico, Finset.mem_image, Finset.mem_univ, true_and]
    exact ⟨fun h => ⟨⟨x, h.2⟩, rfl⟩, fun ⟨k, hk⟩ => hk ▸ ⟨Nat.zero_le _, k.isLt⟩⟩
  rw [e, BI.bigSep_image_of_injOn (fun x _ y _ h => Fin.ext h)]

/-- All cells of device `c`: its barrier cell and its DMA cells. -/
theorem cells_eq (Φ : GSem nD τ sig → sProp 𝕄) (c : Dev nD) :
    (bigSep Finset.univ fun k : Fin 133 => Φ (kcell (c, k))) = iprop(Φ (barCell c) ∗ bigSep (Finset.Ico 1 133) fun i => Φ (dcell c i)) := by
  have e : (bigSep Finset.univ fun k : Fin 133 => Φ (kcell (c, k))) = bigSep Finset.univ fun k : Fin 133 => (fun i : ℕ => Φ (if i = 0 then barCell c else dcell c i)) k.val :=
    bigSep_congr fun k _ => by
      by_cases h : k = 0
      · exact (congrArg Φ (kcell_bar c k h)).trans (congrArg Φ (if_pos (congrArg Fin.val h)).symm)
      · exact (congrArg Φ (kcell_dma c k h)).trans (congrArg Φ (if_neg fun h' => h (Fin.ext h')).symm)
  refine e.trans ((fin_ico 133 (fun i : ℕ => Φ (if i = 0 then barCell c else dcell c i))).trans ?_)
  rw [bigSep_Ico_succ_bot (by decide), if_pos rfl]
  refine congrArg (fun X => iprop(Φ (barCell c) ∗ X)) (bigSep_congr fun i hi => ?_)
  rw [if_neg (by have := Finset.mem_Ico.mp hi; omega)]

/-! ## What the launch mints -/

theorem dsem_inj {i j : ℕ} (hi : i < 133) (hj : j < 133) (h : dsem i = dsem j) : i = j := by
  have := congrArg Fin.val h
  rwa [dsem_val i hi, dsem_val j hj] at this

theorem kcell_injective : Function.Injective kcell := by
  rintro ⟨c, k⟩ ⟨c', k'⟩ h
  have h1 : c = c' := congrArg (fun g : GSem nD τ sig => g.1.1) h
  subst h1
  have h2 : csem k = csem k' := congrArg Prod.snd h
  unfold csem at h2
  by_cases hk : k = 0
  · by_cases hk' : k' = 0
    · rw [hk, hk']
    · rw [if_pos hk, if_neg hk'] at h2; cases h2
  · by_cases hk' : k' = 0
    · rw [if_neg hk, if_pos hk'] at h2; cases h2
    · rw [if_neg hk, if_neg hk'] at h2
      injection h2 with h3
      rw [show k = k' from Fin.ext (dsem_inj k.isLt k'.isLt h3)]
def allCells : Finset (GSem nD τ sig) := Finset.univ.map ⟨kcell, kcell_injective⟩

/-- A device's own cells' duty tokens: seven on its barrier cell, one on each DMA cell. -/
def tokOf (ck : Dev nD × Fin 139) : GSem nD τ sig × ℕ × ℕ :=
  if ck.2.val < 7 then (barCell ck.1, 0, ck.2.val) else (dcell ck.1 (ck.2.val - 6), 0, 0)
theorem tokOf_dev (ck : Dev nD × Fin 139) : (tokOf ck).1.1.1 = ck.1 := by unfold tokOf; split <;> rfl
theorem tokOf_injective : Function.Injective tokOf := by
  rintro ⟨c, k⟩ ⟨c', k'⟩ h
  have h1 : c = c' := by have := congrArg (fun x : GSem nD τ sig × ℕ × ℕ => x.1.1.1) h; rwa [tokOf_dev, tokOf_dev] at this
  subst h1
  unfold tokOf at h
  dsimp only at h
  have hk := k.isLt
  have hk' := k'.isLt
  by_cases a : k.val < 7
  · by_cases b : k'.val < 7
    · rw [if_pos a, if_pos b] at h
      rw [show k = k' from Fin.ext (congrArg (fun x : GSem nD τ sig × ℕ × ℕ => x.2.2) h)]
    · rw [if_pos a, if_neg b] at h
      have := congrArg (fun x : GSem nD τ sig × ℕ × ℕ => x.1.2) h
      cases this
  · by_cases b : k'.val < 7
    · rw [if_neg a, if_pos b] at h
      have := congrArg (fun x : GSem nD τ sig × ℕ × ℕ => x.1.2) h
      cases this
    · rw [if_neg a, if_neg b] at h
      have h2 := congrArg (fun x : GSem nD τ sig × ℕ × ℕ => x.1.2) h
      injection h2 with h3
      have := dsem_inj (by omega) (by omega) h3
      rw [show k = k' from Fin.ext (by omega)]
def allToks : Finset (GSem nD τ sig × ℕ × ℕ) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def devToks (c : Dev nD) : sProp 𝕄 :=
  iprop((bigSep (Finset.Ico 0 7) fun j => dutyTok ER (barCell c) 0 j) ∗ bigSep (Finset.Ico 1 133) fun i => dutyTok ER (dcell c i) 0 0)

theorem toks_eq (c : Dev nD) : (bigSep Finset.univ fun k : Fin 139 => (dutyTok ER (tokOf (c, k)).1 (tokOf (c, k)).2.1 (tokOf (c, k)).2.2 : sProp 𝕄)) = devToks c := by
  have e : (bigSep Finset.univ fun k : Fin 139 => (dutyTok ER (tokOf (c, k)).1 (tokOf (c, k)).2.1 (tokOf (c, k)).2.2 : sProp 𝕄))
      = bigSep Finset.univ fun k : Fin 139 => (fun i : ℕ => (if i < 7 then dutyTok ER (barCell c) 0 i else dutyTok ER (dcell c (i - 6)) 0 0 : sProp 𝕄)) k.val :=
    bigSep_congr fun k _ => by unfold tokOf; dsimp only; split <;> rfl
  refine e.trans ((fin_ico 139 (fun i : ℕ => (if i < 7 then dutyTok ER (barCell c) 0 i else dutyTok ER (dcell c (i - 6)) 0 0 : sProp 𝕄))).trans ?_)
  rw [cut (show 0 ≤ 7 by decide) (show 7 ≤ 139 by decide)]
  unfold devToks
  rw [show (139 : ℕ) = 7 + 132 from rfl, show (133 : ℕ) = 1 + 132 from rfl, shift 7 132, shift 1 132]
  refine congrArg₂ (fun X Y => iprop(X ∗ Y)) (bigSep_congr fun i hi => ?_) (bigSep_congr fun i hi => ?_)
  · rw [if_pos (Finset.mem_Ico.mp hi).2]
  · rw [if_neg (by omega), show 7 + i - 6 = 1 + i by omega]

/-- What the launch deals device `c`, cell by cell. -/
def G (c : Dev nD) : sProp 𝕄 :=
  iprop((bigSep Finset.univ fun k : Fin 133 => roundState ER (rd m) (kcell (c, k)) 0)
    ∗ (bigSep Finset.univ fun k : Fin 133 => reached ER (kcell (c, k)) 0)
    ∗ (bigSep Finset.univ fun k : Fin 133 => atPos ER (kcell (c, k)) 0 ∅ 0) ∗ devToks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 133 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => devToks c := by
    unfold allToks; rw [bigSep_map, bigSep_univ_prod]
    exact bigSep_congr fun c _ => toks_eq c
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe Hst' Hat' Hr' Htok'

/-! ## The cells' records -/

/-- The body's own semaphores. -/
abbrev osem (k : Fin 132) : SemLoc sig := .dma (dsem (1 + k.val))

theorem ownSems0_eq (c : Dev nD) : (Pipeline.ownSems0 (Ix := Unit) (Name := ℕ) (U := UU) (Lvl := ℕ) (Val := Elt F) (τ := τ) osem c : sProp 𝕄)
    = bigSep (Finset.Ico 1 133) fun i => semVal (dcell c i) 0 := by
  unfold Pipeline.ownSems0
  rw [show (133 : ℕ) = 1 + 132 from rfl, shift 1 132, Finset.range_eq_Ico]
  exact fin_ico 132 (fun i => (semVal (dcell c (1 + i)) 0 : sProp 𝕄))
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The records of device `c`'s cells, its positions and tokens. -/
def G₁ (c : Dev nD) : sProp 𝕄 :=
  iprop((bigSep Finset.univ fun k : Fin 133 => rec1 m (kcell (c, k)))
    ∗ (bigSep Finset.univ fun k : Fin 133 => atPos ER (kcell (c, k)) 0 ∅ 0) ∗ devToks c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> G₁ m c := by
  have h (k : Fin 133) : iprop((semVal (kcell (c, k)) 0 ∗ roundState ER (rd m) (kcell (c, k)) 0) ∗ reached ER (kcell (c, k)) 0)
      ⊢ (|={Set.univ}=> rec1 m (kcell (c, k)) : sProp 𝕄) := by
    iintro ⟨H, Hr⟩
    imod ((Rounds.body_intro ER (rd m) (kcell (c, k))).trans inv_alloc) $$ H with ⟨%κ, HI⟩
    imodintro
    unfold rec1
    iexists κ
    iframe HI Hr
  unfold G G₁
  rw [ownSems0_eq, unscopedSems0_eq]
  iintro ⟨Hos, Hus, Hst, Hre, Hat, Htok⟩
  ihave Hv := (Entails.of_eq (cells_eq (fun g => (semVal g 0 : sProp 𝕄)) c).symm) $$ [Hos Hus]
  · isplitl [Hus] <;> iassumption
  imod (show iprop(((bigSep Finset.univ fun k : Fin 133 => semVal (kcell (c, k)) 0) ∗ bigSep Finset.univ fun k : Fin 133 => roundState ER (rd m) (kcell (c, k)) 0)
        ∗ bigSep Finset.univ fun k : Fin 133 => reached ER (kcell (c, k)) 0)
      ⊢ (|={Set.univ}=> bigSep Finset.univ fun k : Fin 133 => rec1 m (kcell (c, k)) : sProp 𝕄) from by
        rw [← bigSep_sep', ← bigSep_sep']
        exact (bigSep_mono fun k _ => h k).trans (bigSep_fupd _ _)) $$ [Hv Hst Hre] with Hrec
  · iframe Hv Hst Hre
  imodintro
  iframe Hrec Hat Htok

/-! ## The tokens to their payers -/

/-- Two nested products exchanged, the outer one over the devices. -/
theorem swapU (s : Finset ℕ) (Φ : Dev nD → ℕ → sProp 𝕄) :
    (bigSep Finset.univ fun c : Dev nD => bigSep s fun j => Φ c j) = bigSep s fun j => bigSep Finset.univ fun c : Dev nD => Φ c j := by
  induction s using Finset.induction_on with
  | empty => simp
  | insert j s hj ih =>
    rw [bigSep_insert hj, ← ih]
    refine Eq.trans (bigSep_congr fun c _ => bigSep_insert hj (Φ := fun j => Φ c j)) ?_
    exact bigSep_sep' _ _ _

/-- What is the `j`-th peer's for every device, each device takes of its peers. -/
theorem deal (s : Finset ℕ) (Φ : Dev nD → ℕ → sProp 𝕄) :
    (bigSep Finset.univ fun c : Dev nD => bigSep s fun j => Φ c j) = bigSep Finset.univ fun c : Dev nD => bigSep s fun j => Φ (pr c j) j := by
  rw [swapU, swapU]
  exact bigSep_congr fun j _ => bigSep_univ_equiv (prEquiv j) (fun c => Φ c j)

/-- A product over all slots has one summand for each peer. -/
theorem slots_peers (c : Dev nD) (Ψ : ℕ → sProp 𝕄) : bigSep (Finset.range 8) Ψ ⊢ iprop(Ψ (sl c) ∗ bigSep (Finset.range 7) fun j => Ψ (sl (pr c j))) := by
  refine Entails.of_eq ((bigSep_erase (Finset.mem_range.mpr (sl_lt c))).trans ?_)
  rw [← image_sl_pr c, BI.bigSep_image_of_injOn (fun x hx y hy h => inj_sl_pr c x hx y hy h)]
  rfl

theorem deal_slots (Φ : Dev nD → ℕ → sProp 𝕄) :
    (bigSep Finset.univ fun c : Dev nD => bigSep (Finset.range 8) fun s => Φ c s)
      ⊢ bigSep Finset.univ fun c : Dev nD => bigSep (Finset.range 7) fun j => Φ (pr c j) (sl c) := by
  have h : (bigSep Finset.univ fun c : Dev nD => bigSep (Finset.range 8) fun s => Φ c s)
      ⊢ bigSep Finset.univ fun c : Dev nD => bigSep (Finset.range 7) fun j => Φ c (sl (pr c j)) :=
    bigSep_mono fun c _ => (slots_peers c (Φ c)).trans sep_elim_right
  refine h.trans (Entails.of_eq ?_)
  rw [deal (Finset.range 7) (fun c j => Φ c (sl (pr c j)))]
  exact bigSep_congr fun c _ => bigSep_congr fun j _ => by rw [pr_pr]

/-- The tokens device `c` pays with. -/
def payToks (c : Dev nD) : sProp 𝕄 := iprop(
  (bigSep (Finset.Ico 0 7) fun j => dutyTok ER (barCell (pr c j)) 0 j)
    ∗ (bigSep (Finset.Ico 1 69) fun i => dutyTok ER (dcell c i) 0 0)
    ∗ (bigSep (Finset.Ico 0 28) fun n => dutyTok ER (dcell (pr c (n % 7)) (rn (sl c) (n / 7))) 0 0)
    ∗ (bigSep (Finset.Ico 0 28) fun n => dutyTok ER (dcell (pr c (n % 7)) (rs (sl c) (n / 7))) 0 0))

/-- Thirty-two summands slot by slot, and twenty-eight peer by peer. -/
theorem by_slots (Θ : ℕ → ℕ → sProp 𝕄) : (bigSep (Finset.range 32) fun i => Θ (i / 4) (i % 4)) = bigSep (Finset.range 8) fun s => bigSep (Finset.range 4) fun h => Θ s h := by
  rw [Finset.range_eq_Ico, show (Finset.Ico 0 32) = Finset.Ico 0 (4 * 8) from rfl, blocks 4]
  refine bigSep_congr fun s _ => bigSep_congr fun h hh => ?_
  have := Finset.mem_range.mp hh
  rw [show (4 * s + h) / 4 = s by omega, show (4 * s + h) % 4 = h by omega]
theorem by_peers (Θ : ℕ → ℕ → sProp 𝕄) : (bigSep (Finset.Ico 0 28) fun n => Θ (n % 7) (n / 7)) = bigSep (Finset.range 7) fun j => bigSep (Finset.range 4) fun h => Θ j h := by
  rw [show 28 = 7 * 4 from rfl, blocks 7, swap]
  refine bigSep_congr fun j hj => bigSep_congr fun h _ => ?_
  have := Finset.mem_range.mp hj
  rw [show (7 * h + j) % 7 = j by omega, show (7 * h + j) / 7 = h by omega]

/-- The receive cells' tokens, dealt. -/
theorem deal_recv (r : ℕ → ℕ → ℕ) (a : ℕ) (hr : ∀ s h, r s h = a + 4 * s + h) :
    (bigSep Finset.univ fun c : Dev nD => bigSep (Finset.Ico a (a + 32)) fun i => (dutyTok ER (dcell c i) 0 0 : sProp 𝕄))
      ⊢ bigSep Finset.univ fun c : Dev nD => bigSep (Finset.Ico 0 28) fun n => (dutyTok ER (dcell (pr c (n % 7)) (r (sl c) (n / 7))) 0 0 : sProp 𝕄) := by
  have e (c : Dev nD) : (bigSep (Finset.Ico a (a + 32)) fun i => (dutyTok ER (dcell c i) 0 0 : sProp 𝕄))
      = bigSep (Finset.range 8) fun s => bigSep (Finset.range 4) fun h => dutyTok ER (dcell c (r s h)) 0 0 := by
    rw [shift a 32, ← by_slots (fun s h => (dutyTok ER (dcell c (r s h)) 0 0 : sProp 𝕄))]
    refine bigSep_congr fun i _ => ?_
    rw [hr, show a + 4 * (i / 4) + i % 4 = a + i by omega]
  refine (Entails.of_eq (bigSep_congr fun c _ => e c)).trans ((deal_slots (fun c s => bigSep (Finset.range 4) fun h => (dutyTok ER (dcell c (r s h)) 0 0 : sProp 𝕄))).trans
    (Entails.of_eq (bigSep_congr fun c _ => ?_)))
  rw [by_peers (fun j h => (dutyTok ER (dcell (pr c j) (r (sl c) h)) 0 0 : sProp 𝕄))]

theorem toks_around : (bigSep Finset.univ fun c : Dev nD => (devToks c : sProp 𝕄)) ⊢ bigSep Finset.univ fun c : Dev nD => payToks c := by
  have e (c : Dev nD) : (devToks c : sProp 𝕄) = iprop((bigSep (Finset.Ico 0 7) fun j => dutyTok ER (barCell c) 0 j)
      ∗ (bigSep (Finset.Ico 1 69) fun i => dutyTok ER (dcell c i) 0 0) ∗ (bigSep (Finset.Ico 69 (69 + 32)) fun i => dutyTok ER (dcell c i) 0 0)
      ∗ (bigSep (Finset.Ico 101 (101 + 32)) fun i => dutyTok ER (dcell c i) 0 0)) := by
    unfold devToks
    rw [cut (show 1 ≤ 69 by decide) (show 69 ≤ 133 by decide), cut (show 69 ≤ 101 by decide) (show 101 ≤ 133 by decide)]
  rw [bigSep_congr fun c _ => e c]
  unfold payToks
  rw [bigSep_sep', bigSep_sep', bigSep_sep', bigSep_sep', bigSep_sep', bigSep_sep', deal (Finset.Ico 0 7) (fun c j => (dutyTok ER (barCell c) 0 j : sProp 𝕄))]
  iintro ⟨H1, H2, H3, H4⟩
  isplitl [H1]; · iexact H1
  isplitl [H2]; · iexact H2
  isplitl [H3]; · iapply (deal_recv rn 69 fun s h => rfl); iexact H3
  iapply (deal_recv rs 101 fun s h => rfl); iexact H4

/-- What every device starts from: all records, its positions, and the tokens it pays with. -/
def G' (c : Dev nD) : sProp 𝕄 := iprop(recs m
  ∗ (atPos ER (barCell c) 0 ∅ 0 ∗ bigSep (Finset.Ico 1 133) fun i => atPos ER (dcell c i) 0 ∅ 0) ∗ payToks c)

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : bigSep Finset.univ (G₁ m) ⊢ bigSep Finset.univ (G' m) := by
  have e (c : Dev nD) : G₁ m c = iprop((bigSep Finset.univ fun k : Fin 133 => rec1 m (kcell (c, k)))
      ∗ (atPos ER (barCell c) 0 ∅ 0 ∗ bigSep (Finset.Ico 1 133) fun i => atPos ER (dcell c i) 0 ∅ 0) ∗ devToks c) := by
    unfold G₁; rw [cells_eq (fun g => (atPos ER g 0 ∅ 0 : sProp 𝕄)) c]
  rw [bigSep_congr fun c _ => e c, bigSep_sep', bigSep_sep' Finset.univ (fun c : Dev nD => iprop(atPos ER (barCell c) 0 ∅ 0 ∗ bigSep (Finset.Ico 1 133) fun i => atPos ER (dcell c i) 0 ∅ 0)) devToks,
    ← bigSep_univ_prod (fun ck : Dev nD × Fin 133 => rec1 m (kcell ck))]
  iintro ⟨HR, Hat, Htok⟩
  ihave Htok := (toks_around (F := F)) $$ Htok
  iapply (bigSep_with (R := recs m) (Φ := fun c => iprop((atPos ER (barCell c) 0 ∅ 0 ∗ bigSep (Finset.Ico 1 133) fun i => atPos ER (dcell c i) 0 ∅ 0) ∗ payToks c))
    fun c _ => by unfold G'; exact BI.Entails.refl _)
  isplitl [HR]; · unfold recs; iexact HR
  iapply (Entails.of_eq (bigSep_sep' Finset.univ (fun c : Dev nD => iprop(atPos ER (barCell c) 0 ∅ 0 ∗ bigSep (Finset.Ico 1 133) fun i => atPos ER (dcell c i) 0 ∅ 0)) payToks).symm)
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Decode
-- ==== Proof.Regions.lean ====
/-
  The first state, from what the launch hands to a device, and what the last state leaves.
-/
module

public import proofs.«01_k».proof.Proof.Ghost

@[expose] public section

noncomputable section

namespace Decode

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## Numbers of cells and of loads -/

/-- An empty range. -/
theorem nil {a b : ℕ} (h : b ≤ a) (A : ℕ → sProp 𝕄) : iprop(emp) ⊢ bigSep (Finset.Ico a b) A := by
  rw [Finset.Ico_eq_empty_of_le h, bigSep_empty]
  exact BI.Entails.refl _

/-- Twelve summands in four triples. -/
theorem triples (A : ℕ → sProp 𝕄) : bigSep (Finset.Ico 0 12) A = bigSep (Finset.range 4) fun h => iprop(A (3 * h) ∗ A (3 * h + 1) ∗ A (3 * h + 2)) := by
  rw [show 12 = 3 * 4 from rfl, blocks 3]
  refine bigSep_congr fun h _ => ?_
  rw [Finset.range_eq_Ico, bigSep_Ico_succ_bot (by decide), bigSep_Ico_succ_bot (by decide), bigSep_Ico_succ_bot (by decide), Finset.Ico_self, bigSep_empty]
  have h1 : (iprop(A (3 * h + 2) ∗ emp) : sProp 𝕄) ⊢ A (3 * h + 2) := by iintro ⟨H, -⟩; iexact H
  have h2 : A (3 * h + 2) ⊢ (iprop(A (3 * h + 2) ∗ emp) : sProp 𝕄) := by
    iintro H
    isplitl [H]; · iexact H
    iempintro
  exact congrArg (BI.sep _) (congrArg (BI.sep _) (BI.Entails.antisymm h1 h2))

/-- The loads' semaphores, in the order of the loads. -/
theorem by_li (A : ℕ → sProp 𝕄) : bigSep (Finset.Ico 1 13) A = bigSep (Finset.Ico 0 12) fun n => A (li n) := by
  have hinj : ∀ x ∈ Finset.Ico 0 12, ∀ y ∈ Finset.Ico 0 12, li x = li y → x = y := by decide
  rw [show (Finset.Ico 1 13 : Finset ℕ) = (Finset.Ico 0 12).image li from by decide, BI.bigSep_image_of_injOn hinj]

theorem by_arrival (Θ : ℕ → ℕ → sProp 𝕄) : (bigSep (Finset.Ico 0 32) fun r => Θ (r % 8) (r / 8)) = bigSep (Finset.range 8) fun s => bigSep (Finset.range 4) fun h => Θ s h := by
  rw [show 32 = 8 * 4 from rfl, blocks 8, swap]
  refine bigSep_congr fun s hs => bigSep_congr fun h _ => ?_
  have := Finset.mem_range.mp hs
  rw [show (8 * h + s) % 8 = s by omega, show (8 * h + s) / 8 = h by omega]

/-- A kind's receive semaphores, in the order of the awaits. -/
theorem by_recv (r : ℕ → ℕ → ℕ) (a : ℕ) (hr : ∀ s h, r s h = a + 4 * s + h) (A : ℕ → sProp 𝕄) :
    bigSep (Finset.Ico a (a + 32)) A = bigSep (Finset.Ico 0 32) fun n => A (r (n % 8) (n / 8)) := by
  rw [by_arrival (fun s h => A (r s h)), shift a 32, ← by_slots (fun s h => A (r s h))]
  refine bigSep_congr fun i _ => ?_
  rw [hr, show a + 4 * (i / 4) + i % 4 = a + i by omega]

/-- The body's own DMA cells: the loads', the two kinds of sends', and the arrivals'. -/
theorem cells (A : ℕ → sProp 𝕄) : bigSep (Finset.Ico 1 133) A = iprop((bigSep (Finset.Ico 0 12) fun n => A (li n))
    ∗ (bigSep (Finset.Ico 0 28) fun n => A (13 + n)) ∗ (bigSep (Finset.Ico 0 28) fun n => A (41 + n))
    ∗ bigSep (Finset.Ico 0 32) fun r => iprop(A (rn (r % 8) (r / 8)) ∗ A (rs (r % 8) (r / 8)))) := by
  rw [cut (show 1 ≤ 13 by decide) (show 13 ≤ 133 by decide), cut (show 13 ≤ 41 by decide) (show 41 ≤ 133 by decide),
    cut (show 41 ≤ 69 by decide) (show 69 ≤ 133 by decide), cut (show 69 ≤ 101 by decide) (show 101 ≤ 133 by decide),
    by_li, show 41 = 13 + 28 from rfl, shift 13 28, show 69 = 13 + 28 + 28 from rfl, shift (13 + 28) 28,
    show 101 = 69 + 32 from rfl, show 133 = 101 + 32 from rfl, by_recv rs 101 (fun _ _ => rfl),
    show 13 + 28 + 28 = 69 from rfl, by_recv rn 69 (fun _ _ => rfl), bigSep_sep', Finset.range_eq_Ico]

/-- Of the tokens of the loads and sends. -/
theorem toks_own (A : ℕ → sProp 𝕄) : bigSep (Finset.Ico 1 69) A = iprop((bigSep (Finset.Ico 0 12) fun n => A (li n))
    ∗ (bigSep (Finset.Ico 0 28) fun n => A (13 + n)) ∗ (bigSep (Finset.Ico 0 28) fun n => A (41 + n))) := by
  rw [cut (show 1 ≤ 13 by decide) (show 13 ≤ 69 by decide), cut (show 13 ≤ 41 by decide) (show 41 ≤ 69 by decide),
    by_li, show 41 = 13 + 28 from rfl, shift 13 28, show 69 = 13 + 28 + 28 from rfl, shift (13 + 28) 28, Finset.range_eq_Ico]

/-! ## Buffers cut in pieces -/

theorem pieces {ℓ : Loc nD τ sig} {q : PosShare TreeShare} {f : Buf (Elt F) ℓ} (K : ℕ → Finset (Idx ℓ)) (hK : ∀ a b, a ≠ b → Disjoint (K a) (K b)) (a : ℕ) :
    (ℓ ↦{q} f : sProp 𝕄) ⊢ bigSep (Finset.range 4) fun h => ℓ ↦[K (a + h)]{q} f := by
  refine (pointsTo_split_subset (I := (Finset.range 4).biUnion fun h => K (a + h)) (Finset.subset_univ _)).1.trans ?_
  rw [pointsTo_biUnion _ _ fun x _ y _ h => hK _ _ fun e => h (Nat.add_left_cancel e)]
  iintro ⟨H, -⟩
  iexact H

theorem scraps {ℓ : Loc nD τ sig} {S : Finset (Idx ℓ)} (n : ℕ) (K : ℕ → Finset (Idx ℓ)) (hK : ∀ a b, a ≠ b → Disjoint (K a) (K b))
    (hS : S = (Finset.range n).biUnion K) :
    (iprop(∃ f : Buf (Elt F) ℓ, ℓ ↦[S]{fullShare} f) : sProp 𝕄) ⊢ bigSep (Finset.range n) fun h => iprop(∃ f : Buf (Elt F) ℓ, ℓ ↦[K h]{fullShare} f) := by
  subst hS
  iintro ⟨%f, H⟩
  ihave H := (Entails.of_eq (pointsTo_biUnion (Finset.range n) K fun x _ y _ h => hK x y h)) $$ H
  have h1 (h : ℕ) : (ℓ ↦[K h]{fullShare} f : sProp 𝕄) ⊢ iprop(∃ f : Buf (Elt F) ℓ, ℓ ↦[K h]{fullShare} f) := by iintro H; iexists f; iexact H
  have h : (bigSep (Finset.range n) fun h => (ℓ ↦[K h]{fullShare} f : sProp 𝕄)) ⊢ bigSep (Finset.range n) fun h => iprop(∃ f : Buf (Elt F) ℓ, ℓ ↦[K h]{fullShare} f) :=
    bigSep_mono fun h _ => h1 h
  iapply h; iexact H

theorem joined {ℓ : Loc nD τ sig} (n : ℕ) (K : ℕ → Finset (Idx ℓ)) (hK : ∀ a b, a ≠ b → Disjoint (K a) (K b))
    (hS : Finset.univ = (Finset.range n).biUnion K) (f : Buf (Elt F) ℓ) :
    (bigSep (Finset.range n) fun h => (ℓ ↦[K h]{fullShare} f : sProp 𝕄)) ⊢ iprop(∃ f : Buf (Elt F) ℓ, ℓ ↦{fullShare} f) := by
  iintro H
  iexists f
  rw [hS]
  iapply (Entails.of_eq (pointsTo_biUnion (Finset.range n) K fun x _ y _ h => hK x y h).symm); iexact H

/-- The landing buffers cut in slots and heads. -/
theorem landings (c : Dev nD) : iprop((∃ f : Buf (Elt F) (locN c), locN c ↦{fullShare} f) ∗ (∃ f : Buf (Elt F) (locS c), locS c ↦{fullShare} f))
    ⊢ (bigSep (Finset.range 8) fun s => bigSep (Finset.range 4) fun h => iprop(landN (F := F) c s h ∗ landS (F := F) c s h) : sProp 𝕄) := by
  have hn : (iprop(∃ f : Buf (Elt F) (locN c), locN c ↦{fullShare} f) : sProp 𝕄) ⊢ bigSep (Finset.range 8) fun s => bigSep (Finset.range 4) fun h => landN (F := F) c s h := by
    rw [swap]
    exact (scraps (ℓ := locN c) 4 nHead nHead_disj nUniv_eq).trans (bigSep_mono fun h _ => scraps (ℓ := locN c) 8 (fun s => nSet s h) (nSet_disj h) (nHead_eq h))
  have hs : (iprop(∃ f : Buf (Elt F) (locS c), locS c ↦{fullShare} f) : sProp 𝕄) ⊢ bigSep (Finset.range 8) fun s => bigSep (Finset.range 4) fun h => landS (F := F) c s h := by
    rw [swap]
    exact (scraps (ℓ := locS c) 4 sHead sHead_disj sUniv_eq).trans (bigSep_mono fun h _ => scraps (ℓ := locS c) 8 (fun s => sSet s h) (sSet_disj h) (sHead_eq h))
  simp only [bigSep_sep']
  iintro ⟨Hn, Hs⟩
  isplitl [Hn]
  · iapply hn; iexact Hn
  iapply hs; iexact Hs

/-- Of them, one's own slot and the slots handed to the peers. -/
theorem landings_dealt (c : Dev nD) : iprop((∃ f : Buf (Elt F) (locN c), locN c ↦{fullShare} f) ∗ (∃ f : Buf (Elt F) (locS c), locS c ↦{fullShare} f))
    ⊢ (iprop((bigSep (Finset.Ico 0 4) fun h => iprop(land (F := F) c false (sl c) h ∗ land (F := F) c true (sl c) h))
        ∗ bigSep (Finset.Ico 0 7) fun j => barPay (F := F) (pr c j) j) : sProp 𝕄) := by
  refine (landings c).trans ((slots_peers c fun s => bigSep (Finset.range 4) fun h => iprop(landN (F := F) c s h ∗ landS (F := F) c s h)).trans ?_)
  rw [← Finset.range_eq_Ico, ← Finset.range_eq_Ico]
  have e : (bigSep (Finset.range 7) fun j => barPay (F := F) (pr c j) j)
      = bigSep (Finset.range 7) fun j => bigSep (Finset.range 4) fun h => iprop(landN (F := F) c (sl (pr c j)) h ∗ landS (F := F) c (sl (pr c j)) h) :=
    bigSep_congr fun j _ => by unfold barPay; rw [pr_pr]
  rw [e]
  exact BI.Entails.refl _

/-! ## The loads -/

theorem loads_from (c : Dev nD) :
    iprop((locA0 c ↦{fullShare.right} (m (locA0 c) : Buf (Elt F) (locA0 c))) ∗ (locA1 c ↦{fullShare.right} (m (locA1 c) : Buf (Elt F) (locA1 c)))
        ∗ (locA2 c ↦{fullShare.right} (m (locA2 c) : Buf (Elt F) (locA2 c)))
        ∗ (∃ f : Buf (Elt F) (locQ c), locQ c ↦{fullShare} f) ∗ (∃ f : Buf (Elt F) (locK c), locK c ↦{fullShare} f) ∗ (∃ f : Buf (Elt F) (locV c), locV c ↦{fullShare} f))
      ⊢ (bigSep (Finset.Ico 0 12) fun n => lpre m c n : sProp 𝕄) := by
  have e : (bigSep (Finset.Ico 0 12) fun n => lpre m c n) = bigSep (Finset.range 4) fun h => iprop(
      ((locA1 c ↦[kvsSet (4 * sG c + h)]{fullShare.right} (m (locA1 c) : Buf (Elt F) (locA1 c))) ∗ ∃ f : Buf (Elt F) (locK c), locK c ↦[kvSet h]{fullShare} f)
      ∗ ((locA2 c ↦[kvsSet (4 * sG c + h)]{fullShare.right} (m (locA2 c) : Buf (Elt F) (locA2 c))) ∗ ∃ f : Buf (Elt F) (locV c), locV c ↦[kvSet h]{fullShare} f)
      ∗ ((locA0 c ↦[qsSet (4 * sG c + h)]{fullShare.right} (m (locA0 c) : Buf (Elt F) (locA0 c))) ∗ ∃ f : Buf (Elt F) (locQ c), locQ c ↦[qSet h]{fullShare} f)) := by
    rw [triples]
    refine bigSep_congr fun h _ => ?_
    unfold lpre
    rw [if_pos (show 3 * h % 3 = 0 by omega), if_neg (show ¬(3 * h + 1) % 3 = 0 by omega), if_pos (show (3 * h + 1) % 3 = 1 by omega),
      if_neg (show ¬(3 * h + 2) % 3 = 0 by omega), if_neg (show ¬(3 * h + 2) % 3 = 1 by omega),
      show 3 * h / 3 = h by omega, show (3 * h + 1) / 3 = h by omega, show (3 * h + 2) / 3 = h by omega]
  rw [e]
  simp only [bigSep_sep']
  iintro ⟨H0, H1, H2, HQ, HK, HV⟩
  isplitl [H1 HK]
  · isplitl [H1]; · iapply (pieces (ℓ := locA1 c) kvsSet kvsSet_disj (4 * sG c)); iexact H1
    iapply (scraps (ℓ := locK c) 4 kvSet kvSet_disj kvUniv_eq); iexact HK
  isplitl [H2 HV]
  · isplitl [H2]; · iapply (pieces (ℓ := locA2 c) kvsSet kvsSet_disj (4 * sG c)); iexact H2
    iapply (scraps (ℓ := locV c) 4 kvSet kvSet_disj kvUniv_eq); iexact HV
  isplitl [H0]; · iapply (pieces (ℓ := locA0 c) qsSet qsSet_disj (4 * sG c)); iexact H0
  iapply (scraps (ℓ := locQ c) 4 qSet qSet_disj qUniv_eq); iexact HQ

theorem loads_to (c : Dev nD) : (bigSep (Finset.Ico 0 12) fun n => dmaPay m c (li n) : sProp 𝕄)
    ⊢ iprop((∃ f : Buf (Elt F) (locQ c), locQ c ↦{fullShare} f) ∗ (∃ f : Buf (Elt F) (locK c), locK c ↦{fullShare} f) ∗ (∃ f : Buf (Elt F) (locV c), locV c ↦{fullShare} f)) := by
  have e : (bigSep (Finset.Ico 0 12) fun n => dmaPay m c (li n)) = bigSep (Finset.range 4) fun h => iprop(
      (locK c ↦[kvSet h]{fullShare} (kV m c : Buf (Elt F) (locK c))) ∗ (locV c ↦[kvSet h]{fullShare} (vV m c : Buf (Elt F) (locV c)))
      ∗ (locQ c ↦[qSet h]{fullShare} (qV m c : Buf (Elt F) (locQ c)))) := by
    rw [triples fun n => dmaPay m c (li n)]
    refine bigSep_congr fun h hh => ?_
    have hh := Finset.mem_range.mp hh
    rw [show li (3 * h) = 1 + h by unfold li; omega, show li (3 * h + 1) = 5 + h by unfold li; omega, show li (3 * h + 2) = 9 + h by unfold li; omega]
    unfold dmaPay
    rw [if_pos (show 1 + h ≤ 4 by omega), if_neg (show ¬5 + h ≤ 4 by omega), if_pos (show 5 + h ≤ 8 by omega),
      if_neg (show ¬9 + h ≤ 4 by omega), if_neg (show ¬9 + h ≤ 8 by omega), if_pos (show 9 + h ≤ 12 by omega),
      Nat.add_sub_cancel_left, Nat.add_sub_cancel_left, Nat.add_sub_cancel_left]
  rw [e]
  simp only [bigSep_sep']
  iintro ⟨HK, HV, HQ⟩
  isplitl [HQ]; · iapply (joined (ℓ := locQ c) 4 qSet qSet_disj qUniv_eq (qV m c)); iexact HQ
  isplitl [HK]; · iapply (joined (ℓ := locK c) 4 kvSet kvSet_disj kvUniv_eq (kV m c)); iexact HK
  iapply (joined (ℓ := locV c) 4 kvSet kvSet_disj kvUniv_eq (vV m c)); iexact HV

/-! ## The first state -/

/-- What device `c`'s body starts from, besides its scratch buffers: records, positions, tokens, credit, levels, and the
    right half of each argument. -/
def start (c : Dev nD) : sProp 𝕄 := iprop(G' m c
  ∗ (cred (tallyAt (barCell c) () 7) ∗ bigSep (Finset.Ico 0 32) fun r => if r % 8 = sl c then iprop(emp) else
      iprop(cred (tallyAt (dcell c (rn (r % 8) (r / 8))) () NN) ∗ cred (tallyAt (dcell c (rs (r % 8) (r / 8))) () NS)))
  ∗ levAts L lv
  ∗ (locA0 c ↦{fullShare.right} (m (locA0 c) : Buf (Elt F) (locA0 c))) ∗ (locA1 c ↦{fullShare.right} (m (locA1 c) : Buf (Elt F) (locA1 c)))
  ∗ (locA2 c ↦{fullShare.right} (m (locA2 c) : Buf (Elt F) (locA2 c))))

/-- The scratch buffers. -/
def scratch (c : Dev nD) : sProp 𝕄 := iprop((∃ f : Buf (Elt F) (locQ c), locQ c ↦{fullShare} f) ∗ (∃ f : Buf (Elt F) (locK c), locK c ↦{fullShare} f)
  ∗ (∃ f : Buf (Elt F) (locV c), locV c ↦{fullShare} f) ∗ (∃ f : Buf (Elt F) (locN c), locN c ↦{fullShare} f) ∗ (∃ f : Buf (Elt F) (locS c), locS c ↦{fullShare} f))

/-- From the start and the buffers, the first state. -/
theorem enter (c : Dev nD) :
    iprop(start m c ∗ scratch (F := F) c ∗ OwP (F := F) c 0 0 0 ∗ ∃ f : Buf (Elt F) ((c : Thread nD τ).loc cc0_stg0_0), (c : Thread nD τ).loc cc0_stg0_0 ↦{fullShare} f)
      ⊢ St m c 0 0 0 0 0 0 0 0 0 0 0 0 := by
  unfold start scratch G' payToks
  rw [cells, toks_own]
  iintro ⟨⟨⟨HR, ⟨HatB, HatL, HatN, HatS, HatR⟩, HtB, ⟨HtL, HtN, HtS⟩, HtRN, HtRS⟩, ⟨HcB, HcR⟩, Hlev, H0, H1, H2⟩, ⟨HQ, HK, HV, HN, HS⟩, HO, ⟨%f, Hstg⟩⟩
  ihave HL := (loads_from m c) $$ [H0 H1 H2 HQ HK HV]
  · iframe H0 H1 H2 HQ HK HV
  ihave HD := (landings_dealt (F := F) c) $$ [HN HS]
  · iframe HN HS
  icases HD with ⟨Hland, Hbar⟩
  unfold St
  iframe HR Hlev HO
  isplitl [HtB Hbar]
  · unfold SgP
    rw [bigSep_sep']
    isplitl [HtB]; · iexact HtB
    iexact Hbar
  isplitl [HcB HatB]
  · unfold BrP
    iapply (Entails.of_eq (if_pos (rfl : (0 : ℕ) = 0)).symm)
    isplitl [HcB]; · iexact HcB
    iexact HatB
  isplitl [HL HtL HatL]
  · unfold LdP
    rw [bigSep_sep']
    isplitl [HL HtL]
    · isplitl [HtL]; · iexact HtL
      iexact HL
    isplitr; · iapply (nil (le_refl 0)); iempintro
    isplitl [HatL]; · iexact HatL
    isplitr; · iapply (nil (le_refl 0)); iempintro
    iapply (nil (le_refl 0)); iempintro
  isplitl [Hland]
  · unfold OwnP
    isplitl [Hland]; · iexact Hland
    iapply (nil (le_refl 0)); iempintro
  isplitl [HtN HtRN HatN]
  · unfold SnP
    rw [bigSep_sep']
    isplitl [HtN HtRN]
    · isplitl [HtN]; · iexact HtN
      iexact HtRN
    isplitr; · iapply (Entails.of_eq (if_pos (rfl : (0 : ℕ) = 0)).symm); iempintro
    isplitr; · iapply (nil (le_refl 0)); iempintro
    isplitr; · iapply (nil (le_refl 0)); iempintro
    isplitl [HatN]; · iexact HatN
    isplitr; · iapply (nil (le_refl 0)); iempintro
    iapply (nil (le_refl 0)); iempintro
  isplitl [HtS HtRS HatS]
  · unfold SnP
    rw [bigSep_sep']
    isplitl [HtS HtRS]
    · isplitl [HtS]; · iexact HtS
      iexact HtRS
    isplitr; · iapply (Entails.of_eq (if_pos (rfl : (0 : ℕ) = 0)).symm); iempintro
    isplitr; · iapply (nil (le_refl 0)); iempintro
    isplitr; · iapply (nil (le_refl 0)); iempintro
    isplitl [HatS]; · iexact HatS
    isplitr; · iapply (nil (le_refl 0)); iempintro
    iapply (nil (le_refl 0)); iempintro
  isplitl [HcR HatR]
  · unfold RvP
    isplitl [HcR]; · iexact HcR
    isplitl [HatR]; · iexact HatR
    isplitr; · iapply (nil (le_refl 0)); iempintro
    iapply (nil (le_refl 0)); iempintro
  isplitr
  · unfold FuP
    iapply (nil (le_refl 0)); iempintro
  unfold OuP
  iexists f
  isplitr; · ipureintro; exact fun i h => absurd h (Nat.not_lt_zero _)
  iexact Hstg

/-! ## The last state -/

theorem ord_lt (n : ℕ) (h : n < 16) : ord n < 16 := by unfold ord; omega

/-- From the last state: the result stored whole, nothing owed, every cell closed and the scratch buffers whole. -/
theorem leave (c : Dev nD) : St m c 7 1 12 12 4 28 28 28 28 32 4 16
    ⊢ iprop(OwP (F := F) c 7 28 28 ∗ (semVal (barCell c) 0 ∗ (bigSep (Finset.Ico 1 133) fun i => semVal (dcell c i) 0) ∗ scratch (F := F) c)
      ∗ ((c : Thread nD τ).loc cc0_stg0_0 ↦{fullShare} (outV m : Buf (Elt F) ((c : Thread nD τ).loc cc0_stg0_0)))) := by
  have hN : (bigSep (Finset.Ico 0 4) fun h => (locN c ↦[nHead h]{fullShare} (numV m : Buf (Elt F) (locN c)) : sProp 𝕄)) ⊢ iprop(∃ f : Buf (Elt F) (locN c), locN c ↦{fullShare} f) := by
    rw [← Finset.range_eq_Ico]; exact joined (ℓ := locN c) 4 nHead nHead_disj nUniv_eq (numV m)
  have hS : (bigSep (Finset.Ico 0 4) fun h => (locS c ↦[sHead h]{fullShare} (statV m : Buf (Elt F) (locS c)) : sProp 𝕄)) ⊢ iprop(∃ f : Buf (Elt F) (locS c), locS c ↦{fullShare} f) := by
    rw [← Finset.range_eq_Ico]; exact joined (ℓ := locS c) 4 sHead sHead_disj sUniv_eq (statV m)
  unfold St LdP SnP RvP FuP OuP scratch
  rw [cells, bigSep_sep' (Finset.Ico 0 4)]
  iintro ⟨-, -, HO, -, Hb, ⟨-, -, -, HzL, HL⟩, -, ⟨-, -, -, -, -, HzN, -⟩, ⟨-, -, -, -, -, HzS, -⟩, ⟨-, -, HzR, -⟩, ⟨HN, HS⟩, ⟨%f, %hf, Hstg⟩⟩
  ihave HL := (loads_to m c) $$ HL
  icases HL with ⟨HQ, HK, HV⟩
  isplitl [HO]; · iexact HO
  isplitr [Hstg]
  · isplitl [Hb]
    · unfold BrP
      iapply (Entails.of_eq (if_neg (show ¬(1 : ℕ) = 0 by decide))); iexact Hb
    isplitl [HzL HzN HzS HzR]
    · isplitl [HzL]; · iexact HzL
      isplitl [HzN]; · iexact HzN
      isplitl [HzS]; · iexact HzS
      iexact HzR
    isplitl [HQ]; · iexact HQ
    isplitl [HK]; · iexact HK
    isplitl [HV]; · iexact HV
    isplitl [HN]; · iapply hN; iexact HN
    iapply hS; iexact HS
  have e : f = outV m := funext fun i => hf i (ord_lt _ (i 2).isLt)
  subst e
  iexact Hstg

end Decode
-- ==== Proof.Credit.lean ====
/-
  What each device is owed by its peers, and the credit that it starts with.
-/
module

public import proofs.«01_k».proof.Proof.StepsA
public import proofs.«01_k».proof.Proof.Gen.KernelIdeal.Launch

@[expose] public section

noncomputable section

namespace Decode

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- What device `c` is owed by its peers. -/
def due (c : Dev nD) : CellTallies nD τ sig Unit :=
  (∑ j ∈ Finset.range 7, tallyAt (barCell c) () 1)
    + (∑ s ∈ (Finset.range 8).erase (sl c), ∑ h ∈ Finset.range 4, tallyAt (dcell c (rn s h)) () NN)
    + (∑ s ∈ (Finset.range 8).erase (sl c), ∑ h ∈ Finset.range 4, tallyAt (dcell c (rs s h)) () NS)

/-- A sum over the twenty-eight sends, peer by peer and head by head. -/
theorem sum_peers {M : Type} [AddCommMonoid M] (Θ : ℕ → ℕ → M) : (∑ n ∈ Finset.Ico 0 28, Θ (n % 7) (n / 7)) = ∑ j ∈ Finset.range 7, ∑ h ∈ Finset.range 4, Θ j h := by
  rw [← Finset.sum_product']
  refine Finset.sum_bij' (fun n _ => (n % 7, n / 7)) (fun p _ => 7 * p.2 + p.1) ?_ ?_ ?_ ?_ ?_
  · intro n hn; rw [Finset.mem_Ico] at hn; rw [Finset.mem_product, Finset.mem_range, Finset.mem_range]; constructor <;> dsimp only <;> omega
  · intro p hp; rw [Finset.mem_product, Finset.mem_range, Finset.mem_range] at hp; rw [Finset.mem_Ico]; omega
  · intro n _; dsimp only; omega
  · intro p hp; rw [Finset.mem_product, Finset.mem_range, Finset.mem_range] at hp; obtain ⟨a, b⟩ := p; dsimp only at hp ⊢; rw [Prod.mk.injEq]; omega
  · intro n _; rfl

/-- What each device has for its `j`-th peer, each device has of it. -/
theorem sum_deal {M : Type} [AddCommMonoid M] (Θ : Dev nD → ℕ → M) :
    (∑ c : Dev nD, ∑ j ∈ Finset.range 7, Θ (pr c j) j) = ∑ c : Dev nD, ∑ j ∈ Finset.range 7, Θ c j := by
  rw [Finset.sum_comm, Finset.sum_comm (s := Finset.univ)]
  exact Finset.sum_congr rfl fun j _ => Equiv.sum_comp (prEquiv j) (fun c => Θ c j)

theorem sum_slots {M : Type} [AddCommMonoid M] (A : Dev nD → ℕ → ℕ → M) :
    (∑ c : Dev nD, ∑ n ∈ Finset.Ico 0 28, A (pr c (n % 7)) (sl c) (n / 7))
      = ∑ c : Dev nD, ∑ s ∈ (Finset.range 8).erase (sl c), ∑ h ∈ Finset.range 4, A c s h := by
  have e1 : (∑ c : Dev nD, ∑ n ∈ Finset.Ico 0 28, A (pr c (n % 7)) (sl c) (n / 7))
      = ∑ c : Dev nD, ∑ j ∈ Finset.range 7, ∑ h ∈ Finset.range 4, A (pr c j) (sl (pr (pr c j) j)) h :=
    Finset.sum_congr rfl fun c _ => (sum_peers (fun j h => A (pr c j) (sl c) h)).trans
      (Finset.sum_congr rfl fun j _ => by rw [pr_pr])
  rw [e1, sum_deal (fun c j => ∑ h ∈ Finset.range 4, A c (sl (pr c j)) h)]
  refine Finset.sum_congr rfl fun c _ => ?_
  rw [← image_sl_pr c, Finset.sum_image (fun x hx y hy h => inj_sl_pr c x hx y hy h)]

theorem owed_due : (∑ d : Dev nD, Owed d 0 0 0) = ∑ d : Dev nD, due d := by
  unfold Owed due
  simp only [Finset.sum_add_distrib]
  rw [sum_slots (fun c s h => tallyAt (Ix := Unit) (dcell c (rn s h)) () NN), sum_slots (fun c s h => tallyAt (Ix := Unit) (dcell c (rs s h)) () NS),
    ← Finset.range_eq_Ico, sum_deal (fun c _ => tallyAt (Ix := Unit) (barCell c) () 1)]

/-- What is due to a device lies on its own cells. -/
theorem due_own (d : Dev nD) (g : GSem nD τ sig) (h : due d g ≠ 0) : g.1 = (d.tc : Thread nD τ) := by
  by_contra hne
  have z (sm : SemLoc sig) (k : ℕ) : tallyAt (Ix := Unit) ((d : Thread nD τ), sm) () k g = 0 :=
    tallyAt_ne_cell (g := ((d : Thread nD τ), sm)) (g' := g) (fun h' => hne (congrArg Prod.fst h')) () k
  refine h ?_
  unfold due
  rw [Pi.add_apply, Pi.add_apply, Finset.sum_apply, Finset.sum_apply, Finset.sum_apply,
    Finset.sum_eq_zero (fun j _ => z _ _), Finset.sum_eq_zero (fun s _ => ?_), Finset.sum_eq_zero (fun s _ => ?_)]
  · rw [add_zero, add_zero]
  · rw [Finset.sum_apply]; exact Finset.sum_eq_zero fun h _ => z _ _
  · rw [Finset.sum_apply]; exact Finset.sum_eq_zero fun h _ => z _ _

theorem cred_add' (a b : CellTallies nD τ sig Unit) : (cred (a + b) : sProp 𝕄) = iprop(cred a ∗ cred b) :=
  BI.Entails.antisymm (cred_add a b).1 (cred_add a b).2
theorem cred_sums (s : Finset ℕ) (f : ℕ → CellTallies nD τ sig Unit) : (cred (∑ i ∈ s, f i) : sProp 𝕄) = bigSep s fun i => cred (f i) := by
  induction s using Finset.induction_on with
  | empty => rw [Finset.sum_empty, cred_zero, bigSep_empty]; rfl
  | insert i s hi ih => rw [Finset.sum_insert hi, cred_add', ih, bigSep_insert hi]; rfl

theorem seven (g : GSem nD τ sig) : (∑ j ∈ Finset.range 7, tallyAt (Ix := Unit) g () 1) = tallyAt g () 7 := by
  simp only [Finset.sum_range_succ, Finset.sum_range_zero, zero_add, tallyAt_add, Nat.reduceAdd]

/-- The arrivals of all slots but one's own, slot by slot, in the order in which they are awaited. -/
theorem recv_order (c : Dev nD) (X Y : ℕ → ℕ → sProp 𝕄) :
    iprop((bigSep ((Finset.range 8).erase (sl c)) fun s => bigSep (Finset.range 4) fun h => X s h)
        ∗ (bigSep ((Finset.range 8).erase (sl c)) fun s => bigSep (Finset.range 4) fun h => Y s h))
      ⊢ bigSep (Finset.Ico 0 32) fun r => if r % 8 = sl c then iprop(emp) else iprop(X (r % 8) (r / 8) ∗ Y (r % 8) (r / 8)) := by
  have e : (bigSep (Finset.Ico 0 32) fun r => if r % 8 = sl c then iprop(emp) else iprop(X (r % 8) (r / 8) ∗ Y (r % 8) (r / 8)))
      = bigSep (Finset.range 8) fun s => bigSep (Finset.range 4) fun h => if s = sl c then iprop(emp) else iprop(X s h ∗ Y s h) := by
    rw [show 32 = 8 * 4 from rfl, blocks 8, swap]
    refine bigSep_congr fun s hs => bigSep_congr fun h _ => ?_
    have := Finset.mem_range.mp hs
    rw [show (8 * h + s) % 8 = s by omega, show (8 * h + s) / 8 = h by omega]
  have e2 : (bigSep ((Finset.range 8).erase (sl c)) fun s => bigSep (Finset.range 4) fun h => if s = sl c then (iprop(emp) : sProp 𝕄) else iprop(X s h ∗ Y s h))
      = bigSep ((Finset.range 8).erase (sl c)) fun s => iprop((bigSep (Finset.range 4) fun h => X s h) ∗ bigSep (Finset.range 4) fun h => Y s h) := by
    refine bigSep_congr fun s hs => ?_
    rw [← bigSep_sep']
    exact bigSep_congr fun h _ => if_neg (Finset.ne_of_mem_erase hs)
  have e3 : (bigSep (Finset.range 4) fun h => if sl c = sl c then (iprop(emp) : sProp 𝕄) else iprop(X (sl c) h ∗ Y (sl c) h)) = iprop(emp) := by
    rw [bigSep_congr fun h _ => if_pos rfl]; exact BI.bigSep_emp_const _
  have e4 : (bigSep (Finset.range 8) fun s => bigSep (Finset.range 4) fun h => if s = sl c then (iprop(emp) : sProp 𝕄) else iprop(X s h ∗ Y s h))
      = iprop(emp ∗ bigSep ((Finset.range 8).erase (sl c)) fun s => iprop((bigSep (Finset.range 4) fun h => X s h) ∗ bigSep (Finset.range 4) fun h => Y s h)) := by
    refine (bigSep_erase (Finset.mem_range.mpr (sl_lt c))).trans ?_
    rw [e2, e3]
    rfl
  rw [e, e4, bigSep_sep']
  iintro ⟨HX, HY⟩
  isplitr; · iempintro
  isplitl [HX]; · iexact HX
  iexact HY

/-- The launch credit of device `c`: for its barrier's seven units, and for every arrival. -/
theorem creds (c : Dev nD) : (Pipeline.launchCred (fun d => Owed d 0 0 0) c : sProp 𝕄) ⊢ iprop(cred (tallyAt (barCell c) () 7)
    ∗ bigSep (Finset.Ico 0 32) fun r => if r % 8 = sl c then iprop(emp) else
      iprop(cred (tallyAt (dcell c (rn (r % 8) (r / 8))) () NN) ∗ cred (tallyAt (dcell c (rs (r % 8) (r / 8))) () NS))) := by
  rw [Pipeline.launchCred_of_sum _ due owed_due due_own c]
  unfold due
  rw [seven, cred_add', cred_add', cred_sums, cred_sums]
  simp only [cred_sums]
  iintro ⟨⟨H1, H2⟩, H3⟩
  isplitl [H1]; · iexact H1
  iapply (recv_order c (fun s h => (cred (tallyAt (dcell c (rn s h)) () NN) : sProp 𝕄)) (fun s h => (cred (tallyAt (dcell c (rs s h)) () NS) : sProp 𝕄)))
  isplitl [H2]; · iexact H2
  iexact H3

end Decode
-- ==== Proof.Launch.lean ====
/-
  The launch: from the body's run on one device to the run of the eight devices.
-/
module

public import proofs.«01_k».proof.Proof.Regions
public import proofs.«01_k».proof.Proof.Credit
public import Idealize.ShloMosaic.Lib.Pipeline.Launch
public import Idealize.ShloMosaic.Lib.Pipeline.CollectiveSegs
public import Idealize.ShloMosaic.Lib.Pipeline.ValueKit

@[expose] public section

noncomputable section

namespace Decode

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (ρ : Dev nD → PrngReg)

/-- The body, on the buffers that the launch calls it with. -/
abbrev theBody : Prog (TpuEff nD τ sig (Elt F) Λ₀ .tc) PUnit :=
  cc0_body (Memref.whole main_arg0) (Memref.isWhole_whole _) (Memref.whole main_arg1) (Memref.isWhole_whole _) (Memref.whole main_arg2) (Memref.isWhole_whole _)
    (Memref.whole cc0_stg0_0) (Memref.isWhole_whole _) (Memref.whole cc0_scratch0) (Memref.isWhole_whole _) (Memref.whole cc0_scratch1) (Memref.isWhole_whole _)
    (Memref.whole cc0_scratch2) (Memref.isWhole_whole _) cc0_scratch3 (Memref.whole cc0_scratch4) (Memref.isWhole_whole _) (Memref.whole cc0_scratch5)
    (Memref.isWhole_whole _) cc0_scratch6 cc0_scratch7 cc0_scratch8 cc0_scratch9

/-- The body takes the first state to the last. -/
def BodyRuns : Prop := ∀ (c : Dev nD) (Q : PUnit → sProp (MT nD τ sig Unit (Elt F) ℕ UU ℕ)),
  (St m c 7 1 12 12 4 28 28 28 28 32 4 16 ⊢ Q ⟨⟩) → St m c 0 0 0 0 0 0 0 0 0 0 0 0 ⊢ WP c theBody Q

/-- The memory at the start, every counter at zero. -/
def s₀ : MemSt nD τ sig (Elt F) := ⟨m, fun _ => 0, ρ⟩

def Φ₀ (c : Dev nD) : sProp 𝕄 := iprop(start m c ∗ scratch (F := F) c)
def Φ₁ (c : Dev nD) : sProp 𝕄 := iprop(semVal (barCell c) 0 ∗ (bigSep (Finset.Ico 1 133) fun i => semVal (dcell c i) 0) ∗ scratch (F := F) c)
abbrev O₀ (c : Dev nD) : CellTallies nD τ sig Unit := Owed c 0 0 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (outV m : cc0_stg0_0.ty.Contents (Elt F))
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 := iprop(Φ₀ m c ∗ (dats m ρ 0 c).owesAt () t0_0.castSucc ∗ (∃ d, stg c cc0_stg0_0 ((dats m ρ 0 c).before (0 : Fin 1) t0_0 d)))
def bodyPost (c : Dev nD) : sProp 𝕄 := iprop(Φ₁ (F := F) c ∗ (dats m ρ 0 c).owesAt () t0_0.succ ∗ stg c cc0_stg0_0 (outV m : cc0_stg0_0.ty.Contents (Elt F)))

theorem body_pre (c : Dev nD) : bodyPre m ρ c ⊢ St m c 0 0 0 0 0 0 0 0 0 0 0 0 := by
  unfold bodyPre Φ₀ Dat.owesAt Pipeline.owesWithin
  rw [show (dats m ρ 0 c).owed t0_0.castSucc = O₀ c from rfl]
  iintro ⟨⟨Hs, Hscr⟩, ⟨%W, %hW, HO⟩, ⟨%d, %f, %hf, Hstg⟩⟩
  iapply (enter m c)
  isplitl [Hs]; · iexact Hs
  isplitl [Hscr]; · iexact Hscr
  isplitl [HO]
  · unfold OwP
    iexists W; iexact HO
  iexists f; iexact Hstg

theorem body_post (c : Dev nD) : St m c 7 1 12 12 4 28 28 28 28 32 4 16 ⊢ bodyPost m ρ c := by
  refine (leave m c).trans ?_
  unfold bodyPost Φ₁ Dat.owesAt Pipeline.owesWithin OwP
  rw [show (dats m ρ 0 c).owed t0_0.succ = 0 from rfl, Owed_done]
  iintro ⟨⟨%W, HO⟩, ⟨Hb, Hz, Hscr⟩, Hstg⟩
  isplitl [Hb Hz Hscr]
  · isplitl [Hb]; · iexact Hb
    isplitl [Hz]; · iexact Hz
    iexact Hscr
  isplitl [HO]
  · iexists W
    isplitr; · ipureintro; exact fun _ _ => Or.inl trivial
    iexact HO
  iexists _
  isplitr; · (ipureintro; rfl)
  iexact Hstg

attribute [local irreducible] cc0_body wp outV St

set_option maxRecDepth 8000 in
/-- The body's obligation on core `c`. -/
theorem body_obligation (hB : BodyRuns m) (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c theBody (fun _ => bodyPost m ρ c)
  exact (body_pre m ρ c).trans (hB c _ (body_post m ρ c))

/-! ## The launch -/

theorem ownSemFacts : Pipeline.OwnSemFacts cfg0.spec osem := by decide +kernel
theorem share_eq (c : Dev nD) (w : Fin cfg0.W) : (dats m ρ 0 c).share w = fullShare := by unfold Dat.share; split <;> rfl

/-- The half of each argument that the body does not use. -/
def kept (c : Dev nD) : sProp 𝕄 := iprop((locA0 c ↦{fullShare.left} (m (locA0 c) : Buf (Elt F) (locA0 c)))
  ∗ (locA1 c ↦{fullShare.left} (m (locA1 c) : Buf (Elt F) (locA1 c))) ∗ (locA2 c ↦{fullShare.left} (m (locA2 c) : Buf (Elt F) (locA2 c))))

theorem halves {ℓ : Loc nD τ sig} (f : Buf (Elt F) ℓ) : (ℓ ↦{fullShare} f : sProp 𝕄) ⊢ iprop((ℓ ↦{fullShare.left} f) ∗ ℓ ↦{fullShare.right} f) :=
  (pointsTo_share (PosShare.mem_left_op_right fullShare)).1

theorem rest_eq (c : Dev nD) : (Pipeline.unscopedRestP Pipeline.Prefetch.none cfg0.spec c (fun b => m ((c : Thread nD τ).loc b)) : sProp 𝕄)
    = iprop((locA0 c ↦{fullShare} (m (locA0 c) : Buf (Elt F) (locA0 c))) ∗ (locA1 c ↦{fullShare} (m (locA1 c) : Buf (Elt F) (locA1 c)))
      ∗ (locA2 c ↦{fullShare} (m (locA2 c) : Buf (Elt F) (locA2 c)))) :=
  Pipeline.unscopedRestP_eq_of_list cfg0.spec c Pipeline.Prefetch.none (fun b => m ((c : Thread nD τ).loc b)) [main_arg0, main_arg1, main_arg2] (by decide) (by decide)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kept m c) := by
  rw [rest_eq]
  iintro ⟨⟨H0, H1, H2⟩, Hlev, Hcr, -, HG⟩
  ihave Hc := (creds (F := F) c) $$ Hcr
  ihave H0 := (halves (ℓ := locA0 c) _) $$ H0
  ihave H1 := (halves (ℓ := locA1 c) _) $$ H1
  ihave H2 := (halves (ℓ := locA2 c) _) $$ H2
  icases H0 with ⟨L0, R0⟩
  icases H1 with ⟨L1, R1⟩
  icases H2 with ⟨L2, R2⟩
  imodintro
  unfold start kept
  isplitr [L0 L1 L2]
  · isplitl [HG]; · iexact HG
    isplitl [Hc]; · iexact Hc
    isplitl [Hlev]; · iexact Hlev
    isplitl [R0]; · iexact R0
    isplitl [R1]; · iexact R1
    iexact R2
  isplitl [L0]; · iexact L0
  isplitl [L1]; · iexact L1
  iexact L2

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ scratch
  exact BI.Entails.refl _

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ 0 0 0 0 (by revert c; fin_cases w; fin_cases s; exact fun _ => le_refl 0) (fun _ => Nat.one_pos) (fun n _ _ => by omega) (fun n _ _ => by omega)
    · show _ ⊢ MayWait _ _ () 0
      rw [MayWait_zero]
      iintro -
      iempintro

/-! ## The run -/

/-- The result array ends at the output. -/
theorem final_out (c : Dev nD) : (dats m ρ 0 c).arrAt (0 : Fin 1) cfg0.N = (outV m : Buf (Elt F) ((c : Thread nD τ).loc main_v1)) := by
  refine (dats m ρ 0 c).arrAt_eq_of_after_last (0 : Fin 1) t0_0 (by decide +kernel) _ fun j => ?_
  rfl

/-- What holds at the end: on every device the output, and the arguments as they were. -/
def Ends (s : MemSt nD τ sig (Elt F)) : Prop := ∀ c : Dev nD,
  s.mem ((c : Thread nD τ).loc main_v1) = (outV m : Buf (Elt F) ((c : Thread nD τ).loc main_v1))
    ∧ s.mem (locA0 c) = m (locA0 c) ∧ s.mem (locA1 c) = m (locA1 c) ∧ s.mem (locA2 c) = m (locA2 c)

theorem kept_read (c : Dev nD) (s' : Phys nD τ sig (Elt F)) : iprop(kept m c ∗ SI s')
    ⊢ (iprop(⌜s'.mem.mem (locA0 c) = m (locA0 c) ∧ s'.mem.mem (locA1 c) = m (locA1 c) ∧ s'.mem.mem (locA2 c) = m (locA2 c)⌝ ∗ SI s') : sProp 𝕄) := by
  have one (ℓ : Loc nD τ sig) (f : Buf (Elt F) ℓ) : iprop((ℓ ↦{fullShare.left} f) ∗ SI s') ⊢ (iprop(⌜s'.mem.mem ℓ = f⌝ ∗ SI s') : sProp 𝕄) := by
    iintro ⟨H, HSI⟩
    ihave Hr := (pointsTo_read_all' ({()} : Finset Unit) (fun _ => ℓ) (fun _ => f) s' (fun _ => fullShare.left)) $$ [H HSI]
    · rw [bigSep_singleton]
      isplitl [H]; · iexact H
      iexact HSI
    icases Hr with ⟨%h, HSI⟩
    isplitr; · ipureintro; exact h () (Finset.mem_singleton_self _)
    iexact HSI
  unfold kept
  iintro ⟨⟨H0, H1, H2⟩, HSI⟩
  ihave H := (one _ _) $$ [H0 HSI]
  · isplitl [H0]; · iexact H0
    iexact HSI
  icases H with ⟨%h0, HSI⟩
  ihave H := (one _ _) $$ [H1 HSI]
  · isplitl [H1]; · iexact H1
    iexact HSI
  icases H with ⟨%h1, HSI⟩
  ihave H := (one _ _) $$ [H2 HSI]
  · isplitl [H2]; · iexact H2
    iexact HSI
  icases H with ⟨%h2, HSI⟩
  isplitr; · ipureintro; exact ⟨h0, h1, h2⟩
  iexact HSI

set_option maxRecDepth 8000 in
/-- At any float values, from any memory with zero counters, every fair execution of the eight devices' programs ends, with the
    output on every device, the arguments unchanged and every semaphore's counter at zero. -/
theorem run_of (hB : BodyRuns m) : θ_run defs (onTc (τ := τ) (main (F := F))) (s₀ m ρ) (fun r => Ends m r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hB) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := kept m)
    (hX := start_intro m ρ) (hin := phi0_intro m ρ) (hout := phi1_exit m ρ)
    (QY := fun c s => (∀ sm : SemLoc sig, sm.isScoped .tc = false → s.sem ((c.tc : Thread nD τ), sm) = 0)
      ∧ s.mem (locA0 c) = m (locA0 c) ∧ s.mem (locA1 c) = m (locA1 c) ∧ s.mem (locA2 c) = m (locA2 c))
    (hY := fun c s' => by
      iintro ⟨Hu, Hk, HSI⟩
      ihave H := (kept_read m c s') $$ [Hk HSI]
      · isplitl [Hk]; · iexact Hk
        iexact HSI
      icases H with ⟨%hk, HSI⟩
      imod (Pipeline.unscopedSems0_read (X := unscopedSems0 c) (c := c) fupd_intro s') $$ [Hu HSI] with H
      · isplitl [Hu]; · iexact Hu
        iexact HSI
      icases H with ⟨%hs, HSI⟩
      imodintro
      isplitr; · ipureintro; exact ⟨hs, hk⟩
      iexact HSI)
    (hQ := fun _ h hs => ⟨fun c => ⟨((h c).1 (0 : Fin 1)).trans (final_out m ρ c), (h c).2.2.2⟩, sem_eq_zero hs fun c => (h c).2.2.1⟩)

end Decode
-- ==== Proof.Run.lean ====
/-
  The run of the kernel, and the frames.
-/
module

public import proofs.«01_k».proof.Proof.Body
public import proofs.«01_k».proof.Proof.Launch
public import proofs.«01_k».proof.Defs
public import proofs.«01_k».proof.Proof.Gen.Kernel
public import proofs.«01_k».proof.Proof.Gen.ReferenceIdeal.Run

@[expose] public section

noncomputable section

namespace Decode

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- At the machine's formats a named constant is read as the word that is printed. -/
local instance namedBits : Named Bits where
  named _ _ {φ} b := Scalar.ofBits φ b

/-- At the machine's formats the two printings of the kernel run the same body at each label, -/
theorem defs₀_same : (Cert.Kernel.defs₀ (F := Bits)) = (Cert.KernelIdeal.defs₀ (F := Bits)) := by
  unfold Cert.Kernel.defs₀ Cert.KernelIdeal.defs₀
  refine congrArg Defs.onTc (funext fun l => funext fun x => ?_)
  match l, x with
  | 0, (t, s) => rfl
  | ⟨_ + 1, h⟩, _ => exact absurd h (Nat.not_lt.2 (Nat.le_add_left _ _))
/-- and have the same definitions. -/
theorem defs_same : (Cert.Kernel.defs (F := Bits)) = (Cert.KernelIdeal.defs (F := Bits)) :=
  congrArg (Pipeline.defs (Cert.KernelIdeal.pcfgs (F := Bits))) defs₀_same

/-- From any launch state with the counters at zero, every weakly fair execution of the eight devices terminates;
    every device's result is `outV m`, its arguments are unchanged, and every counter is at zero. -/
theorem run_main (ρ : Dev nD → PrngReg) :
    θ_run defs (onTc (τ := τ) (main (F := F))) (s₀ m ρ) (fun r => Ends m r.2 ∧ r.2.sem = fun _ => 0) :=
  run_of m ρ (fun c _ hQ => body_run m c hQ)

/-- The kernel at its machine formats terminates, with its arguments unchanged and its counters at zero. -/
theorem frame_kernel : Cert.quiescent_Kernel := fun m ρ _ => by
  rw [defs_same]
  exact (θ_run Cert.KernelIdeal.defs _ _).mono (fun r h => ⟨fun c => (h.1 c).2, h.2⟩) (run_main (F := Bits) m ρ)

/-- The kernel over the extended reals terminates, with its arguments unchanged and its counters at zero. -/
theorem frame_ideal : Cert.quiescent_KernelIdeal := fun m ρ _ =>
  (θ_run Cert.KernelIdeal.defs _ _).mono (fun r h => ⟨fun c => (h.1 c).2, h.2⟩) (run_main (F := Ideal) m ρ)

/-- The reference over the extended reals terminates, with its arguments unchanged; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Decode
-- ==== Proof.Scale.lean ====
/-
  The scale of the scores, `1/√128`.
-/
module

public import Idealize.ShloMosaic.PureOps.Ideal

@[expose] public section

noncomputable section

namespace Decode

open Idealize.ShloMosaic

/-- The scale of the scores. -/
def scale : EReal := (((Real.sqrt 128)⁻¹ : ℝ) : EReal)
/-- `1.0` denotes one, -/
theorem ofBits_one : Ideal.ofBits .f32 0x3F800000#32 = ((1 : ℝ) : EReal) := by
  simp [Ideal.ofBits, Ideal.ieee, -EReal.coe_mul]; norm_num
/-- and `128.0` denotes the real `128`. -/
theorem ofBits_128 : Ideal.ofBits .f32 0x43000000#32 = ((128 : ℝ) : EReal) := by
  simp [Ideal.ofBits, Ideal.ieee, -EReal.coe_mul]; norm_num
/-- One over the root of `128`, as the reference computes it, is the scale. -/
theorem inv_root : Ideal.div (Ideal.ofBits .f32 0x3F800000#32) (Ideal.sqrt (Ideal.ofBits .f32 0x43000000#32)) = scale := by
  rw [ofBits_one, ofBits_128, Ideal.sqrt_coe, if_neg (by norm_num : ¬(128 : ℝ) < 0),
    Ideal.div_coe (Real.sqrt_pos.mpr (by norm_num)).ne', one_div]
  rw [← EReal.coe_mul, one_mul]
  rfl

end Decode
-- ==== Proof.Payloads.lean ====
/-
  What one block computes, element by element, over the extended reals.
-/
module

public import proofs.«01_k».proof.Proof.Contents
public import proofs.«01_k».proof.Proof.Scale
public import Idealize.ShloMosaic.Lib.Pointwise

@[expose] public section

noncomputable section

namespace Decode

open Cert.KernelIdeal Cert.KernelIdeal.Gen
open Idealize.ShloMosaic

/-- The scale that the kernel names is the inverse root. -/
theorem named_scale : Named.named (F := Ideal) κ "scale" (φ := .f32) 0x3DB504F3#32 = scale := rfl

set_option maxRecDepth 16384
/-- A score: the product of a query row and a key row, scaled; -/
theorem score_apply (q : Vec Ideal S1x8x8x128 .f32) (k : Vec Ideal S1x8x1024x128 .f32) (b a : Fin 8) (j : Fin 1024) :
    k0_pay5 (k0_pay3 q) (k0_pay4 k) (ix3 b a j) = (∑ d : Fin 128, q (ix4 0 b a d) * k (ix4 0 b j d)) * scale := by
  rw [← named_scale]
  pointwise [k0_pay5, k0_pay3, k0_pay4]
/-- the maximum of a row of scores; -/
theorem max_apply (q : FVec Ideal S8x8x128 .bf16) (k : FVec Ideal S8x1024x128 .bf16) (b a : Fin 8) :
    k0_pay6 q k (ix2 b a) = Finset.univ.fold max (Ideal.ofBits .f32 0xFF800000#32) fun j : Fin 1024 => k0_pay5 q k (ix3 b a j) := by
  unfold k0_pay6
  generalize k0_pay5 q k = s
  pointwise
/-- the exponential of a score about its row's maximum; -/
theorem exp_apply (q : FVec Ideal S8x8x128 .bf16) (k : FVec Ideal S8x1024x128 .bf16) (b a : Fin 8) (j : Fin 1024) :
    k0_pay7 q k (ix3 b a j) = Ideal.exp (k0_pay5 q k (ix3 b a j) - k0_pay6 q k (ix2 b a)) := by
  unfold k0_pay7
  generalize k0_pay5 q k = s
  generalize k0_pay6 q k = t
  pointwise
/-- a numerator: the exponentials times the values, summed; -/
theorem num_apply (q : FVec Ideal S8x8x128 .bf16) (k : FVec Ideal S8x1024x128 .bf16) (v : Vec Ideal S1x8x1024x128 .f32) (b a : Fin 8) (d : Fin 128) :
    k0_pay8 q k v (ix6 0 0 0 b a d) = ∑ j : Fin 1024, k0_pay7 q k (ix3 b a j) * v (ix4 0 b j d) := by
  unfold k0_pay8
  generalize k0_pay7 q k = s
  pointwise
/-- the maxima as they are stored; -/
theorem pay9_apply (q : FVec Ideal S8x8x128 .bf16) (k : FVec Ideal S8x1024x128 .bf16) (b a : Fin 8) :
    k0_pay9 q k (ix6 0 0 0 0 b a) = k0_pay6 q k (ix2 b a) := by
  unfold k0_pay9
  generalize k0_pay6 q k = s
  pointwise
/-- the sums as they are stored. -/
theorem sum_apply (q : FVec Ideal S8x8x128 .bf16) (k : FVec Ideal S8x1024x128 .bf16) (b a : Fin 8) :
    k0_pay10 q k (ix6 0 0 0 0 b a) = ∑ j : Fin 1024, k0_pay7 q k (ix3 b a j) := by
  unfold k0_pay10
  generalize k0_pay7 q k = s
  pointwise
/-- The merge of the two halves of the keys: both rescaled to the common maximum, added, and divided. -/
theorem merge_apply (M L : Vec Ideal S2x4x1x1x8x8 .f32) (N : Vec Ideal S2x4x1x8x8x128 .bf16) (g : Fin 4) (b a : Fin 8) (d : Fin 128) :
    k0_pay27 M L N (ix5 g 0 b a d) =
      Ideal.div (N (ix6 0 g 0 b a d) * Ideal.exp (M (ix6 0 g 0 0 b a) - max (M (ix6 0 g 0 0 b a)) (M (ix6 1 g 0 0 b a)))
          + N (ix6 1 g 0 b a d) * Ideal.exp (M (ix6 1 g 0 0 b a) - max (M (ix6 0 g 0 0 b a)) (M (ix6 1 g 0 0 b a))))
        (L (ix6 0 g 0 0 b a) * Ideal.exp (M (ix6 0 g 0 0 b a) - max (M (ix6 0 g 0 0 b a)) (M (ix6 1 g 0 0 b a)))
          + L (ix6 1 g 0 0 b a) * Ideal.exp (M (ix6 1 g 0 0 b a) - max (M (ix6 0 g 0 0 b a)) (M (ix6 1 g 0 0 b a)))) := by
  pointwise [k0_pay27]
/-- The merged heads as they are stored: of group 0, -/
theorem out0_apply (M L : Vec Ideal S2x4x1x1x8x8 .f32) (N : Vec Ideal S2x4x1x8x8x128 .bf16) (b a : Fin 8) (d : Fin 128) :
    k0_pay29 (k0_pay28 M L N) (ix4 b a 0 d) = k0_pay27 M L N (ix5 0 0 b a d) := by
  unfold k0_pay28
  generalize k0_pay27 M L N = s
  pointwise [k0_pay29]
/-- of group 1, -/
theorem out1_apply (s : FVec Ideal S4x1x8x8x128 .f32) (b a : Fin 8) (d : Fin 128) :
    k0_pay30 s (ix4 b a 0 d) = s (ix5 1 0 b a d) := by
  pointwise [k0_pay30]
/-- of group 2 -/
theorem out2_apply (s : FVec Ideal S4x1x8x8x128 .f32) (b a : Fin 8) (d : Fin 128) :
    k0_pay31 s (ix4 b a 0 d) = s (ix5 2 0 b a d) := by
  pointwise [k0_pay31]
/-- and of group 3. -/
theorem out3_apply (s : FVec Ideal S4x1x8x8x128 .f32) (b a : Fin 8) (d : Fin 128) :
    k0_pay32 s (ix4 b a 0 d) = s (ix5 3 0 b a d) := by
  pointwise [k0_pay32]
end Decode
-- ==== Proof.Reads.lean ====
/-
  What the buffers hold, element by element.
-/
module

public import proofs.«01_k».proof.Proof.Contents
public import Idealize.ShloMosaic.Lib.Pointwise

@[expose] public section

noncomputable section

namespace Decode

open Cert.KernelIdeal Cert.KernelIdeal.Gen
open Idealize.ShloMosaic Idealize.ShloMosaic.TcCoe Idealize.SL.Sem

variable {F : FTy → Type} [FloatOps F] [Named F]
variable (m : (ℓ : Loc nD τ sig) → Buf (Elt F) ℓ)

/-- Head `h` of device `c`, among the sixteen. -/
def hn (c : Dev nD) (h : Fin 4) : Fin 16 := ⟨4 * sG c + h.val, by have := sG_lt c; omega⟩

set_option maxRecDepth 16384

/-- The elements of the key scratch that the copy of head `h` fills; -/
theorem kM_emb (h : Fin 4) (b : Fin 8) (j : Fin 1024) (d : Fin 128) :
    (((kM.slice (kvR h) (fun _ => rfl)).squeeze S8x1024x128 squeezes_S1x8x1024x128_S8x1024x128).view.emb (ix3 b j d) : S4x8x1024x128.Idx)
      = ix4 h b j d := by
  have e : (Shape.reshapeEquiv (Shape.Squeezes.numel_eq squeezes_S1x8x1024x128_S8x1024x128) (ix3 b j d)) = ix4 0 b j d := by pointwise
  show (kvR h).idx (Shape.reshapeEquiv _ (ix3 b j d)) = _
  refine (congrArg (kvR h).idx e).trans ?_
  pointwise
/-- of the value scratch; -/
theorem vM_emb (h : Fin 4) (b : Fin 8) (j : Fin 1024) (d : Fin 128) :
    (((vM.slice (kvR h) (fun _ => rfl)).squeeze S8x1024x128 squeezes_S1x8x1024x128_S8x1024x128).view.emb (ix3 b j d) : S4x8x1024x128.Idx)
      = ix4 h b j d := by
  have e : (Shape.reshapeEquiv (Shape.Squeezes.numel_eq squeezes_S1x8x1024x128_S8x1024x128) (ix3 b j d)) = ix4 0 b j d := by pointwise
  show (kvR h).idx (Shape.reshapeEquiv _ (ix3 b j d)) = _
  refine (congrArg (kvR h).idx e).trans ?_
  pointwise
/-- of the query scratch; -/
theorem qM_emb (h : Fin 4) (b : Fin 8) (a : Fin 8) (d : Fin 128) :
    (((qM.slice (qR h) (fun _ => rfl)).squeeze S8x8x128 squeezes_S1x8x8x128_S8x8x128).view.emb (ix3 b a d) : S4x8x8x128.Idx)
      = ix4 h b a d := by
  have e : (Shape.reshapeEquiv (Shape.Squeezes.numel_eq squeezes_S1x8x8x128_S8x8x128) (ix3 b a d)) = ix4 0 b a d := by pointwise
  show (qR h).idx (Shape.reshapeEquiv _ (ix3 b a d)) = _
  refine (congrArg (qR h).idx e).trans ?_
  pointwise
/-- the elements of the key argument that it reads; -/
theorem a1M_emb (c : Dev nD) (h : Fin 4) (b : Fin 8) (j : Fin 1024) (d : Fin 128) :
    (((a1M.slice (kvsR c h) (fun _ => rfl)).squeeze S8x1024x128 squeezes_S8x1024x1x128_S8x1024x128).view.emb (ix3 b j d) : S8x1024x16x128.Idx)
      = ix4 b j (hn c h) d := by
  show (kvsR c h).idx (Shape.reshapeEquiv _ (ix3 b j d)) = _
  pointwise
  rfl
/-- of the value argument; -/
theorem a2M_emb (c : Dev nD) (h : Fin 4) (b : Fin 8) (j : Fin 1024) (d : Fin 128) :
    (((a2M.slice (kvsR c h) (fun _ => rfl)).squeeze S8x1024x128 squeezes_S8x1024x1x128_S8x1024x128).view.emb (ix3 b j d) : S8x1024x16x128.Idx)
      = ix4 b j (hn c h) d := by
  show (kvsR c h).idx (Shape.reshapeEquiv _ (ix3 b j d)) = _
  pointwise
  rfl
/-- of the query argument. -/
theorem a0M_emb (c : Dev nD) (h : Fin 4) (b : Fin 8) (a : Fin 8) (d : Fin 128) :
    (((a0M.slice (qsR c h) (fun _ => rfl)).squeeze S8x8x128 squeezes_S8x8x1x128_S8x8x128).view.emb (ix3 b a d) : S8x8x16x128.Idx)
      = ix4 b a (hn c h) d := by
  show (qsR c h).idx (Shape.reshapeEquiv _ (ix3 b a d)) = _
  pointwise
  rfl

/-- The keys of head `h`, as device `c` loads them, are the argument's; -/
theorem kHead_apply (c : Dev nD) (h : Fin 4) (b : Fin 8) (j : Fin 1024) (d : Fin 128) :
    kHead m c h (ix4 0 b j d) = m (locA1 c) (ix4 b j (hn c h) d) := by
  have e : kHead m c h (ix4 0 b j d) = kV m c (ix4 h b j d) := by
    show kV m c ((kvR h).idx (ix4 0 b j d)) = _
    pointwise
  rw [e]
  show kWr m c h _ (ix4 h b j d) = _
  rw [← kM_emb h b j d]
  refine (View.write_emb_of_mem _ _ (Finset.mem_univ _)).trans ?_
  exact congrArg (m (locA1 c)) (a1M_emb c h b j d)
/-- so are the values -/
theorem vHead_apply (c : Dev nD) (h : Fin 4) (b : Fin 8) (j : Fin 1024) (d : Fin 128) :
    vHead m c h (ix4 0 b j d) = m (locA2 c) (ix4 b j (hn c h) d) := by
  have e : vHead m c h (ix4 0 b j d) = vV m c (ix4 h b j d) := by
    show vV m c ((kvR h).idx (ix4 0 b j d)) = _
    pointwise
  rw [e]
  show vWr m c h _ (ix4 h b j d) = _
  rw [← vM_emb h b j d]
  refine (View.write_emb_of_mem _ _ (Finset.mem_univ _)).trans ?_
  exact congrArg (m (locA2 c)) (a2M_emb c h b j d)
/-- and the queries. -/
theorem qHead_apply (c : Dev nD) (h : Fin 4) (b : Fin 8) (a : Fin 8) (d : Fin 128) :
    qHead m c h (ix4 0 b a d) = m (locA0 c) (ix4 b a (hn c h) d) := by
  have e : qHead m c h (ix4 0 b a d) = qV m c (ix4 h b a d) := by
    show qV m c ((qR h).idx (ix4 0 b a d)) = _
    pointwise
  rw [e]
  show qWr m c h _ (ix4 h b a d) = _
  rw [← qM_emb h b a d]
  refine (View.write_emb_of_mem _ _ (Finset.mem_univ _)).trans ?_
  exact congrArg (m (locA0 c)) (a0M_emb c h b a d)

/-- The device with the slot `(y, g)` works on the half `y` -/
theorem sY_dv (y : Fin 2) (g : Fin 4) : sY (dv y.val g.val) = y.val := by revert y g; decide
/-- and on the group `g`. -/
theorem sG_dv (y : Fin 2) (g : Fin 4) : sG (dv y.val g.val) = g.val := by revert y g; decide

/-- The elements of the numerators' buffer that the store of its head `h` fills; -/
theorem nM_emb (y : Fin 2) (g : Fin 4) (h : Fin 4) (b a : Fin 8) (d : Fin 128) :
    ((nM.access (nR (dv y.val g.val) h)).emb (ix6 0 0 0 b a d) : S2x4x4x8x8x128.Idx) = ix6 y g h b a d := by
  show (nR (dv y.val g.val) h).idx (ix6 0 0 0 b a d) = _
  pointwise
  simp only [sY_dv, sG_dv]
/-- of the statistics' buffer. -/
theorem sM_emb (y : Fin 2) (g : Fin 4) (h : Fin 4) (k : Fin 2) (b a : Fin 8) :
    ((sM.access (sR1 (dv y.val g.val) h k)).emb (ix6 0 0 0 0 b a) : S2x4x4x2x8x8.Idx) = ix6 y g h k b a := by
  show (sR1 (dv y.val g.val) h k).idx (ix6 0 0 0 0 b a) = _
  pointwise
  simp only [sY_dv, sG_dv]

/-- The numerators loaded for the merge are those that the slot's device computes; -/
theorem numAll_apply (y : Fin 2) (g h : Fin 4) (b a : Fin 8) (d : Fin 128) :
    numAll m h (ix6 y g 0 b a d) = numPay m (dv y.val g.val) h (ix6 0 0 0 b a d) := by
  have e : numAll m h (ix6 y g 0 b a d) = numV m (ix6 y g h b a d) := by
    unfold numAll
    generalize numV m = f
    show f ((ndR h).idx (ix6 y g 0 b a d)) = _
    pointwise
  rw [e]
  show nWr m (dv y.val g.val) h _ (ix6 y g h b a d) = _
  rw [← nM_emb y g h b a d]
  exact View.write_emb_of_mem _ _ (Finset.mem_univ _)
/-- so are the maxima -/
theorem maxAll_apply (y : Fin 2) (g h : Fin 4) (b a : Fin 8) :
    maxAll m h (ix6 y g 0 0 b a) = maxPay m (dv y.val g.val) h (ix6 0 0 0 0 b a) := by
  have e : maxAll m h (ix6 y g 0 0 b a) = statV m (ix6 y g h 0 b a) := by
    unfold maxAll
    generalize statV m = f
    show f ((sdR h 0).idx (ix6 y g 0 0 b a)) = _
    pointwise
  rw [e]
  have e' : statV m (ix6 y g h 0 b a) = mWr m (dv y.val g.val) h (m (locS 0)) (ix6 y g h 0 b a) := if_pos (show ((0 : Fin 2) : ℕ) = 0 from rfl)
  rw [e', mWr]
  generalize maxPay m (dv y.val g.val) h = w
  rw [← sM_emb y g h 0 b a]
  exact View.write_emb_of_mem _ _ (Finset.mem_univ _)
/-- and the sums. -/
theorem sumAll_apply (y : Fin 2) (g h : Fin 4) (b a : Fin 8) :
    sumAll m h (ix6 y g 0 0 b a) = sumPay m (dv y.val g.val) h (ix6 0 0 0 0 b a) := by
  have e : sumAll m h (ix6 y g 0 0 b a) = statV m (ix6 y g h 1 b a) := by
    unfold sumAll
    generalize statV m = f
    show f ((sdR h 1).idx (ix6 y g 0 0 b a)) = _
    pointwise
  rw [e]
  have e' : statV m (ix6 y g h 1 b a) = lWr m (dv y.val g.val) h (m (locS 0)) (ix6 y g h 1 b a) := if_neg (show ¬((1 : Fin 2) : ℕ) = 0 from Nat.one_ne_zero)
  rw [e', lWr]
  generalize sumPay m (dv y.val g.val) h = w
  rw [← sM_emb y g h 1 b a]
  exact View.write_emb_of_mem _ _ (Finset.mem_univ _)

/-- The elements of the output that the store of head `n` fills, -/
theorem oM_emb (n : Fin 16) (b a : Fin 8) (d : Fin 128) :
    ((oM.access (oR n)).emb (ix4 b a 0 d) : S8x8x16x128.Idx) = ix4 b a n d := by
  show (oR n).idx (ix4 b a 0 d) = _
  pointwise
/-- and what they hold. -/
theorem outV_apply (b a : Fin 8) (n : Fin 16) (d : Fin 128) :
    outV m (ix4 b a n d) = outPay m (hd n.val) (n.val / 4) (ix4 b a 0 d) := by
  show oWr m n _ (ix4 b a n d) = _
  unfold oWr
  generalize outPay m (hd n.val) (n.val / 4) = w
  rw [← oM_emb n b a d]
  exact View.write_emb_of_mem _ _ (Finset.mem_univ _)
end Decode
-- ==== Proof.Reference.lean ====
/-
  What the reference computes, element by element, over the extended reals.
-/
module

public import proofs.«01_k».proof.Proof.Gen.ReferenceIdeal
public import proofs.«01_k».proof.Proof.Scale
public import Idealize.ShloMosaic.Lib.Pointwise

@[expose] public section

noncomputable section

namespace Decode.Reference

open Cert.ReferenceIdeal Cert.ReferenceIdeal.Gen
open Idealize.ShloMosaic

/-- The reference's scores; -/
def scores (q : FVec Ideal S8x8x16x128 .f32) (k : FVec Ideal S8x2048x16x128 .f32) : FVec Ideal S8x16x8x2048 .f32 :=
  mulf (Host.dotGeneral dot_S8x8x16x128_S8x2048x16x128_S8x16x8x2048_3_3_1_1_02_02 none q k) (broadcastInDim S8x16x8x2048 ![] bcast_S_S8x16x8x2048 (Host.divf (constant S_ .f32 0x3F800000#32) (Host.sqrt (constant S_ .f32 0x43000000#32))))

/-- its exponentials about the row maxima; -/
def weights (s : FVec Ideal S8x16x8x2048 .f32) : FVec Ideal S8x16x8x2048 .f32 :=
  Host.exp (subf s (broadcastInDim S8x16x8x2048 ![0, 1, 2, 3] bcast_S8x16x8x1_S8x16x8x2048_0_1_2_3 (broadcastInDim S8x16x8x1 ![0, 1, 2] bcast_S8x16x8_S8x16x8x1_0_1_2 (Host.reduce FloatOps.maximumf s (constant S_ .f32 0xFF800000#32) reducesTo_S8x16x8x2048_S8x16x8_d3 h_S_))))

/-- its result: the exponentials over their sums, times the values. -/
def result (v : FVec Ideal S8x2048x16x128 .f32) (p : FVec Ideal S8x16x8x2048 .f32) : FVec Ideal S8x8x16x128 .f32 :=
  transpose S8x8x16x128 [0, 3, 1, 2] (Host.dotGeneral dot_S8x2048x16x128_S8x16x8x2048_S8x16x128x8_1_3_3_2_02_01 none v (Host.divf p (broadcastInDim S8x16x8x2048 ![0, 1, 2, 3] bcast_S8x16x8x1_S8x16x8x2048_0_1_2_3 (broadcastInDim S8x16x8x1 ![0, 1, 2] bcast_S8x16x8_S8x16x8x1_0_1_2 (Host.reduceAdd p (constant S_ .f32 0x00000000#32) reducesTo_S8x16x8x2048_S8x16x8_d3 h_S_))))) transposes_S8x16x128x8_S8x8x16x128_0_3_1_2

set_option maxRecDepth 16384
/-- A score of the reference, at an index; -/
theorem scores_apply (q : FVec Ideal S8x8x16x128 .f32) (k : FVec Ideal S8x2048x16x128 .f32) (b : Fin 8) (n : Fin 16) (a : Fin 8) (j : Fin 2048) :
    scores q k (ix4 b n a j) = (∑ d : Fin 128, q (ix4 b a n d) * k (ix4 b j n d)) * scale := by
  rw [← inv_root]
  pointwise [scores]
/-- an exponential; -/
theorem weights_apply (s : FVec Ideal S8x16x8x2048 .f32) (b : Fin 8) (n : Fin 16) (a : Fin 8) (j : Fin 2048) :
    weights s (ix4 b n a j) = Ideal.exp (s (ix4 b n a j) - Finset.univ.fold max (Ideal.ofBits .f32 0xFF800000#32) fun i : Fin 2048 => s (ix4 b n a i)) := by
  pointwise [weights]
/-- an element of the result. -/
theorem result_apply (v : FVec Ideal S8x2048x16x128 .f32) (p : FVec Ideal S8x16x8x2048 .f32) (b : Fin 8) (a : Fin 8) (n : Fin 16) (d : Fin 128) :
    result v p (ix4 b a n d) = ∑ j : Fin 2048, v (ix4 b j n d) * Ideal.div (p (ix4 b n a j)) (∑ i : Fin 2048, p (ix4 b n a i)) := by
  pointwise [result]
end Decode.Reference
-- ==== Proof.Softmax.lean ====
/-
  Softmax over the extended reals: two halves, each taken about its own shift, merge to the softmax of the whole.
-/
module

public import Idealize.ShloMosaic.PureOps.Ideal

@[expose] public section

noncomputable section

namespace Decode

open Idealize.ShloMosaic

/-- A sum of extended reals times a nonnegative real is taken summand by summand. -/
theorem sum_mul_real {ι : Type} (S : Finset ι) (f : ι → EReal) (c : ℝ) (hc : 0 ≤ c) :
    (∑ j ∈ S, f j) * (c : EReal) = ∑ j ∈ S, f j * (c : EReal) := by
  classical
  induction S using Finset.induction_on with
  | empty => simp
  | insert a S ha ih =>
    rw [Finset.sum_insert ha, Finset.sum_insert ha, EReal.right_distrib_of_nonneg_of_ne_top (by exact_mod_cast hc) (EReal.coe_ne_top c), ih]

/-- A sum of real numbers is the real sum. -/
theorem sum_real {ι : Type} (S : Finset ι) (f : ι → ℝ) : (∑ j ∈ S, (f j : EReal)) = ((∑ j ∈ S, f j : ℝ) : EReal) := by
  classical
  induction S using Finset.induction_on with
  | empty => simp
  | insert a S ha ih => rw [Finset.sum_insert ha, Finset.sum_insert ha, ih, EReal.coe_add]

/-- The exponential of a difference of real numbers is real. -/
theorem exp_real (x y : ℝ) : Ideal.exp ((x : EReal) - (y : EReal)) = ((Real.exp (x - y) : ℝ) : EReal) := by
  rw [← EReal.coe_sub]; rfl

/-- Division by a positive real number is multiplication by its inverse. -/
theorem div_real (x : EReal) (y : ℝ) (hy : 0 < y) : Ideal.div x (y : EReal) = x * ((y⁻¹ : ℝ) : EReal) := by
  unfold Ideal.div
  rw [if_neg (by exact_mod_cast hy.ne'), EReal.coe_inv]

/-- The fold of the maximum over real numbers is `⊥` or a real number; -/
theorem fold_max_real_or {ι : Type} (S : Finset ι) (f : ι → ℝ) :
    (S = ∅ ∧ S.fold max (⊥ : EReal) (fun i => (f i : EReal)) = ⊥) ∨ ∃ x : ℝ, S.fold max (⊥ : EReal) (fun i => (f i : EReal)) = (x : EReal) := by
  classical
  induction S using Finset.induction_on with
  | empty => exact .inl ⟨rfl, rfl⟩
  | insert a S ha ih =>
    right
    rw [Finset.fold_insert ha]
    rcases ih with ⟨-, h⟩ | ⟨x, h⟩
    · exact ⟨f a, by rw [h]; exact max_eq_left bot_le⟩
    · exact ⟨max (f a) x, by rw [h]; exact (EReal.coe_strictMono.monotone.map_max).symm⟩
/-- over a nonempty family it is real. -/
theorem fold_max_real {n : ℕ} [NeZero n] (f : Fin n → ℝ) :
    ∃ x : ℝ, Finset.univ.fold max (⊥ : EReal) (fun i => (f i : EReal)) = (x : EReal) := by
  rcases fold_max_real_or Finset.univ f with ⟨h, -⟩ | h
  · exact absurd h Finset.univ_nonempty.ne_empty
  · exact h

/-- One half's share of the merge: the numerators, rescaled and divided, are the values weighted. -/
theorem half_eq {n : ℕ} (s : Fin n → ℝ) (v : Fin n → EReal) (a M r : ℝ) (hr : 0 < r) :
    (∑ j, Ideal.exp ((s j : EReal) - (a : EReal)) * v j) * Ideal.exp ((a : EReal) - (M : EReal)) * ((r⁻¹ : ℝ) : EReal)
      = ∑ j, v j * ((Real.exp (s j - M) * r⁻¹ : ℝ) : EReal) := by
  rw [exp_real, sum_mul_real _ _ _ (Real.exp_pos _).le, sum_mul_real _ _ _ (inv_pos.mpr hr).le]
  refine Finset.sum_congr rfl fun j _ => ?_
  rw [exp_real, mul_comm (_ : EReal) (v j), mul_assoc, mul_assoc, ← EReal.coe_mul, ← EReal.coe_mul]
  congr 2
  rw [← mul_assoc, ← Real.exp_add]
  congr 2
  ring

/-- One half's share of the sum of the exponentials, taken about another shift. -/
theorem half_sum {n : ℕ} (s : Fin n → ℝ) (a M : ℝ) :
    (∑ j, Ideal.exp ((s j : EReal) - (a : EReal))) * Ideal.exp ((a : EReal) - (M : EReal)) = ((∑ j, Real.exp (s j - M) : ℝ) : EReal) := by
  rw [exp_real, sum_mul_real _ _ _ (Real.exp_pos _).le, ← sum_real]
  refine Finset.sum_congr rfl fun j _ => ?_
  rw [exp_real, ← EReal.coe_mul, ← Real.exp_add]
  congr 2
  ring

/-- Two halves of a softmax, each taken about its own shift and merged, are the softmax of the whole, about any shift. -/
theorem merge_eq {n : ℕ} [NeZero n] (s₀ s₁ : Fin n → ℝ) (v₀ v₁ : Fin n → EReal) (a₀ a₁ M M' : ℝ) :
    Ideal.div ((∑ j, Ideal.exp ((s₀ j : EReal) - (a₀ : EReal)) * v₀ j) * Ideal.exp ((a₀ : EReal) - (M : EReal))
        + (∑ j, Ideal.exp ((s₁ j : EReal) - (a₁ : EReal)) * v₁ j) * Ideal.exp ((a₁ : EReal) - (M : EReal)))
      ((∑ j, Ideal.exp ((s₀ j : EReal) - (a₀ : EReal))) * Ideal.exp ((a₀ : EReal) - (M : EReal))
        + (∑ j, Ideal.exp ((s₁ j : EReal) - (a₁ : EReal))) * Ideal.exp ((a₁ : EReal) - (M : EReal)))
    = (∑ j, v₀ j * Ideal.div (Ideal.exp ((s₀ j : EReal) - (M' : EReal)))
          ((∑ i, Ideal.exp ((s₀ i : EReal) - (M' : EReal))) + ∑ i, Ideal.exp ((s₁ i : EReal) - (M' : EReal))))
      + ∑ j, v₁ j * Ideal.div (Ideal.exp ((s₁ j : EReal) - (M' : EReal)))
          ((∑ i, Ideal.exp ((s₀ i : EReal) - (M' : EReal))) + ∑ i, Ideal.exp ((s₁ i : EReal) - (M' : EReal))) := by
  have pos : ∀ x : ℝ, 0 < (∑ j, Real.exp (s₀ j - x)) + ∑ j, Real.exp (s₁ j - x) := fun x =>
    add_pos (Finset.sum_pos (fun _ _ => Real.exp_pos _) Finset.univ_nonempty) (Finset.sum_pos (fun _ _ => Real.exp_pos _) Finset.univ_nonempty)
  have shift : ∀ y : ℝ, Real.exp (y - M) * ((∑ j, Real.exp (s₀ j - M)) + ∑ j, Real.exp (s₁ j - M))⁻¹
      = Real.exp (y - M') * ((∑ j, Real.exp (s₀ j - M')) + ∑ j, Real.exp (s₁ j - M'))⁻¹ := fun y => by
    obtain ⟨k, hk, h⟩ : ∃ k : ℝ, k ≠ 0 ∧ ∀ z : ℝ, Real.exp (z - M) = Real.exp (z - M') * k :=
      ⟨Real.exp (M' - M), (Real.exp_pos _).ne', fun z => by rw [← Real.exp_add]; congr 1; ring⟩
    simp only [h, ← Finset.sum_mul, ← add_mul]
    rw [mul_inv, mul_mul_mul_comm, mul_inv_cancel₀ hk, mul_one]
  rw [half_sum, half_sum, ← EReal.coe_add, div_real _ _ (pos M),
    EReal.right_distrib_of_nonneg_of_ne_top (by exact_mod_cast (inv_pos.mpr (pos M)).le) (EReal.coe_ne_top _),
    half_eq _ _ _ _ _ (pos M), half_eq _ _ _ _ _ (pos M)]
  simp only [shift]
  simp only [exp_real, sum_real, ← EReal.coe_add]
  simp only [div_real _ _ (pos M'), ← EReal.coe_mul]

/-- A sum of products of real numbers, times a real number, is real. -/
theorem score_real {n : ℕ} (q k : Fin n → EReal) (c : EReal) (hq : ∀ d, ∃ r : ℝ, q d = r) (hk : ∀ d, ∃ r : ℝ, k d = r) (hc : ∃ r : ℝ, c = r) :
    ∃ r : ℝ, (∑ d, q d * k d) * c = r := by
  choose q' hq using hq
  choose k' hk using hk
  obtain ⟨c', rfl⟩ := hc
  refine ⟨(∑ d, q' d * k' d) * c', ?_⟩
  simp only [hq, hk, ← EReal.coe_mul, sum_real]

/-- The least binary32 value stands for `⊥`. -/
theorem negInf_eq : Ideal.ofBits .f32 0xFF800000#32 = ⊥ := by
  simp [Ideal.ofBits, Ideal.ieee]

end Decode
-- ==== Proof.Value.lean ====
/-
  The equation: the array that every device ends with is the reference's result.
-/
module

public import proofs.«01_k».proof.Proof.Payloads
public import proofs.«01_k».proof.Proof.Reads
public import proofs.«01_k».proof.Proof.Reference
public import proofs.«01_k».proof.Proof.Softmax

@[expose] public section

noncomputable section

namespace Decode

open Cert.KernelIdeal Cert.KernelIdeal.Gen
open Idealize.ShloMosaic Idealize.ShloMosaic.TcCoe Idealize.SL.Sem

variable (m : (ℓ : Loc nD τ sig) → Buf (Elt Ideal) ℓ)
variable (q : (⟨4, ![8, 8, 16, 128]⟩ : Shape).Idx → EReal) (k v : (⟨4, ![8, 2048, 16, 128]⟩ : Shape).Idx → EReal)

/-- The score of query `a` and key `j`, in batch `b` and head `n`. -/
def score (b a : Fin 8) (n : Fin 16) (j : Fin 2048) : EReal :=
  (∑ d : Fin 128, q (ix4 b a n d) * k (ix4 b j n d)) * scale

/-- Key `j` of the half `y`, among all the keys. -/
def key (y : Fin 2) (j : Fin 1024) : Fin 2048 := ⟨1024 * y.val + j.val, by have := y.isLt; have := j.isLt; omega⟩

/-- Every device's arguments are the queries and its half of the keys and of the values. -/
structure Inputs : Prop where
  q : ∀ c b a n d, m (locA0 c) (ix4 b a n d) = q (ix4 b a n d)
  k : ∀ c b j n d, m (locA1 c) (ix4 b j n d) = k (ix4 b (key ⟨sY c, sY_lt c⟩ j) n d)
  v : ∀ c b j n d, m (locA2 c) (ix4 b j n d) = v (ix4 b (key ⟨sY c, sY_lt c⟩ j) n d)

variable {m q k v}

/-- The scores that the device with the slot `(y, g)` computes; -/
theorem dev_score (H : Inputs m q k v) (y : Fin 2) (g h : Fin 4) (b a : Fin 8) (j : Fin 1024) :
    k0_pay5 (k0_pay3 (qHead m (dv y.val g.val) h)) (k0_pay4 (kHead m (dv y.val g.val) h)) (ix3 b a j)
      = score q k b a ⟨4 * g.val + h.val, by omega⟩ (key y j) := by
  have e : hn (dv y.val g.val) h = ⟨4 * g.val + h.val, by omega⟩ := Fin.ext (by show 4 * sG _ + h.val = _; rw [sG_dv])
  have ey : (⟨sY (dv y.val g.val), sY_lt _⟩ : Fin 2) = y := Fin.ext (sY_dv y g)
  rw [score_apply]
  simp only [qHead_apply, kHead_apply, H.q, H.k, e, ey]
  rfl
/-- the maxima; -/
theorem dev_max (H : Inputs m q k v) (y : Fin 2) (g h : Fin 4) (b a : Fin 8) :
    maxAll m h (ix6 y g 0 0 b a)
      = Finset.univ.fold max (Ideal.ofBits .f32 0xFF800000#32) fun j => score q k b a ⟨4 * g.val + h.val, by omega⟩ (key y j) := by
  rw [maxAll_apply, maxPay, pay9_apply, max_apply]
  simp only [dev_score H]
/-- the sums; -/
theorem dev_sum (H : Inputs m q k v) (y : Fin 2) (g h : Fin 4) (b a : Fin 8) :
    sumAll m h (ix6 y g 0 0 b a)
      = ∑ j, Ideal.exp (score q k b a ⟨4 * g.val + h.val, by omega⟩ (key y j) - maxAll m h (ix6 y g 0 0 b a)) := by
  rw [sumAll_apply, sumPay, sum_apply, maxAll_apply, maxPay, pay9_apply]
  simp only [exp_apply, dev_score H]
/-- the numerators. -/
theorem dev_num (H : Inputs m q k v) (y : Fin 2) (g h : Fin 4) (b a : Fin 8) (d : Fin 128) :
    numAll m h (ix6 y g 0 b a d)
      = ∑ j, Ideal.exp (score q k b a ⟨4 * g.val + h.val, by omega⟩ (key y j) - maxAll m h (ix6 y g 0 0 b a))
          * v (ix4 b (key y j) ⟨4 * g.val + h.val, by omega⟩ d) := by
  have e : hn (dv y.val g.val) h = ⟨4 * g.val + h.val, by omega⟩ := Fin.ext (by show 4 * sG _ + h.val = _; rw [sG_dv])
  have ey : (⟨sY (dv y.val g.val), sY_lt _⟩ : Fin 2) = y := Fin.ext (sY_dv y g)
  rw [numAll_apply, numPay, num_apply, maxAll_apply, maxPay, pay9_apply]
  simp only [exp_apply, dev_score H, vHead_apply, H.v, e, ey]

/-- The result of head `4 g + h` is the merge of its two halves. -/
theorem outPay_apply (g h : Fin 4) (b a : Fin 8) (d : Fin 128) :
    outPay m h g.val (ix4 b a 0 d) = k0_pay27 (maxAll m h) (sumAll m h) (numAll m h) (ix5 g 0 b a d) := by
  match g with
  | 0 => exact out0_apply _ _ _ _ _ _
  | 1 => exact out1_apply _ _ _ _
  | 2 => exact out2_apply _ _ _ _
  | 3 => exact out3_apply _ _ _ _

/-- With finite queries and keys, the array that every device ends with is the reference's result. -/
theorem outV_eq (H : Inputs m q k v) (hq : ∀ i, ∃ r : ℝ, q i = r) (hk : ∀ i, ∃ r : ℝ, k i = r) :
    outV m = Reference.result v (Reference.weights (Reference.scores q k)) := by
  funext i
  obtain ⟨b, a, n, d, rfl⟩ : ∃ (b a : Fin 8) (n : Fin 16) (d : Fin 128), i = ix4 b a n d := ⟨i 0, i 1, i 2, i 3, eq_ix4 i⟩
  obtain ⟨g, h, rfl⟩ : ∃ g h : Fin 4, n = ⟨4 * g.val + h.val, by omega⟩ :=
    ⟨⟨n.val / 4, by omega⟩, ⟨n.val % 4, by omega⟩, Fin.ext (by show n.val = 4 * (n.val / 4) + n.val % 4; omega)⟩
  have eg : (4 * g.val + h.val) / 4 = g.val := by omega
  have eh : hd (4 * g.val + h.val) = h := Fin.ext (by show (4 * g.val + h.val) % 4 = h.val; omega)
  rw [outV_apply, Reference.result_apply]
  simp only [eg, eh]
  rw [outPay_apply, merge_apply, dev_num H, dev_num H, dev_sum H, dev_sum H, dev_max H, dev_max H]
  simp only [Reference.weights_apply, Reference.scores_apply]
  generalize (⟨4 * g.val + h.val, by omega⟩ : Fin 16) = n
  have hs : ∀ j, ∃ r : ℝ, score q k b a n j = r := fun j => score_real _ _ _ (fun _ => hq _) (fun _ => hk _) ⟨_, rfl⟩
  choose s hs using hs
  have hs' : ∀ j, (∑ d : Fin 128, q (ix4 b a n d) * k (ix4 b j n d)) * scale = s j := hs
  simp only [hs, hs', negInf_eq]
  obtain ⟨a₀, h₀⟩ := fold_max_real fun j : Fin 1024 => s (key 0 j)
  obtain ⟨a₁, h₁⟩ := fold_max_real fun j : Fin 1024 => s (key 1 j)
  obtain ⟨M', h'⟩ := fold_max_real s
  rw [h₀, h₁, h', show max (a₀ : EReal) (a₁ : EReal) = ((max a₀ a₁ : ℝ) : EReal) from EReal.coe_strictMono.monotone.map_max.symm]
  refine (merge_eq (fun j => s (key 0 j)) (fun j => s (key 1 j)) (fun j => v (ix4 b (key 0 j) n d)) (fun j => v (ix4 b (key 1 j) n d)) a₀ a₁ _ M').trans ?_
  have e0 : ∀ j : Fin 1024, key 0 j = ⟨j.val, by omega⟩ := fun j => Fin.ext (by show 1024 * 0 + j.val = j.val; omega)
  have e1 : ∀ j : Fin 1024, key 1 j = ⟨1024 + j.val, by omega⟩ := fun j => rfl
  have split : ∀ f : Fin 2048 → EReal, ∑ j, f j = (∑ j, f (key 0 j)) + ∑ j, f (key 1 j) := fun f => by
    simp only [e0, e1]
    exact Fin.sum_univ_two_halves 1024 1024 rfl f
  rw [split, split]

end Decode
-- ==== Proof.Algebraic.lean ====
/-
  The value claim: the kernel over the extended reals, on eight devices, computes what the reference computes on one.
-/
module

public import proofs.«01_k».proof.Proof.Value
public import proofs.«01_k».proof.Proof.Launch
public import proofs.«01_k».proof.Defs
public import proofs.«01_k».proof.Proof.Gen.ReferenceIdeal.Run
public import proofs.«01_k».proof.Proof.Gen.Pre_finite_KernelIdeal

@[expose] public section

noncomputable section

namespace Decode

open Cert.KernelIdeal Cert.KernelIdeal.Gen
open Idealize.ShloMosaic Idealize.ShloMosaic.TcCoe Idealize.SL.Sem

/-- An extended real whose absolute value compares less than `⊤` is real. -/
theorem real_of_abs (x : Ideal .f32)
    (h : BitVec.ofBool (decide (FloatOps.absf (F := Ideal) (φ := .f32) x < Ideal.ofBits .f32 0x7F800000#32)) = 1#1) : ∃ r : ℝ, x = (r : EReal) := by
  have ht : Ideal.ofBits .f32 0x7F800000#32 = ⊤ := by simp [Ideal.ofBits, Ideal.ieee]
  have hx : (max (x : EReal) (-x : EReal)) < ⊤ := by
    rw [ht] at h
    by_contra hn
    rw [show decide (FloatOps.absf (F := Ideal) (φ := .f32) x < (⊤ : EReal)) = false from decide_eq_false hn] at h
    exact absurd h (by decide)
  have h1 : (x : EReal) ≠ ⊤ := ((le_max_left _ _).trans_lt hx).ne
  have h2 : (x : EReal) ≠ ⊥ := fun e => by
    have := (le_max_right _ _).trans_lt hx
    rw [e] at this
    exact absurd EReal.neg_bot this.ne
  exact ⟨EReal.toReal x, (EReal.coe_toReal h1 h2).symm⟩

/-- Under the precondition every query is real, -/
theorem query_real (m : (ℓ : Loc nD τ sig) → Buf (Elt Ideal) ℓ) (H : Cert.Pre_KernelIdeal_finite_KernelIdeal m) (c : Dev nD)
    (b a : Fin 8) (n : Fin 16) (d : Fin 128) : ∃ r : ℝ, (m (locA0 c) : S8x8x16x128.Idx → EReal) (ix4 b a n d) = (r : EReal) := by
  have h := congrFun (H c).1 (ix4 b a n d)
  pointwise [Cert.Pre_finite_KernelIdeal.fn] at h
  exact real_of_abs _ h
/-- and so is every key. -/
theorem key_real (m : (ℓ : Loc nD τ sig) → Buf (Elt Ideal) ℓ) (H : Cert.Pre_KernelIdeal_finite_KernelIdeal m) (c : Dev nD)
    (b : Fin 8) (j : Fin 1024) (n : Fin 16) (d : Fin 128) : ∃ r : ℝ, (m (locA1 c) : S8x1024x16x128.Idx → EReal) (ix4 b j n d) = (r : EReal) := by
  have h := congrFun (H c).2 (ix4 b j n d)
  pointwise [Cert.Pre_finite_KernelIdeal.fn] at h
  exact real_of_abs _ h

/-- The half of the keys that the mesh gives device `c` is the half `sY c`. -/
theorem block_apply (f : (⟨4, ![8, 2048, 16, 128]⟩ : Shape).Idx → EReal) (c : Dev nD) (b : Fin 8) (j : Fin 1024) (n : Fin 16) (d : Fin 128) :
    (Layout.blockN ⟨4, ![8, 1024, 16, 128]⟩ ⟨4, ![8, 2048, 16, 128]⟩ (Layout.meshBlock [2, 2, 2] ![[], [1], [], []] c) f : _ → EReal) (ix4 b j n d)
      = f (ix4 b (key ⟨sY c, sY_lt c⟩ j) n d) := by
  have e : Layout.meshLin [2, 2, 2] c.val [1] = sY c := by revert c; decide
  rw [Layout.blockN_apply]
  refine congrArg f (funext fun x => Fin.ext ?_)
  rw [Layout.TilesN.idx_val]
  match x with
  | 0 => show 0 * 8 + b.val = b.val; omega
  | 1 => show Layout.meshLin [2, 2, 2] c.val [1] * 1024 + j.val = 1024 * sY c + j.val; rw [e]; omega
  | 2 => show 0 * 16 + n.val = n.val; omega
  | 3 => show 0 * 128 + d.val = d.val; omega

/-- The scale that the kernel spells is named `1/√128`. -/
theorem preserves : Cert.preserves_Kernel_KernelIdeal :=
  IdealRules.named_const.statement Cert.KernelIdeal.κ "scale" .f32 0x3DB504F3#32 (((Real.sqrt 128)⁻¹ : ℝ) : EReal) rfl

/-- From memories holding the same arrays, with finite queries and keys, every device of the kernel ends with the reference's result. -/
theorem algebraic (hrun : ∀ (m : (ℓ : Loc nD τ sig) → Buf (Elt Ideal) ℓ) (ρ : Dev nD → PrngReg),
      θ_run defs (onTc (τ := τ) (main (F := Ideal))) (s₀ m ρ) (fun r => Ends m r.2 ∧ r.2.sem = fun _ => 0)) :
    Cert.algebraic_KernelIdeal_ReferenceIdeal_pre_finite_KernelIdeal := by
  intro m ρ m' ρ' hp hin
  have H : Inputs m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) :=
    ⟨fun c b a n d => congrFun (hin c).1 (ix4 b a n d),
      fun c b j n d => (congrFun (hin c).2.1 (ix4 b j n d)).trans (block_apply _ c b j n d),
      fun c b j n d => (congrFun (hin c).2.2 (ix4 b j n d)).trans (block_apply _ c b j n d)⟩
  have hq : ∀ i, ∃ r : ℝ, (m' (((0 : Dev Cert.ReferenceIdeal.nD).tc : Thread Cert.ReferenceIdeal.nD Cert.ReferenceIdeal.τ).loc Cert.ReferenceIdeal.main_arg0) : (⟨4, ![8, 8, 16, 128]⟩ : Shape).Idx → EReal) i = (r : EReal) := fun i => by
    obtain ⟨b, a, n, d, rfl⟩ : ∃ (b a : Fin 8) (n : Fin 16) (d : Fin 128), i = ix4 b a n d := ⟨i 0, i 1, i 2, i 3, eq_ix4 i⟩
    obtain ⟨r, hr⟩ := query_real m hp 0 b a n d
    exact ⟨r, (H.q 0 b a n d).symm.trans hr⟩
  have hk : ∀ i, ∃ r : ℝ, (m' (((0 : Dev Cert.ReferenceIdeal.nD).tc : Thread Cert.ReferenceIdeal.nD Cert.ReferenceIdeal.τ).loc Cert.ReferenceIdeal.main_arg1) : (⟨4, ![8, 2048, 16, 128]⟩ : Shape).Idx → EReal) i = (r : EReal) := fun i => by
    obtain ⟨b, j, n, d, rfl⟩ : ∃ (b : Fin 8) (j : Fin 2048) (n : Fin 16) (d : Fin 128), i = ix4 b j n d := ⟨i 0, i 1, i 2, i 3, eq_ix4 i⟩
    obtain ⟨y, j, rfl⟩ : ∃ (y : Fin 2) (j' : Fin 1024), j = key y j' :=
      ⟨⟨j.val / 1024, by omega⟩, ⟨j.val % 1024, by omega⟩, Fin.ext (by show j.val = 1024 * (j.val / 1024) + j.val % 1024; omega)⟩
    obtain ⟨r, hr⟩ := key_real m hp (dv y.val 0) b j n d
    have ey : (⟨sY (dv y.val 0), sY_lt _⟩ : Fin 2) = y := Fin.ext (sY_dv y 0)
    have e := H.k (dv y.val 0) b j n d
    rw [ey] at e
    exact ⟨r, e.symm.trans hr⟩
  refine ⟨outV m, (θ_run Cert.KernelIdeal.defs _ _).mono (fun r h c => h.1 c) (hrun m ρ),
    (θ_run Cert.ReferenceIdeal.defs _ _).mono (fun r h => ⟨(h 0).1.trans ?_, (h 0).2⟩) (Cert.ReferenceIdeal.Value.run (F := Ideal) m' ρ')⟩
  exact (outV_eq H hq hk).symm

end Decode
-- ==== Proof.lean ====
/-
  The claims, assembled from the modules of this directory.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Decode.frame_kernel, Decode.frame_ideal, fun m ρ _ => Decode.frame_ideal m ρ trivial,
  Decode.frame_reference, fun m ρ _ => Decode.frame_reference m ρ trivial, Decode.preserves,
  Decode.algebraic fun m ρ => Decode.run_main m ρ⟩

end Cert.Proof

end
